-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_inputs [hPre_finite_inputs : Cert.Pre_finite_inputs.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_inputs [hPre_finite_inputs : Cert.Pre_finite_inputs.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_inputs [hKernel2Ideal : Cert.Kernel2Ideal.Facts] [hPre_finite_inputs : Cert.Pre_finite_inputs.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_inputs m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_inputs [hReference2Ideal : Cert.Reference2Ideal.Facts] [hPre_finite_inputs : Cert.Pre_finite_inputs.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_inputs m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v28)) (v2 : (c : Dev Cert.KernelIdeal.nD) → Buf (Elt Ideal) ((c.tc : Thread Cert.KernelIdeal.nD Cert.KernelIdeal.τ).loc Cert.KernelIdeal.main_v30)) (v3 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_v30) = v2 c
          ∧ r.2.mem ((c.tc : Thread Cert.KernelIdeal.nD Cert.KernelIdeal.τ).loc Cert.KernelIdeal.main_v23) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_v189) = v1 c
          ∧ r.2.mem ((c.tc : Thread Cert.ReferenceIdeal.nD Cert.ReferenceIdeal.τ).loc Cert.ReferenceIdeal.main_v188) = v2 c
          ∧ r.2.mem ((c.tc : Thread Cert.ReferenceIdeal.nD Cert.ReferenceIdeal.τ).loc Cert.ReferenceIdeal.main_v187) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite_inputs [hKernel2Ideal : Cert.Kernel2Ideal.Facts] [hReference2Ideal : Cert.Reference2Ideal.Facts] [hPre_finite_inputs : Cert.Pre_finite_inputs.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_inputs m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v13_0)) (v1 : (c : Dev Cert.Kernel2Ideal.nD) → Buf (Elt Ideal) ((c.tc : Thread Cert.Kernel2Ideal.nD Cert.Kernel2Ideal.τ).loc Cert.Kernel2Ideal.main_v13_1)) (v2 : (c : Dev Cert.Kernel2Ideal.nD) → Buf (Elt Ideal) ((c.tc : Thread Cert.Kernel2Ideal.nD Cert.Kernel2Ideal.τ).loc Cert.Kernel2Ideal.main_v13_2)) (v3 : (c : Dev Cert.Kernel2Ideal.nD) → Buf (Elt Ideal) ((c.tc : Thread Cert.Kernel2Ideal.nD Cert.Kernel2Ideal.τ).loc Cert.Kernel2Ideal.main_v13_3)) (v4 : (c : Dev Cert.Kernel2Ideal.nD) → Buf (Elt Ideal) ((c.tc : Thread Cert.Kernel2Ideal.nD Cert.Kernel2Ideal.τ).loc Cert.Kernel2Ideal.main_v13_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13_0) = v0 c
          ∧ r.2.mem ((c.tc : Thread Cert.Kernel2Ideal.nD Cert.Kernel2Ideal.τ).loc Cert.Kernel2Ideal.main_v13_1) = v1 c
          ∧ r.2.mem ((c.tc : Thread Cert.Kernel2Ideal.nD Cert.Kernel2Ideal.τ).loc Cert.Kernel2Ideal.main_v13_2) = v2 c
          ∧ r.2.mem ((c.tc : Thread Cert.Kernel2Ideal.nD Cert.Kernel2Ideal.τ).loc Cert.Kernel2Ideal.main_v13_3) = v3 c
          ∧ r.2.mem ((c.tc : Thread Cert.Kernel2Ideal.nD Cert.Kernel2Ideal.τ).loc Cert.Kernel2Ideal.main_v13_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_v40) = v1 c
          ∧ r.2.mem ((c.tc : Thread Cert.Reference2Ideal.nD Cert.Reference2Ideal.τ).loc Cert.Reference2Ideal.main_v58) = v2 c
          ∧ r.2.mem ((c.tc : Thread Cert.Reference2Ideal.nD Cert.Reference2Ideal.τ).loc Cert.Reference2Ideal.main_v59) = v3 c
          ∧ r.2.mem ((c.tc : Thread Cert.Reference2Ideal.nD Cert.Reference2Ideal.τ).loc Cert.Reference2Ideal.main_v60) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v13)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_v23) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite_inputs : Cert.Pre_finite_inputs.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite_inputs (hKernel2Ideal := hKernel2Ideal) (hPre_finite_inputs := hPre_finite_inputs)
    ∧ quiescent_Reference2Ideal (hReference2Ideal := hReference2Ideal)
    ∧ quiescent_Reference2Ideal_pre_finite_inputs (hReference2Ideal := hReference2Ideal) (hPre_finite_inputs := hPre_finite_inputs)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite_inputs (hKernel2Ideal := hKernel2Ideal) (hReference2Ideal := hReference2Ideal) (hPre_finite_inputs := hPre_finite_inputs)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Pre_finite_inputs.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bitsLt_bf16_f32 : FTy.bits .bf16 < FTy.bits .f32
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v15 : IVec S_ 1) (main_v16 : FVec F S4096x1024 .f32) (main_cst_4 : FVec F S_ .f32) : IVec S_ 1 :=
  let main_v17 : FVec F S4096x1024 .f32 := broadcastInDim S4096x1024 ![] bcast_S_S4096x1024 main_cst_4
  let main_v18 : IVec S4096x1024 1 := cmpf .olt main_v16 main_v17
  let main_c_5 : IVec S_ 1 := constantI S_ 1 1#1
  let main_v19 : IVec S_ 1 := (fun x v => Host.reduce IntOp.andi x v reducesTo_S4096x1024_S_d0_1 h_S_) main_v18 main_c_5
  let main_v20 : IVec S_ 1 := andi main_v15 main_v19
  main_v20

def fn {F : FTy → Type} [FloatOps F] (main_arg0 : FVec F S4096x1024 .f32) (main_arg1 : FVec F S1x1024 .f32) (main_arg2 : FVec F S1024x5632 .bf16) (main_arg3 : FVec F S2816x1024 .bf16) (main_arg4 : FVec F S4096x1024 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1024x5632 .f32 := (extf .f32 · bitsLt_bf16_f32) main_arg2
  let main_v5 : FVec F S1024x5632 .f32 := Host.absf main_v4
  let main_cst_0 : FVec F S_ .f32 := constant S_ .f32 0x7F800000#32
  let main_v6 : FVec F S1024x5632 .f32 := broadcastInDim S1024x5632 ![] bcast_S_S1024x5632 main_cst_0
  let main_v7 : IVec S1024x5632 1 := cmpf .olt main_v5 main_v6
  let main_c_1 : IVec S_ 1 := constantI S_ 1 1#1
  let main_v8 : IVec S_ 1 := (fun x v => Host.reduce IntOp.andi x v reducesTo_S1024x5632_S_d0_1 h_S_) main_v7 main_c_1
  let main_v9 : IVec S_ 1 := andi main_v3 main_v8
  let main_v10 : FVec F S2816x1024 .f32 := (extf .f32 · bitsLt_bf16_f32) main_arg3
  let main_v11 : FVec F S2816x1024 .f32 := Host.absf main_v10
  let main_cst_2 : FVec F S_ .f32 := constant S_ .f32 0x7F800000#32
  let main_v12 : FVec F S2816x1024 .f32 := broadcastInDim S2816x1024 ![] bcast_S_S2816x1024 main_cst_2
  let main_v13 : IVec S2816x1024 1 := cmpf .olt main_v11 main_v12
  let main_c_3 : IVec S_ 1 := constantI S_ 1 1#1
  let main_v14 : IVec S_ 1 := (fun x v => Host.reduce IntOp.andi x v reducesTo_S2816x1024_S_d0_1 h_S_) main_v13 main_c_3
  let main_v15 : IVec S_ 1 := andi main_v9 main_v14
  let main_v16 : FVec F S4096x1024 .f32 := Host.absf main_arg4
  let main_cst_4 : FVec F S_ .f32 := constant S_ .f32 0x7F800000#32
  fn_part1 (F := F) main_v15 main_v16 main_cst_4
-- ==== Kernel.lean ====
abbrev S4096x512 : Shape := ⟨2, ![4096, 512]⟩
abbrev S4096x128 : Shape := ⟨2, ![4096, 128]⟩
abbrev S1x8 : Shape := ⟨2, ![1, 8]⟩
abbrev S2x512x1 : Shape := ⟨3, ![2, 512, 1]⟩
abbrev S4096x8x64 : Shape := ⟨3, ![4096, 8, 64]⟩
abbrev S8x4096x64 : Shape := ⟨3, ![8, 4096, 64]⟩
abbrev S2x4x4096x64 : Shape := ⟨4, ![2, 4, 4096, 64]⟩
abbrev S4096x2x64 : Shape := ⟨3, ![4096, 2, 64]⟩
abbrev S2x4096x64 : Shape := ⟨3, ![2, 4096, 64]⟩
abbrev S8 : Shape := ⟨1, ![8]⟩
abbrev S8x128 : Shape := ⟨2, ![8, 128]⟩
abbrev S1024 : Shape := ⟨1, ![1024]⟩
abbrev S1x4x128x64 : Shape := ⟨4, ![1, 4, 128, 64]⟩
abbrev S1x128x64 : Shape := ⟨3, ![1, 128, 64]⟩
abbrev S1x512x1 : Shape := ⟨3, ![1, 512, 1]⟩
abbrev S4x128x64 : Shape := ⟨3, ![4, 128, 64]⟩
abbrev S512x64 : Shape := ⟨2, ![512, 64]⟩
abbrev S512x1 : Shape := ⟨2, ![512, 1]⟩
abbrev S128x64 : Shape := ⟨2, ![128, 64]⟩
abbrev S256x64 : Shape := ⟨2, ![256, 64]⟩
abbrev S512x256 : Shape := ⟨2, ![512, 256]⟩
abbrev S512 : Shape := ⟨1, ![512]⟩
abbrev S2x3968x64 : Shape := ⟨3, ![2, 3968, 64]⟩
abbrev S_ : Shape := ⟨0, ![]⟩

abbrev nBuf : Space → Nat
  | .hbm => 47
  | .vmem => 28
  | .smem => 0
  | _ => 0

abbrev bufTy : (tb : Table) → Fin (tcTables nBuf tb) → BufTy
  | .hbm, ⟨0, _⟩ => ⟨S4096x512, .f32⟩
  | .hbm, ⟨1, _⟩ => ⟨S4096x128, .f32⟩
  | .hbm, ⟨2, _⟩ => ⟨S4096x128, .f32⟩
  | .hbm, ⟨3, _⟩ => ⟨S1x8, .f32⟩
  | .hbm, ⟨4, _⟩ => ⟨S4096x512, .f32⟩
  | .hbm, ⟨5, _⟩ => ⟨S2x512x1, .f32⟩
  | .hbm, ⟨6, _⟩ => ⟨S4096x8x64, .f32⟩
  | .hbm, ⟨7, _⟩ => ⟨S8x4096x64, .f32⟩
  | .hbm, ⟨8, _⟩ => ⟨S2x4x4096x64, .f32⟩
  | .hbm, ⟨9, _⟩ => ⟨S4096x2x64, .f32⟩
  | .hbm, ⟨10, _⟩ => ⟨S2x4096x64, .f32⟩
  | .hbm, ⟨11, _⟩ => ⟨S4096x2x64, .f32⟩
  | .hbm, ⟨12, _⟩ => ⟨S2x4096x64, .f32⟩
  | .hbm, ⟨13, _⟩ => ⟨S8, .f32⟩
  | .hbm, ⟨14, _⟩ => ⟨S8x128, .f32⟩
  | .hbm, ⟨15, _⟩ => ⟨S1024, .f32⟩
  | .hbm, ⟨16, _⟩ => ⟨S2x512x1, .f32⟩
  | .hbm, ⟨17, _⟩ => ⟨S4096x8x64, .f32⟩
  | .hbm, ⟨18, _⟩ => ⟨S8x4096x64, .f32⟩
  | .hbm, ⟨19, _⟩ => ⟨S2x4x4096x64, .f32⟩
  | .hbm, ⟨20, _⟩ => ⟨S2x4x4096x64, .f32⟩
  | .hbm, ⟨21, _⟩ => ⟨S2x4096x64, .f32⟩
  | .hbm, ⟨22, _⟩ => ⟨S2x4096x64, .f32⟩
  | .hbm, ⟨23, _⟩ => ⟨S2x4096x64, .f32⟩
  | .hbm, ⟨24, _⟩ => ⟨S2x4096x64, .f32⟩
  | .hbm, ⟨25, _⟩ => ⟨S2x512x1, .f32⟩
  | .hbm, ⟨26, _⟩ => ⟨S2x3968x64, .f32⟩
  | .hbm, ⟨27, _⟩ => ⟨S_, .i32⟩
  | .hbm, ⟨28, _⟩ => ⟨S_, .f32⟩
  | .hbm, ⟨29, _⟩ => ⟨S2x4096x64, .f32⟩
  | .hbm, ⟨30, _⟩ => ⟨S2x4096x64, .f32⟩
  | .hbm, ⟨31, _⟩ => ⟨S2x3968x64, .f32⟩
  | .hbm, ⟨32, _⟩ => ⟨S_, .i32⟩
  | .hbm, ⟨33, _⟩ => ⟨S_, .f32⟩
  | .hbm, ⟨34, _⟩ => ⟨S2x4096x64, .f32⟩
  | .hbm, ⟨35, _⟩ => ⟨S2x4096x64, .f32⟩
  | .hbm, ⟨36, _⟩ => ⟨S8x128, .f32⟩
  | .hbm, ⟨37, _⟩ => ⟨S_, .f32⟩
  | .hbm, ⟨38, _⟩ => ⟨S8, .f32⟩
  | .hbm, ⟨39, _⟩ => ⟨S1x8, .f32⟩
  | .hbm, ⟨40, _⟩ => ⟨S8x4096x64, .f32⟩
  | .hbm, ⟨41, _⟩ => ⟨S4096x8x64, .f32⟩
  | .hbm, ⟨42, _⟩ => ⟨S4096x512, .f32⟩
  | .hbm, ⟨43, _⟩ => ⟨S4096x2x64, .f32⟩
  | .hbm, ⟨44, _⟩ => ⟨S4096x128, .f32⟩
  | .hbm, ⟨45, _⟩ => ⟨S4096x2x64, .f32⟩
  | .hbm, ⟨46, _⟩ => ⟨S4096x128, .f32⟩
  | .local _ .vmem, ⟨0, _⟩ => ⟨S1x4x128x64, .f32⟩
  | .local _ .vmem, ⟨1, _⟩ => ⟨S1x4x128x64, .f32⟩
  | .local _ .vmem, ⟨2, _⟩ => ⟨S1x128x64, .f32⟩
  | .local _ .vmem, ⟨3, _⟩ => ⟨S1x128x64, .f32⟩
  | .local _ .vmem, ⟨4, _⟩ => ⟨S1x128x64, .f32⟩
  | .local _ .vmem, ⟨5, _⟩ => ⟨S1x128x64, .f32⟩
  | .local _ .vmem, ⟨6, _⟩ => ⟨S1x128x64, .f32⟩
  | .local _ .vmem, ⟨7, _⟩ => ⟨S1x128x64, .f32⟩
  | .local _ .vmem, ⟨8, _⟩ => ⟨S1x128x64, .f32⟩
  | .local _ .vmem, ⟨9, _⟩ => ⟨S1x128x64, .f32⟩
  | .local _ .vmem, ⟨10, _⟩ => ⟨S1x512x1, .f32⟩
  | .local _ .vmem, ⟨11, _⟩ => ⟨S1x512x1, .f32⟩
  | .local _ .vmem, ⟨12, _⟩ => ⟨S1x512x1, .f32⟩
  | .local _ .vmem, ⟨13, _⟩ => ⟨S1x512x1, .f32⟩
  | .local _ .vmem, ⟨14, _⟩ => ⟨S1x4x128x64, .f32⟩
  | .local _ .vmem, ⟨15, _⟩ => ⟨S1x4x128x64, .f32⟩
  | .local _ .vmem, ⟨16, _⟩ => ⟨S1x4x128x64, .f32⟩
  | .local _ .vmem, ⟨17, _⟩ => ⟨S1x4x128x64, .f32⟩
  | .local _ .vmem, ⟨18, _⟩ => ⟨S1x128x64, .f32⟩
  | .local _ .vmem, ⟨19, _⟩ => ⟨S1x128x64, .f32⟩
  | .local _ .vmem, ⟨20, _⟩ => ⟨S1x128x64, .f32⟩
  | .local _ .vmem, ⟨21, _⟩ => ⟨S1x128x64, .f32⟩
  | .local _ .vmem, ⟨22, _⟩ => ⟨S1x128x64, .f32⟩
  | .local _ .vmem, ⟨23, _⟩ => ⟨S1x128x64, .f32⟩
  | .local _ .vmem, ⟨24, _⟩ => ⟨S1x128x64, .f32⟩
  | .local _ .vmem, ⟨25, _⟩ => ⟨S1x128x64, .f32⟩
  | .local _ .vmem, ⟨26, _⟩ => ⟨S1x512x1, .f32⟩
  | .local _ .vmem, ⟨27, _⟩ => ⟨S1x512x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev main_v14_3 : Ref sig .tc := ⟨.hbm, 23, rfl⟩
abbrev main_v14_4 : Ref sig .tc := ⟨.hbm, 24, rfl⟩
abbrev main_v14_5 : Ref sig .tc := ⟨.hbm, 25, rfl⟩
abbrev main_v15 : Ref sig .tc := ⟨.hbm, 26, rfl⟩
abbrev main_c : Ref sig .tc := ⟨.hbm, 27, rfl⟩
abbrev main_call0_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_0 : Ref sig .tc := ⟨.hbm, 32, rfl⟩
abbrev main_call1_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![2, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x4x128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x128x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceIdeal.lean ====
abbrev S4096x512 : Shape := ⟨2, ![4096, 512]⟩
abbrev S4096x128 : Shape := ⟨2, ![4096, 128]⟩
abbrev S1x8 : Shape := ⟨2, ![1, 8]⟩
abbrev S4096x8x64 : Shape := ⟨3, ![4096, 8, 64]⟩
abbrev S4096x2x64 : Shape := ⟨3, ![4096, 2, 64]⟩
abbrev S8 : Shape := ⟨1, ![8]⟩
abbrev S32x128x2x4x64 : Shape := ⟨5, ![32, 128, 2, 4, 64]⟩
abbrev S_ : Shape := ⟨0, ![]⟩
abbrev S128x2x64 : Shape := ⟨3, ![128, 2, 64]⟩
abbrev S4224x2x64 : Shape := ⟨3, ![4224, 2, 64]⟩
abbrev S33x128x2x64 : Shape := ⟨4, ![33, 128, 2, 64]⟩
abbrev S32x128x2x64 : Shape := ⟨4, ![32, 128, 2, 64]⟩
abbrev S32x256x2x64 : Shape := ⟨4, ![32, 256, 2, 64]⟩
abbrev S32x2x256x128x4 : Shape := ⟨5, ![32, 2, 256, 128, 4]⟩
abbrev S32x2x4x128x256 : Shape := ⟨5, ![32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S2x4 : Shape := ⟨2, ![2, 4]⟩
abbrev S2x4x1x1 : Shape := ⟨4, ![2, 4, 1, 1]⟩
abbrev S1x1x128x256 : Shape := ⟨4, ![1, 1, 128, 256]⟩
abbrev S2x4x128x256 : Shape := ⟨4, ![2, 4, 128, 256]⟩
abbrev S1x2x4x128x256 : Shape := ⟨5, ![1, 2, 4, 128, 256]⟩
abbrev S32x1x1x128x256 : Shape := ⟨5, ![32, 1, 1, 128, 256]⟩
abbrev S2x4x1 : Shape := ⟨3, ![2, 4, 1]⟩
abbrev S32x2x4x128 : Shape := ⟨4, ![32, 2, 4, 128]⟩
abbrev S32x2x4x128x1 : Shape := ⟨5, ![32, 2, 4, 128, 1]⟩
abbrev S1x2x4x1 : Shape := ⟨4, ![1, 2, 4, 1]⟩
abbrev S32x2x64x4x128 : Shape := ⟨5, ![32, 2, 64, 4, 128]⟩
abbrev S32x2x64x256 : Shape := ⟨4, ![32, 2, 64, 256]⟩
abbrev S32x2x128x4x64 : Shape := ⟨5, ![32, 2, 128, 4, 64]⟩
abbrev S32x2x256x64 : Shape := ⟨4, ![32, 2, 256, 64]⟩

abbrev nBuf : Space → Nat
  | .hbm => 242
  | .vmem => 0
  | .smem => 0
  | _ => 0

abbrev hbmTy0_0 (i : Nat) : BufTy := match i % 128 with
  | 0 => ⟨S4096x512, .f32⟩
  | 1 => ⟨S4096x128, .f32⟩
  | 2 => ⟨S4096x128, .f32⟩
  | 3 => ⟨S1x8, .f32⟩
  | 4 => ⟨S4096x512, .f32⟩
  | 5 => ⟨S4096x8x64, .f32⟩
  | 6 => ⟨S4096x2x64, .f32⟩
  | 7 => ⟨S4096x2x64, .f32⟩
  | 8 => ⟨S8, .f32⟩
  | 9 => ⟨S32x128x2x4x64, .f32⟩
  | 10 => ⟨S_, .f32⟩
  | 11 => ⟨S128x2x64, .f32⟩
  | 12 => ⟨S4224x2x64, .f32⟩
  | 13 => ⟨S_, .f32⟩
  | 14 => ⟨S128x2x64, .f32⟩
  | 15 => ⟨S33x128x2x64, .f32⟩
  | 16 => ⟨S4224x2x64, .f32⟩
  | 17 => ⟨S_, .f32⟩
  | 18 => ⟨S128x2x64, .f32⟩
  | 19 => ⟨S33x128x2x64, .f32⟩
  | 20 => ⟨S32x128x2x64, .f32⟩
  | 21 => ⟨S32x128x2x64, .f32⟩
  | 22 => ⟨S32x256x2x64, .f32⟩
  | 23 => ⟨S32x128x2x64, .f32⟩
  | 24 => ⟨S32x128x2x64, .f32⟩
  | 25 => ⟨S32x256x2x64, .f32⟩
  | 26 => ⟨S32x2x256x128x4, .f32⟩
  | 27 => ⟨S32x2x4x128x256, .f32⟩
  | 28 => ⟨S_, .f32⟩
  | 29 => ⟨S32x2x4x128x256, .f32⟩
  | 30 => ⟨S32x2x4x128x256, .f32⟩
  | 31 => ⟨S128, .i32⟩
  | 32 => ⟨S128x1, .i32⟩
  | 33 => ⟨S256, .i32⟩
  | 34 => ⟨S1x256, .i32⟩
  | 35 => ⟨S_, .i32⟩
  | 36 => ⟨S128x1, .i32⟩
  | 37 => ⟨S128x1, .i32⟩
  | 38 => ⟨S128x256, .i32⟩
  | 39 => ⟨S128x256, .i32⟩
  | 40 => ⟨S128x256, .i32⟩
  | 41 => ⟨S32, .i32⟩
  | 42 => ⟨S32x1x1, .i32⟩
  | 43 => ⟨S_, .i32⟩
  | 44 => ⟨S128x256, .i32⟩
  | 45 => ⟨S128x256, .i1⟩
  | 46 => ⟨S_, .i32⟩
  | 47 => ⟨S128x256, .i32⟩
  | 48 => ⟨S128x256, .i1⟩
  | 49 => ⟨S128x256, .i1⟩
  | 50 => ⟨S_, .i32⟩
  | 51 => ⟨S32x1x1, .i32⟩
  | 52 => ⟨S32x1x1, .i32⟩
  | 53 => ⟨S_, .i32⟩
  | 54 => ⟨S32x1x1, .i32⟩
  | 55 => ⟨S32x1x1, .i32⟩
  | 56 => ⟨S1x1x256, .i32⟩
  | 57 => ⟨S32x1x256, .i32⟩
  | 58 => ⟨S32x1x256, .i32⟩
  | 59 => ⟨S32x1x256, .i32⟩
  | 60 => ⟨S_, .i32⟩
  | 61 => ⟨S32x1x256, .i32⟩
  | 62 => ⟨S32x1x256, .i1⟩
  | 63 => ⟨S1x128x256, .i1⟩
  | 64 => ⟨S32x128x256, .i1⟩
  | 65 => ⟨S32x128x256, .i1⟩
  | 66 => ⟨S32x128x256, .i1⟩
  | 67 => ⟨S8, .f32⟩
  | 68 => ⟨S_, .f32⟩
  | 69 => ⟨S8, .f32⟩
  | 70 => ⟨S8, .f32⟩
  | 71 => ⟨S_, .f32⟩
  | 72 => ⟨S8, .f32⟩
  | 73 => ⟨S8, .f32⟩
  | 74 => ⟨S_, .f32⟩
  | 75 => ⟨S8, .f32⟩
  | 76 => ⟨S8, .f32⟩
  | 77 => ⟨S_, .f32⟩
  | 78 => ⟨S8, .f32⟩
  | 79 => ⟨S8, .f32⟩
  | 80 => ⟨S2x4, .f32⟩
  | 81 => ⟨S2x4x1x1, .f32⟩
  | 82 => ⟨S128x256, .f32⟩
  | 83 => ⟨S1x1x128x256, .f32⟩
  | 84 => ⟨S2x4x128x256, .f32⟩
  | 85 => ⟨S2x4x128x256, .f32⟩
  | 86 => ⟨S2x4x128x256, .f32⟩
  | 87 => ⟨S1x2x4x128x256, .f32⟩
  | 88 => ⟨S32x2x4x128x256, .f32⟩
  | 89 => ⟨S32x2x4x128x256, .f32⟩
  | 90 => ⟨S32x1x1x128x256, .i1⟩
  | 91 => ⟨S_, .f32⟩
  | 92 => ⟨S_, .f32⟩
  | 93 => ⟨S32x2x4x128x256, .i1⟩
  | 94 => ⟨S32x2x4x128x256, .f32⟩
  | 95 => ⟨S32x2x4x128x256, .f32⟩
  | 96 => ⟨S_, .f32⟩
  | 97 => ⟨S32x2x4x128x256, .f32⟩
  | 98 => ⟨S2x4, .f32⟩
  | 99 => ⟨S2x4x1, .f32⟩
  | 100 => ⟨S_, .f32⟩
  | 101 => ⟨S32x2x4x128, .f32⟩
  | 102 => ⟨S32x2x4x128x1, .f32⟩
  | 103 => ⟨S32x2x4x128x256, .f32⟩
  | 104 => ⟨S32x2x4x128x256, .i1⟩
  | 105 => ⟨S32x2x4x128x256, .f32⟩
  | 106 => ⟨S_, .f32⟩
  | 107 => ⟨S32x2x4x128, .f32⟩
  | 108 => ⟨S1x2x4x1, .f32⟩
  | 109 => ⟨S32x2x4x128, .f32⟩
  | 110 => ⟨S32x2x4x128, .f32⟩
  | 111 => ⟨S32x2x4x128, .f32⟩
  | 112 => ⟨S32x2x4x128, .i1⟩
  | 113 => ⟨S32x2x4x128, .f32⟩
  | 114 => ⟨S32x2x4x128, .i1⟩
  | 115 => ⟨S_, .f32⟩
  | 116 => ⟨S32x2x4x128, .f32⟩
  | 117 => ⟨S_, .f32⟩
  | 118 => ⟨S32x2x4x128, .f32⟩
  | 119 => ⟨S_, .f32⟩
  | 120 => ⟨S32x2x4x128, .f32⟩
  | 121 => ⟨S32x2x4x128, .f32⟩
  | 122 => ⟨S32x2x4x128, .f32⟩
  | 123 => ⟨S32x2x4x128, .f32⟩
  | 124 => ⟨S32x2x4x128, .i1⟩
  | 125 => ⟨S32x2x4x128, .f32⟩
  | 126 => ⟨S32x2x4x128, .i1⟩
  | 127 => ⟨S_, .f32⟩
  | _ => ⟨S4096x512, .f32⟩

abbrev hbmTy0_1 (i : Nat) : BufTy := match i % 128 with
  | 0 => ⟨S32x2x4x128, .f32⟩
  | 1 => ⟨S_, .f32⟩
  | 2 => ⟨S32x2x4x128, .f32⟩
  | 3 => ⟨S_, .f32⟩
  | 4 => ⟨S32x2x4x128, .f32⟩
  | 5 => ⟨S32x2x4x128, .f32⟩
  | 6 => ⟨S32x2x4x128, .f32⟩
  | 7 => ⟨S32x2x4x128x1, .f32⟩
  | 8 => ⟨S32x2x4x128x256, .f32⟩
  | 9 => ⟨S32x2x4x128x256, .f32⟩
  | 10 => ⟨S32x2x4x128x256, .f32⟩
  | 11 => ⟨S_, .f32⟩
  | 12 => ⟨S32x2x4x128, .f32⟩
  | 13 => ⟨S1x2x4x1, .f32⟩
  | 14 => ⟨S32x2x4x128, .f32⟩
  | 15 => ⟨S32x2x4x128, .f32⟩
  | 16 => ⟨S32x2x4x128, .f32⟩
  | 17 => ⟨S32x2x4x128, .f32⟩
  | 18 => ⟨S32x2x4x128x1, .f32⟩
  | 19 => ⟨S32x2x4x128x256, .f32⟩
  | 20 => ⟨S32x2x4x128x256, .f32⟩
  | 21 => ⟨S32x2x4x128x1, .f32⟩
  | 22 => ⟨S_, .f32⟩
  | 23 => ⟨S32x2x4x128x1, .f32⟩
  | 24 => ⟨S32x2x4x128x1, .f32⟩
  | 25 => ⟨S32x2x64x4x128, .f32⟩
  | 26 => ⟨S32x128x2x4x64, .f32⟩
  | 27 => ⟨S4096x512, .f32⟩
  | 28 => ⟨S32x128x2x4x64, .f32⟩
  | 29 => ⟨S32x2x64x4x128, .f32⟩
  | 30 => ⟨S32x2x4x128x256, .f32⟩
  | 31 => ⟨S32x2x64x256, .f32⟩
  | 32 => ⟨S32x256x2x64, .f32⟩
  | 33 => ⟨S32x2x4x128x256, .f32⟩
  | 34 => ⟨S32x2x4x128x256, .f32⟩
  | 35 => ⟨S32x2x4x128x256, .f32⟩
  | 36 => ⟨S_, .f32⟩
  | 37 => ⟨S32x2x4x128, .f32⟩
  | 38 => ⟨S32x2x4x128x1, .f32⟩
  | 39 => ⟨S32x2x4x128x1, .f32⟩
  | 40 => ⟨S32x2x4x128x256, .f32⟩
  | 41 => ⟨S32x2x4x128x256, .f32⟩
  | 42 => ⟨S_, .f32⟩
  | 43 => ⟨S32x2x4x128, .f32⟩
  | 44 => ⟨S32x2x4x128, .f32⟩
  | 45 => ⟨S_, .f32⟩
  | 46 => ⟨S2x4, .f32⟩
  | 47 => ⟨S1x2x4x1, .f32⟩
  | 48 => ⟨S32x2x4x128, .f32⟩
  | 49 => ⟨S_, .f32⟩
  | 50 => ⟨S2x4, .f32⟩
  | 51 => ⟨S2x4x1, .f32⟩
  | 52 => ⟨S32x2x4x128x256, .f32⟩
  | 53 => ⟨S32x2x4x128x256, .f32⟩
  | 54 => ⟨S32x2x4x128x256, .f32⟩
  | 55 => ⟨S32x2x4x128x256, .f32⟩
  | 56 => ⟨S_, .f32⟩
  | 57 => ⟨S32x2x4x128, .f32⟩
  | 58 => ⟨S32x2x4x128x1, .f32⟩
  | 59 => ⟨S_, .f32⟩
  | 60 => ⟨S32x2x4x128, .f32⟩
  | 61 => ⟨S32x2x4x128, .f32⟩
  | 62 => ⟨S32x2x4x128, .f32⟩
  | 63 => ⟨S_, .f32⟩
  | 64 => ⟨S2x4, .f32⟩
  | 65 => ⟨S1x2x4x1, .f32⟩
  | 66 => ⟨S32x2x4x128, .f32⟩
  | 67 => ⟨S_, .f32⟩
  | 68 => ⟨S2x4, .f32⟩
  | 69 => ⟨S2x4x1, .f32⟩
  | 70 => ⟨S2x4x1, .f32⟩
  | 71 => ⟨S32x2x4x128, .f32⟩
  | 72 => ⟨S32x2x4x128x256, .f32⟩
  | 73 => ⟨S32x2x4x128x256, .f32⟩
  | 74 => ⟨S32x2x4x128x256, .f32⟩
  | 75 => ⟨S_, .f32⟩
  | 76 => ⟨S2x4, .f32⟩
  | 77 => ⟨S8, .f32⟩
  | 78 => ⟨S_, .f32⟩
  | 79 => ⟨S32x2x4x128x256, .f32⟩
  | 80 => ⟨S32x2x4x128x256, .f32⟩
  | 81 => ⟨S_, .f32⟩
  | 82 => ⟨S32x2x4x128x256, .f32⟩
  | 83 => ⟨S32x2x4x128x256, .f32⟩
  | 84 => ⟨S32x2x256x128x4, .f32⟩
  | 85 => ⟨S32x2x128x4x64, .f32⟩
  | 86 => ⟨S32x128x2x4x64, .f32⟩
  | 87 => ⟨S32x2x256x64, .f32⟩
  | 88 => ⟨S32x256x2x64, .f32⟩
  | 89 => ⟨S32x128x2x64, .f32⟩
  | 90 => ⟨S32x128x2x64, .f32⟩
  | 91 => ⟨S_, .f32⟩
  | 92 => ⟨S33x128x2x64, .f32⟩
  | 93 => ⟨S_, .f32⟩
  | 94 => ⟨S33x128x2x64, .f32⟩
  | 95 => ⟨S33x128x2x64, .f32⟩
  | 96 => ⟨S32x128x2x64, .f32⟩
  | 97 => ⟨S32x128x2x64, .f32⟩
  | 98 => ⟨S_, .f32⟩
  | 99 => ⟨S33x128x2x64, .f32⟩
  | 100 => ⟨S_, .f32⟩
  | 101 => ⟨S33x128x2x64, .f32⟩
  | 102 => ⟨S33x128x2x64, .f32⟩
  | 103 => ⟨S4224x2x64, .f32⟩
  | 104 => ⟨S128x2x64, .f32⟩
  | 105 => ⟨S4096x2x64, .f32⟩
  | 106 => ⟨S4224x2x64, .f32⟩
  | 107 => ⟨S128x2x64, .f32⟩
  | 108 => ⟨S4096x2x64, .f32⟩
  | 109 => ⟨S4096x8x64, .f32⟩
  | 110 => ⟨S1x8, .f32⟩
  | 111 => ⟨S4096x128, .f32⟩
  | 112 => ⟨S4096x128, .f32⟩
  | 113 => ⟨S4096x512, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_3 : Ref sig .tc := ⟨.hbm, 43, rfl⟩
abbrev main_v33 : Ref sig .tc := ⟨.hbm, 44, rfl⟩
abbrev main_v34 : Ref sig .tc := ⟨.hbm, 45, rfl⟩
abbrev main_c_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_5 : Ref sig .tc := ⟨.hbm, 50, rfl⟩
abbrev main_v38 : Ref sig .tc := ⟨.hbm, 51, rfl⟩
abbrev main_v39 : Ref sig .tc := ⟨.hbm, 52, rfl⟩
abbrev main_c_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_7 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_8 : Ref sig .tc := ⟨.hbm, 68, rfl⟩
abbrev main_v53 : Ref sig .tc := ⟨.hbm, 69, rfl⟩
abbrev main_v54 : Ref sig .tc := ⟨.hbm, 70, rfl⟩
abbrev main_cst_9 : Ref sig .tc := ⟨.hbm, 71, rfl⟩
abbrev main_v55 : Ref sig .tc := ⟨.hbm, 72, rfl⟩
abbrev main_v56 : Ref sig .tc := ⟨.hbm, 73, rfl⟩
abbrev main_cst_10 : Ref sig .tc := ⟨.hbm, 74, rfl⟩
abbrev main_v57 : Ref sig .tc := ⟨.hbm, 75, rfl⟩
abbrev main_v58 : Ref sig .tc := ⟨.hbm, 76, rfl⟩
abbrev main_cst_11 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_12 : Ref sig .tc := ⟨.hbm, 91, rfl⟩
abbrev main_call0_v0 : Ref sig .tc := ⟨.hbm, 92, rfl⟩
abbrev main_v72_1 : Ref sig .tc := ⟨.hbm, 93, rfl⟩
abbrev main_call0_v2 : Ref sig .tc := ⟨.hbm, 94, rfl⟩
abbrev main_v72_0 : Ref sig .tc := ⟨.hbm, 95, rfl⟩
abbrev main_call0_cst : Ref sig .tc := ⟨.hbm, 96, rfl⟩
abbrev main_v72_2 : Ref sig .tc := ⟨.hbm, 97, rfl⟩
abbrev main_v73 : Ref sig .tc := ⟨.hbm, 98, rfl⟩
abbrev main_v74 : Ref sig .tc := ⟨.hbm, 99, rfl⟩
abbrev main_cst_13 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_14 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_15 : Ref sig .tc := ⟨.hbm, 115, rfl⟩
abbrev main_v88 : Ref sig .tc := ⟨.hbm, 116, rfl⟩
abbrev main_cst_16 : Ref sig .tc := ⟨.hbm, 117, rfl⟩
abbrev main_v89 : Ref sig .tc := ⟨.hbm, 118, rfl⟩
abbrev main_cst_17 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_18 : Ref sig .tc := ⟨.hbm, 127, rfl⟩
abbrev main_v97 : Ref sig .tc := ⟨.hbm, 128, rfl⟩
abbrev main_cst_19 : Ref sig .tc := ⟨.hbm, 129, rfl⟩
abbrev main_v98 : Ref sig .tc := ⟨.hbm, 130, rfl⟩
abbrev main_cst_20 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_cst_21 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_cst_22 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_cst_23 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_cst_24 : Ref sig .tc := ⟨.hbm, 170, rfl⟩
abbrev main_v134 : Ref sig .tc := ⟨.hbm, 171, rfl⟩
abbrev main_v135 : Ref sig .tc := ⟨.hbm, 172, rfl⟩
abbrev main_cst_25 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_cst_26 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_cst_27 : Ref sig .tc := ⟨.hbm, 184, rfl⟩
abbrev main_v145 : Ref sig .tc := ⟨.hbm, 185, rfl⟩
abbrev main_v146 : Ref sig .tc := ⟨.hbm, 186, rfl⟩
abbrev main_cst_28 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_cst_29 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_cst_30 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_cst_31 : Ref sig .tc := ⟨.hbm, 203, rfl⟩
abbrev main_v160 : Ref sig .tc := ⟨.hbm, 204, rfl⟩
abbrev main_v161 : Ref sig .tc := ⟨.hbm, 205, rfl⟩
abbrev main_call1_cst : Ref sig .tc := ⟨.hbm, 206, rfl⟩
abbrev main_call1_v0 : Ref sig .tc := ⟨.hbm, 207, rfl⟩
abbrev main_v162 : Ref sig .tc := ⟨.hbm, 208, rfl⟩
abbrev main_cst_32 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_cst_33 : Ref sig .tc := ⟨.hbm, 219, rfl⟩
abbrev main_v172 : Ref sig .tc := ⟨.hbm, 220, rfl⟩
abbrev main_cst_34 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_cst_35 : Ref sig .tc := ⟨.hbm, 226, rfl⟩
abbrev main_v177 : Ref sig .tc := ⟨.hbm, 227, rfl⟩
abbrev main_cst_36 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1024x1024 : Shape := ⟨2, ![1024, 1024]⟩
abbrev S1024x256 : Shape := ⟨2, ![1024, 256]⟩
abbrev S256x1024 : Shape := ⟨2, ![256, 1024]⟩
abbrev S1024x512 : Shape := ⟨2, ![1024, 512]⟩
abbrev S1024 : Shape := ⟨1, ![1024]⟩
abbrev S1024x1 : Shape := ⟨2, ![1024, 1]⟩

abbrev nBuf : Space → Nat
  | .hbm => 26
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S4096x1024, .f32⟩
  | .hbm, ⟨22, _⟩ => ⟨S1x1024, .f32⟩
  | .hbm, ⟨23, _⟩ => ⟨S4096x2816, .bf16⟩
  | .hbm, ⟨24, _⟩ => ⟨S4096x2816, .bf16⟩
  | .hbm, ⟨25, _⟩ => ⟨S4096x2816, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S256x1024, .bf16⟩
  | .local _ .vmem, ⟨12, _⟩ => ⟨S256x1024, .bf16⟩
  | .local _ .vmem, ⟨13, _⟩ => ⟨S1024x1024, .f32⟩
  | .local _ .vmem, ⟨14, _⟩ => ⟨S1024x1024, .f32⟩
  | .local _ .vmem, ⟨15, _⟩ => ⟨S1x1024, .f32⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x256, .bf16⟩
  | .local _ .vmem, ⟨20, _⟩ => ⟨S1024x256, .bf16⟩
  | .local _ .vmem, ⟨21, _⟩ => ⟨S1024x256, .bf16⟩
  | .local _ .vmem, ⟨22, _⟩ => ⟨S1024x1024, .bf16⟩
  | .local _ .vmem, ⟨23, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v13_3 : Ref sig .tc := ⟨.hbm, 24, rfl⟩
abbrev main_v13_4 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![4, 11], ![false, false]⟩

def k0_cond2 (i : grid0.Coords) : BitVec 1 :=
  let arg1 : BitVec 32 := BitVec.ofNat 32 (i 1).val
  let c10_i32 : BitVec 32 := 10#32
  let v44 : BitVec 1 := Scalar.cmpi .eq arg1 c10_i32
  let v45 : BitVec 32 := Scalar.extui v44
  let c0_i32_31 : BitVec 32 := 0#32
  let v46 : BitVec 1 := Scalar.cmpi .ne v45 c0_i32_31
  v46

def k0_cond3 (i : grid0.Coords) : BitVec 1 :=
  let arg0 : BitVec 32 := BitVec.ofNat 32 (i 0).val
  let c0_i32_50 : BitVec 32 := 0#32
  let v86 : BitVec 1 := Scalar.cmpi .eq arg0 c0_i32_50
  let v87 : BitVec 32 := Scalar.extui v86
  let c0_i32_51 : BitVec 32 := 0#32
  let v88 : BitVec 1 := Scalar.cmpi .ne v87 c0_i32_51
  v88

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4096x2816 : Shape := ⟨2, ![4096, 2816]⟩
abbrev S4096 : Shape := ⟨1, ![4096]⟩
abbrev S4096x1 : Shape := ⟨2, ![4096, 1]⟩
abbrev S4096x5632 : Shape := ⟨2, ![4096, 5632]⟩
abbrev S1024 : Shape := ⟨1, ![1024]⟩

abbrev nBuf : Space → Nat
  | .hbm => 92
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S4096x1024, .f32⟩
  | .hbm, ⟨5, _⟩ => ⟨S_, .f32⟩
  | .hbm, ⟨6, _⟩ => ⟨S4096x2816, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S1024x5632, .f32⟩
  | .hbm, ⟨27, _⟩ => ⟨S4096x5632, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S2816x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S4096x2816, .f32⟩
  | .hbm, ⟨57, _⟩ => ⟨S4096x2816, .f32⟩
  | .hbm, ⟨58, _⟩ => ⟨S4096x2816, .f32⟩
  | .hbm, ⟨59, _⟩ => ⟨S4096x2816, .f32⟩
  | .hbm, ⟨60, _⟩ => ⟨S4096x2816, .f32⟩
  | .hbm, ⟨61, _⟩ => ⟨S4096x2816, .f32⟩
  | .hbm, ⟨62, _⟩ => ⟨S4096x2816, .f32⟩
  | .hbm, ⟨63, _⟩ => ⟨S4096x5632, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S4096, .f32⟩
  | .hbm, ⟨74, _⟩ => ⟨S4096x1, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S_, .f32⟩
  | .hbm, ⟨83, _⟩ => ⟨S4096, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x2816, .bf16⟩
  | .hbm, ⟨90, _⟩ => ⟨S4096x2816, .bf16⟩
  | .hbm, ⟨91, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v21_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v21_1 : Ref sig .tc := ⟨.hbm, 42, rfl⟩
abbrev main_v21_0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_7 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_8 : Ref sig .tc := ⟨.hbm, 79, rfl⟩
abbrev main_v50 : Ref sig .tc := ⟨.hbm, 80, rfl⟩
abbrev main_v51 : Ref sig .tc := ⟨.hbm, 81, rfl⟩
abbrev main_cst_9 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 15
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S1024x2816, .f32⟩
  | .hbm, ⟨13, _⟩ => ⟨S2816x1024, .f32⟩
  | .hbm, ⟨14, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 20
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x2816, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S1024x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S1x1024 : Shape := ⟨2, ![1, 1024]⟩
abbrev S4096x2816 : Shape := ⟨2, ![4096, 2816]⟩
abbrev S_ : Shape := ⟨0, ![]⟩
abbrev S1024x2816 : Shape := ⟨2, ![1024, 2816]⟩
abbrev S4096 : Shape := ⟨1, ![4096]⟩
abbrev S4096x1 : Shape := ⟨2, ![4096, 1]⟩
abbrev S2816x1024 : Shape := ⟨2, ![2816, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x2816, .bf16⟩
  | .hbm, ⟨3, _⟩ => ⟨S_, .f32⟩
  | .hbm, ⟨4, _⟩ => ⟨S1024x2816, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x2816, .f32⟩
  | .hbm, ⟨21, _⟩ => ⟨S4096x2816, .f32⟩
  | .hbm, ⟨22, _⟩ => ⟨S2816x1024, .f32⟩
  | .hbm, ⟨23, _⟩ => ⟨S1024x2816, .f32⟩
  | .hbm, ⟨24, _⟩ => ⟨S1024x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel5.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S1024x1024 : Shape := ⟨2, ![1024, 1024]⟩
abbrev S1024x256 : Shape := ⟨2, ![1024, 256]⟩
abbrev S256x1024 : Shape := ⟨2, ![256, 1024]⟩
abbrev S1024 : Shape := ⟨1, ![1024]⟩
abbrev S1024x1 : Shape := ⟨2, ![1024, 1]⟩

abbrev nBuf : Space → Nat
  | .hbm => 6
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S4096x1024, .f32⟩
  | .hbm, ⟨5, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S256x1024, .bf16⟩
  | .local _ .vmem, ⟨8, _⟩ => ⟨S256x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 11], ![false, false]⟩

def k0_cond2 (i : grid0.Coords) : BitVec 1 :=
  let arg1 : BitVec 32 := BitVec.ofNat 32 (i 1).val
  let c10_i32 : BitVec 32 := 10#32
  let v26 : BitVec 1 := Scalar.cmpi .eq arg1 c10_i32
  let v27 : BitVec 32 := Scalar.extui v26
  let c0_i32_19 : BitVec 32 := 0#32
  let v28 : BitVec 1 := Scalar.cmpi .ne v27 c0_i32_19
  v28

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference5Ideal.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S1024x5632, .f32⟩
  | .hbm, ⟨20, _⟩ => ⟨S4096x5632, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S2816x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== Kernel6.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x1024, .f32⟩
  | .hbm, ⟨3, _⟩ => ⟨S1024x3072, .f32⟩
  | .hbm, ⟨4, _⟩ => ⟨S4096x3072, .f32⟩
  | .hbm, ⟨5, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S4096x1024 : Shape := ⟨2, ![4096, 1024]⟩
abbrev S4096x3200 : Shape := ⟨2, ![4096, 3200]⟩
abbrev S1024x3200 : Shape := ⟨2, ![1024, 3200]⟩
abbrev S1024x1024 : Shape := ⟨2, ![1024, 1024]⟩
abbrev S1024x640 : Shape := ⟨2, ![1024, 640]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x3200, .bf16⟩
  | .hbm, ⟨2, _⟩ => ⟨S1024x3200, .bf16⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .bf16⟩
  | .local _ .vmem, ⟨5, _⟩ => ⟨S1024x640, .bf16⟩
  | .local _ .vmem, ⟨6, _⟩ => ⟨S1024x640, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S4096x3200 : Shape := ⟨2, ![4096, 3200]⟩
abbrev S_ : Shape := ⟨0, ![]⟩
abbrev S1024x3200 : Shape := ⟨2, ![1024, 3200]⟩
abbrev S3200x1024 : Shape := ⟨2, ![3200, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3200, .bf16⟩
  | .hbm, ⟨2, _⟩ => ⟨S_, .f32⟩
  | .hbm, ⟨3, _⟩ => ⟨S1024x3200, .f32⟩
  | .hbm, ⟨4, _⟩ => ⟨S4096x1024, .f32⟩
  | .hbm, ⟨5, _⟩ => ⟨S4096x3200, .f32⟩
  | .hbm, ⟨6, _⟩ => ⟨S4096x3200, .f32⟩
  | .hbm, ⟨7, _⟩ => ⟨S3200x1024, .f32⟩
  | .hbm, ⟨8, _⟩ => ⟨S1024x3200, .f32⟩
  | .hbm, ⟨9, _⟩ => ⟨S1024x3200, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x3200 : Shape := ⟨2, ![4096, 3200]⟩
abbrev S1024x3200 : Shape := ⟨2, ![1024, 3200]⟩
abbrev S4096x1024 : Shape := ⟨2, ![4096, 1024]⟩
abbrev S1024x640 : Shape := ⟨2, ![1024, 640]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3200, .bf16⟩
  | .hbm, ⟨1, _⟩ => ⟨S1024x3200, .bf16⟩
  | .hbm, ⟨2, _⟩ => ⟨S4096x1024, .f32⟩
  | .local _ .vmem, ⟨0, _⟩ => ⟨S1024x640, .bf16⟩
  | .local _ .vmem, ⟨1, _⟩ => ⟨S1024x640, .bf16⟩
  | .local _ .vmem, ⟨2, _⟩ => ⟨S1024x640, .bf16⟩
  | .local _ .vmem, ⟨3, _⟩ => ⟨S1024x640, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x3200 : Shape := ⟨2, ![4096, 3200]⟩
abbrev S1024x3200 : Shape := ⟨2, ![1024, 3200]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x3200, .bf16⟩
  | .hbm, ⟨1, _⟩ => ⟨S1024x3200, .bf16⟩
  | .hbm, ⟨2, _⟩ => ⟨S_, .f32⟩
  | .hbm, ⟨3, _⟩ => ⟨S4096x1024, .f32⟩
  | .hbm, ⟨4, _⟩ => ⟨S1024x3200, .f32⟩
  | .hbm, ⟨5, _⟩ => ⟨S4096x3200, .f32⟩
  | .hbm, ⟨6, _⟩ => ⟨S4096x3200, .f32⟩
  | .hbm, ⟨7, _⟩ => ⟨S4096x1024, .f32⟩
  | _, _ => ⟨S4096x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S4096x1024 : Shape := ⟨2, ![4096, 1024]⟩
abbrev S1024x2560 : Shape := ⟨2, ![1024, 2560]⟩
abbrev S4096x2560 : Shape := ⟨2, ![4096, 2560]⟩
abbrev S1024x1024 : Shape := ⟨2, ![1024, 1024]⟩
abbrev S1024x1280 : Shape := ⟨2, ![1024, 1280]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x2560, .bf16⟩
  | .hbm, ⟨2, _⟩ => ⟨S4096x2560, .f32⟩
  | .local _ .vmem, ⟨0, _⟩ => ⟨S1024x1024, .bf16⟩
  | .local _ .vmem, ⟨1, _⟩ => ⟨S1024x1024, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1280, .f32⟩
  | .local _ .vmem, ⟨5, _⟩ => ⟨S1024x1280, .f32⟩
  | .local _ .vmem, ⟨6, _⟩ => ⟨S1024x1280, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S1024x2560 : Shape := ⟨2, ![1024, 2560]⟩
abbrev S4096x2560 : Shape := ⟨2, ![4096, 2560]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2560, .bf16⟩
  | .hbm, ⟨2, _⟩ => ⟨S4096x1024, .f32⟩
  | .hbm, ⟨3, _⟩ => ⟨S1024x2560, .f32⟩
  | .hbm, ⟨4, _⟩ => ⟨S4096x2560, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S4096x1024 : Shape := ⟨2, ![4096, 1024]⟩
abbrev S4096x2560 : Shape := ⟨2, ![4096, 2560]⟩
abbrev S1024x2560 : Shape := ⟨2, ![1024, 2560]⟩
abbrev S1024x1024 : Shape := ⟨2, ![1024, 1024]⟩
abbrev S1024x1280 : Shape := ⟨2, ![1024, 1280]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2560, .bf16⟩
  | .hbm, ⟨2, _⟩ => ⟨S1024x2560, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1280, .bf16⟩
  | .local _ .vmem, ⟨5, _⟩ => ⟨S1024x1280, .bf16⟩
  | .local _ .vmem, ⟨6, _⟩ => ⟨S1024x1280, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S4096x2560 : Shape := ⟨2, ![4096, 2560]⟩
abbrev S_ : Shape := ⟨0, ![]⟩
abbrev S1024x2560 : Shape := ⟨2, ![1024, 2560]⟩
abbrev S2560x1024 : Shape := ⟨2, ![2560, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2560, .bf16⟩
  | .hbm, ⟨2, _⟩ => ⟨S_, .f32⟩
  | .hbm, ⟨3, _⟩ => ⟨S1024x2560, .f32⟩
  | .hbm, ⟨4, _⟩ => ⟨S4096x1024, .f32⟩
  | .hbm, ⟨5, _⟩ => ⟨S4096x2560, .f32⟩
  | .hbm, ⟨6, _⟩ => ⟨S4096x2560, .f32⟩
  | .hbm, ⟨7, _⟩ => ⟨S2560x1024, .f32⟩
  | .hbm, ⟨8, _⟩ => ⟨S1024x2560, .f32⟩
  | .hbm, ⟨9, _⟩ => ⟨S1024x2560, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S4096x2560 : Shape := ⟨2, ![4096, 2560]⟩
abbrev S1024x2560 : Shape := ⟨2, ![1024, 2560]⟩
abbrev S4096x1024 : Shape := ⟨2, ![4096, 1024]⟩
abbrev S1024x640 : Shape := ⟨2, ![1024, 640]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2560, .bf16⟩
  | .hbm, ⟨1, _⟩ => ⟨S1024x2560, .bf16⟩
  | .hbm, ⟨2, _⟩ => ⟨S4096x1024, .f32⟩
  | .local _ .vmem, ⟨0, _⟩ => ⟨S1024x640, .bf16⟩
  | .local _ .vmem, ⟨1, _⟩ => ⟨S1024x640, .bf16⟩
  | .local _ .vmem, ⟨2, _⟩ => ⟨S1024x640, .bf16⟩
  | .local _ .vmem, ⟨3, _⟩ => ⟨S1024x640, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2560 : Shape := ⟨2, ![4096, 2560]⟩
abbrev S1024x2560 : Shape := ⟨2, ![1024, 2560]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2560, .bf16⟩
  | .hbm, ⟨1, _⟩ => ⟨S1024x2560, .bf16⟩
  | .hbm, ⟨2, _⟩ => ⟨S_, .f32⟩
  | .hbm, ⟨3, _⟩ => ⟨S4096x1024, .f32⟩
  | .hbm, ⟨4, _⟩ => ⟨S1024x2560, .f32⟩
  | .hbm, ⟨5, _⟩ => ⟨S4096x2560, .f32⟩
  | .hbm, ⟨6, _⟩ => ⟨S4096x2560, .f32⟩
  | .hbm, ⟨7, _⟩ => ⟨S4096x1024, .f32⟩
  | _, _ => ⟨S4096x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel17.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel18.lean ====
abbrev S4096x256 : Shape := ⟨2, ![4096, 256]⟩
abbrev S256x1024 : Shape := ⟨2, ![256, 1024]⟩
abbrev S4096x1024 : Shape := ⟨2, ![4096, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S256x1024, .bf16⟩
  | .hbm, ⟨2, _⟩ => ⟨S4096x1024, .f32⟩
  | .local _ .vmem, ⟨0, _⟩ => ⟨S1024x256, .f32⟩
  | .local _ .vmem, ⟨1, _⟩ => ⟨S1024x256, .f32⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x1024, .bf16⟩
  | .hbm, ⟨2, _⟩ => ⟨S256x1024, .f32⟩
  | .hbm, ⟨3, _⟩ => ⟨S4096x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel19.lean ====
abbrev S4096x256 : Shape := ⟨2, ![4096, 256]⟩
abbrev S4096x1024 : Shape := ⟨2, ![4096, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x1024, .bf16⟩
  | .hbm, ⟨2, _⟩ => ⟨S256x1024, .bf16⟩
  | .local _ .vmem, ⟨0, _⟩ => ⟨S1024x256, .f32⟩
  | .local _ .vmem, ⟨1, _⟩ => ⟨S1024x256, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference19Ideal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x1024, .bf16⟩
  | .hbm, ⟨2, _⟩ => ⟨S_, .f32⟩
  | .hbm, ⟨3, _⟩ => ⟨S256x1024, .f32⟩
  | .hbm, ⟨4, _⟩ => ⟨S4096x1024, .f32⟩
  | .hbm, ⟨5, _⟩ => ⟨S4096x1024, .f32⟩
  | .hbm, ⟨6, _⟩ => ⟨S1024x256, .f32⟩
  | .hbm, ⟨7, _⟩ => ⟨S256x1024, .f32⟩
  | .hbm, ⟨8, _⟩ => ⟨S256x1024, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel20.lean ====
abbrev S4096x1024 : Shape := ⟨2, ![4096, 1024]⟩
abbrev S1024x128 : Shape := ⟨2, ![1024, 128]⟩
abbrev S4096x128 : Shape := ⟨2, ![4096, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4096x1024 : Shape := ⟨2, ![4096, 1024]⟩
abbrev S1024x128 : Shape := ⟨2, ![1024, 128]⟩
abbrev S4096x128 : Shape := ⟨2, ![4096, 128]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x1024, .f32⟩
  | .hbm, ⟨3, _⟩ => ⟨S1024x128, .f32⟩
  | .hbm, ⟨4, _⟩ => ⟨S4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Swa.Row.lean ====
/- One query row of the windowed attention's gradient, as extended-real arithmetic: what the backward pass makes of the
   row of masked logits `X`, the row of products `da` of the incoming gradient with the values, and the sink `sk`. Both
   the kernel's blocks and the reference are read to these functions. -/
module

public import Idealize.ShloMosaic.Lib.Pointwise

@[expose] public section

noncomputable section

namespace Cert.Swa

open Idealize.ShloMosaic

/-- The two one-bit masks' value at a true/false comparison, as a float. -/
abbrev bit (b : BitVec 1) : EReal := FloatOps.uitofp (F := Ideal) .f32 b

/-- The float zero, half and the logits' scale 1/8, as the programs write them. -/
abbrev c0 : EReal := Ideal.ofBits .f32 0x00000000#32
abbrev cHalf : EReal := Ideal.ofBits .f32 0x3F000000#32
abbrev cScale : EReal := Ideal.ofBits .f32 0x3E000000#32
abbrev cBot : EReal := Ideal.ofBits .f32 0xFF800000#32

variable (X da : Fin 256 → EReal) (sk : EReal)

/-- The row's largest logit. -/
def mx : EReal := (Finset.univ : Finset (Fin 256)).fold max cBot X
/-- Where the largest logit is attained (1 there, 0 elsewhere), and at how many places. -/
def eqm (j : Fin 256) : EReal := bit (Ideal.cmp .oeq (X j) (mx X))
def cnt : EReal := ∑ j, eqm X j
/-- The softmax's shift: the largest of the logits and the sink. -/
def top : EReal := max (mx X) sk
/-- The share of the shift's derivative that goes to the largest logit, and to the sink. -/
def wX : EReal := if sk < mx X then 1 else if mx X = sk then cHalf else 0
def wS : EReal := if mx X < sk then 1 else if sk = mx X then cHalf else 0
/-- The exponentials, the sink's exponential and the denominator. -/
def ex (j : Fin 256) : EReal := Ideal.exp (X j - top X sk)
def es : EReal := Ideal.exp (sk - top X sk)
def den : EReal := (∑ j, ex X sk j) + es X sk
/-- The probabilities. -/
def pr (j : Fin 256) : EReal := Ideal.div (ex X sk j) (den X sk)
/-- The denominator's gradient. -/
def dden : EReal := -∑ j, da j * Ideal.div 1 (den X sk * den X sk) * ex X sk j
/-- The sink's gradient through its exponential, the logits' gradient through theirs, the shift's gradient. -/
def dse : EReal := dden X da sk * es X sk
def dxe (j : Fin 256) : EReal := (Ideal.div (da j) (den X sk) + dden X da sk) * ex X sk j
def dtop : EReal := -dse X da sk + ∑ j, -dxe X da sk j
/-- The sink's gradient through the shift. -/
def dsm : EReal := dtop X da sk * wS X sk
/-- The masked logits' whole gradient. -/
def dx (j : Fin 256) : EReal := dxe X da sk j + Ideal.div (dtop X da sk * wX X sk) (cnt X) * eqm X j
/-- The gradient of the products of queries with keys: zero outside the mask `ok`. -/
def dl (ok : Fin 256 → BitVec 1) (j : Fin 256) : EReal := Scalar.select (ok j) (dx X da sk j) c0 * cScale

theorem c0_eq : c0 = 0 := Ideal.ofBits_zero_f32
theorem cBot_eq : cBot = ⊥ := by simp [cBot, Ideal.ofBits, Ideal.ieee]

/-- A place the mask hides has no weight: its exponential is zero. -/
theorem ex_of_bot {j : Fin 256} (h : X j = ⊥) : ex X sk j = 0 := by
  unfold ex; rw [h, EReal.bot_sub]; exact Ideal.exp_bot

variable {X da} {da' : Fin 256 → EReal} {ok : Fin 256 → BitVec 1}

/-- What the row makes of `da` reads it only where the logit is not `⊥`. -/
theorem dden_congr (h : ∀ j, X j ≠ ⊥ → da j = da' j) : dden X da sk = dden X da' sk := by
  unfold dden
  congr 1
  refine Finset.sum_congr rfl fun j _ => ?_
  by_cases hj : X j = ⊥
  · rw [ex_of_bot X sk hj, mul_zero, mul_zero]
  · rw [h j hj]

theorem dse_congr (h : ∀ j, X j ≠ ⊥ → da j = da' j) : dse X da sk = dse X da' sk := by
  unfold dse; rw [dden_congr sk h]

theorem dxe_congr (h : ∀ j, X j ≠ ⊥ → da j = da' j) (j : Fin 256) : dxe X da sk j = dxe X da' sk j := by
  unfold dxe
  by_cases hj : X j = ⊥
  · rw [ex_of_bot X sk hj, mul_zero, mul_zero]
  · rw [h j hj, dden_congr sk h]

theorem dtop_congr (h : ∀ j, X j ≠ ⊥ → da j = da' j) : dtop X da sk = dtop X da' sk := by
  unfold dtop; rw [dse_congr sk h]; simp only [dxe_congr sk h]

theorem dsm_congr (h : ∀ j, X j ≠ ⊥ → da j = da' j) : dsm X da sk = dsm X da' sk := by
  unfold dsm; rw [dtop_congr sk h]

theorem dl_congr (h : ∀ j, X j ≠ ⊥ → da j = da' j) (j : Fin 256) : dl X da sk ok j = dl X da' sk ok j := by
  unfold dl dx; rw [dtop_congr sk h, dxe_congr sk h]

/-- Outside the mask nothing flows back. -/
theorem dl_of_zero {j : Fin 256} (h : ok j = 0#1) : dl X da sk ok j = 0 := by
  unfold dl; rw [h]; show c0 * _ = 0; rw [c0_eq, zero_mul]

theorem pr_of_bot {j : Fin 256} (h : X j = ⊥) : pr X sk j = Ideal.div 0 (den X sk) := by
  unfold pr; rw [ex_of_bot X sk h]

end Cert.Swa

end
-- ==== Proof.Swa.Block.lean ====
/- The kernel's block body read at an index: each payload of one grid point as the row arithmetic of `Row`. -/
module

public import proofs.«01_k».proof.Proof.Swa.Row
public import proofs.«01_k».proof.Proof.Gen.KernelIdeal.Skeleton

@[expose] public section

noncomputable section

namespace Cert.Swa

open Idealize.ShloMosaic Cert.KernelIdeal Cert.KernelIdeal.Gen

/-- A one-bit word widened and read as a signed integer is the bit. -/
theorem toInt_bit (b : BitVec 1) : (((b.setWidth 32).toInt : ℝ) : EReal) = bit b := by
  have h : ∀ b : BitVec 1, (b.setWidth 32).toInt = (b.toNat : ℤ) := by decide
  show (((b.setWidth 32).toInt : ℝ) : EReal) = ((b.toNat : ℝ) : EReal)
  rw [h]; push_cast; rfl

/-- A sum over one place. -/
theorem sum_one (f : Fin 1 → EReal) : ∑ k : Fin 1, f k = f 0 := Fin.sum_univ_one f

section Soft
variable (arg1 : BitVec 32) (v4 v14 : FVec Ideal S512x1 .f32) (v21 : FVec Ideal S512x256 .f32)
  (v25 v28 : IVec S512x256 32) (v30 : IVec S512x256 1) (r : Fin 512) (j : Fin 256)
  {X : Fin 256 → EReal} (hX : ∀ j, k0_pay12 arg1 v4 v21 v25 v28 v30 (ix2 r j) = X j)
include hX

theorem pay13_at : k0_pay13 arg1 v4 v21 v25 v28 v30 (ix1 r) = mx X := by
  pointwise [k0_pay13]
  simp only [hX]; rfl

theorem pay14_at : k0_pay14 arg1 v4 v21 v25 v28 v30 (ix2 r j) = eqm X j := by
  pointwise [k0_pay14]
  rw [pay13_at arg1 v4 v21 v25 v28 v30 r hX, hX]
  exact toInt_bit _

theorem pay15_at : k0_pay15 arg1 v4 v21 v25 v28 v30 (ix1 r) = cnt X := by
  pointwise [k0_pay15]
  exact Finset.sum_congr rfl fun j _ => pay14_at arg1 v4 v21 v25 v28 v30 r j hX

theorem pay16_at : k0_pay16 arg1 v4 v21 v25 v28 v30 (ix2 r 0) = mx X := by
  pointwise [k0_pay16]
  exact pay13_at arg1 v4 v21 v25 v28 v30 r hX

theorem pay17_at : k0_pay17 arg1 v4 v14 v21 v25 v28 v30 (ix2 r 0) = top X (v14 (ix2 r 0)) := by
  pointwise [k0_pay17]
  rw [pay16_at arg1 v4 v21 v25 v28 v30 r hX]; rfl

theorem pay18_at : k0_pay18 arg1 v4 v14 v21 v25 v28 v30 (ix2 r 0) = wX X (v14 (ix2 r 0)) := by
  pointwise [k0_pay18]
  rw [pay16_at arg1 v4 v21 v25 v28 v30 r hX]
  rfl

theorem pay19_at : k0_pay19 arg1 v4 v14 v21 v25 v28 v30 (ix2 r 0) = wS X (v14 (ix2 r 0)) := by
  pointwise [k0_pay19]
  rw [pay16_at arg1 v4 v21 v25 v28 v30 r hX]
  rfl

theorem pay20_at : k0_pay20 arg1 v4 v14 v21 v25 v28 v30 (ix2 r j) = ex X (v14 (ix2 r 0)) j := by
  pointwise [k0_pay20]
  rw [pay17_at arg1 v4 v14 v21 v25 v28 v30 r hX, hX]; rfl

theorem pay21_at : k0_pay21 arg1 v4 v14 v21 v25 v28 v30 (ix2 r 0) = ∑ j, ex X (v14 (ix2 r 0)) j := by
  pointwise [k0_pay21]
  exact Finset.sum_congr rfl fun j _ => pay20_at arg1 v4 v14 v21 v25 v28 v30 r j hX

theorem pay22_at : k0_pay22 arg1 v4 v14 v21 v25 v28 v30 (ix2 r 0) = es X (v14 (ix2 r 0)) := by
  pointwise [k0_pay22]
  rw [pay17_at arg1 v4 v14 v21 v25 v28 v30 r hX]; rfl

end Soft

section Grad
variable (v16 : FVec Ideal S256x64 .f32) (v52 v72 : FVec Ideal S512x256 .f32) (v53 : FVec Ideal S512 .f32)
  (v62 v69 v74 v76 : FVec Ideal S512x1 .f32) (v83 : Vec Ideal S1x4x128x64 .f32) (r : Fin 512) (j : Fin 256)
  (X da : Fin 256 → EReal) (sk : EReal)
  (h72 : ∀ j, v72 (ix2 r j) = ex X sk j) (h74 : v74 (ix2 r 0) = ∑ j, ex X sk j) (h76 : v76 (ix2 r 0) = es X sk)

include h74 h76 in
theorem pay23_at : k0_pay23 v74 v76 (ix2 r 0) = den X sk := by
  pointwise [k0_pay23]
  rw [h74, h76]; rfl

variable (hda : ∀ j, k0_pay25 v16 v83 (ix2 r j) = da j)
include h72 h74 h76 hda

theorem pay27_at : k0_pay27 v16 v72 v74 v76 v83 (ix2 r 0) = dden X da sk := by
  pointwise [k0_pay27]
  rw [pay23_at v74 v76 r X sk h74 h76]
  simp only [h72, hda, zero_sub]; rfl

theorem pay28_at : k0_pay28 v16 v72 v74 v76 v83 (ix2 r 0) = dse X da sk := by
  pointwise [k0_pay28]
  rw [pay27_at v16 v72 v74 v76 v83 r X da sk h72 h74 h76 hda, h76]; rfl

theorem pay29_at : k0_pay29 v16 v72 v74 v76 v83 (ix2 r j) = dxe X da sk j := by
  pointwise [k0_pay29]
  simp only [sum_one]
  rw [pay27_at v16 v72 v74 v76 v83 r X da sk h72 h74 h76 hda, h72, hda, pay23_at v74 v76 r X sk h74 h76]; rfl

theorem pay30_at : k0_pay30 v16 v72 v74 v76 v83 (ix2 r 0) = dtop X da sk := by
  pointwise [k0_pay30]
  rw [pay28_at v16 v72 v74 v76 v83 r X da sk h72 h74 h76 hda]
  simp only [pay29_at v16 v72 v74 v76 v83 r _ X da sk h72 h74 h76 hda, zero_sub]; rfl

theorem pay31_at (h69 : v69 (ix2 r 0) = wS X sk) :
    k0_pay31 v16 v69 v72 v74 v76 v83 (ix2 r 0) = dse X da sk + dsm X da sk := by
  pointwise [k0_pay31]
  rw [pay28_at v16 v72 v74 v76 v83 r X da sk h72 h74 h76 hda, pay30_at v16 v72 v74 v76 v83 r X da sk h72 h74 h76 hda, h69]
  rfl

theorem pay32_at (h52 : v52 (ix2 r j) = eqm X j) (h53 : v53 (ix1 r) = cnt X) (h62 : v62 (ix2 r 0) = wX X sk) :
    k0_pay32 v16 v52 v53 v62 v72 v74 v76 v83 (ix2 r j) = dx X da sk j := by
  pointwise [k0_pay32]
  simp only [sum_one]
  rw [pay29_at v16 v72 v74 v76 v83 r j X da sk h72 h74 h76 hda, pay30_at v16 v72 v74 v76 v83 r X da sk h72 h74 h76 hda,
    h52, h53, h62]
  rfl

end Grad

section Out
variable (v2 : FVec Ideal S512x64 .f32) (v15 : FVec Ideal S256x64 .f32) (v40 : IVec S512x256 1) (v72 v122 : FVec Ideal S512x256 .f32)
  (v74 v76 : FVec Ideal S512x1 .f32) (v83 : Vec Ideal S1x4x128x64 .f32) (v91 : FVec Ideal S256x64 .f32)

theorem pay33_at (r : Fin 512) (j : Fin 256) :
    k0_pay33 v40 v122 (ix2 r j) = Scalar.select (v40 (ix2 r j)) (v122 (ix2 r j)) c0 * cScale := by
  pointwise [k0_pay33]

theorem pay26_at (j : Fin 256) (d : Fin 64) : k0_pay26 v72 v74 v76 v83 (ix2 j d)
    = ∑ r : Fin 512, Ideal.div (v72 (ix2 r j)) (k0_pay23 v74 v76 (ix2 r 0)) * k0_pay24 v83 (ix2 r d) := by
  pointwise [k0_pay26]

theorem pay34_at (j : Fin 256) (d : Fin 64) : k0_pay34 v2 v40 v122 (ix2 j d)
    = ∑ r : Fin 512, k0_pay33 v40 v122 (ix2 r j) * v2 (ix2 r d) := by
  pointwise [k0_pay34]

theorem pay35_at (u : Fin 1) (g : Fin 4) (i : Fin 128) (d : Fin 64) : k0_pay35 v15 v40 v122 (ix4 u g i d)
    = ∑ j : Fin 256, k0_pay33 v40 v122 (ix2 (⟨g * 128 + i, by omega⟩ : Fin 512) j) * v15 (ix2 j d) := by
  pointwise [k0_pay35]

theorem pay36_at (u : Fin 1) (i : Fin 128) (d : Fin 64) : k0_pay36 v2 v40 v122 (ix3 u i d)
    = k0_pay34 v2 v40 v122 (ix2 (⟨i, by omega⟩ : Fin 256) d) := by
  pointwise [k0_pay36]

theorem pay37_at (u : Fin 1) (i : Fin 128) (d : Fin 64) : k0_pay37 v2 v40 v122 (ix3 u i d)
    = k0_pay34 v2 v40 v122 (ix2 (⟨128 + i, by omega⟩ : Fin 256) d) := by
  pointwise [k0_pay37]

theorem pay38_at (u : Fin 1) (i : Fin 128) (d : Fin 64) : k0_pay38 v91 (ix3 u i d)
    = v91 (ix2 (⟨i, by omega⟩ : Fin 256) d) := by
  pointwise [k0_pay38]

theorem pay39_at (u : Fin 1) (i : Fin 128) (d : Fin 64) : k0_pay39 v91 (ix3 u i d)
    = v91 (ix2 (⟨128 + i, by omega⟩ : Fin 256) d) := by
  pointwise [k0_pay39]

end Out

section In
variable (w : Vec Ideal S1x4x128x64 .f32) (a b : Vec Ideal S1x128x64 .f32) (c : Vec Ideal S1x512x1 .f32)

theorem pay3_at (r : Fin 512) (d : Fin 64) : k0_pay3 w (ix2 r d)
    = w (ix4 (0 : Fin 1) (⟨r / 128, by omega⟩ : Fin 4) (⟨r % 128, by omega⟩ : Fin 128) d) := by
  pointwise [k0_pay3]

theorem pay24_at (r : Fin 512) (d : Fin 64) : k0_pay24 w (ix2 r d)
    = w (ix4 (0 : Fin 1) (⟨r / 128, by omega⟩ : Fin 4) (⟨r % 128, by omega⟩ : Fin 128) d) := by
  pointwise [k0_pay24]

theorem pay4_at (r : Fin 512) : k0_pay4 c (ix2 r 0) = c (ix3 0 r 0) := by
  pointwise [k0_pay4]

theorem pay5_at (r : Fin 512) : k0_pay5 c (ix2 r 0) = c (ix3 0 r 0) := by
  pointwise [k0_pay5]

theorem pay6_at (j : Fin 256) (d : Fin 64) : k0_pay6 a b (ix2 j d)
    = if h : (j : ℕ) < 128 then a (ix3 0 (⟨j, h⟩ : Fin 128) d) else b (ix3 0 (⟨j - 128, by omega⟩ : Fin 128) d) := by
  pointwise [k0_pay6]

theorem pay7_at (j : Fin 256) (d : Fin 64) : k0_pay7 a b (ix2 j d)
    = if h : (j : ℕ) < 128 then a (ix3 0 (⟨j, h⟩ : Fin 128) d) else b (ix3 0 (⟨j - 128, by omega⟩ : Fin 128) d) := by
  pointwise [k0_pay7]

theorem pay8_at (r : Fin 512) (j : Fin 256) : k0_pay8 w a b (ix2 r j)
    = (∑ d : Fin 64, k0_pay3 w (ix2 r d) * k0_pay6 a b (ix2 j d)) * cScale := by
  pointwise [k0_pay8]

theorem pay25_at (v16 : FVec Ideal S256x64 .f32) (r : Fin 512) (j : Fin 256) : k0_pay25 v16 w (ix2 r j)
    = ∑ d : Fin 64, k0_pay24 w (ix2 r d) * v16 (ix2 j d) := by
  pointwise [k0_pay25]

theorem pay2_at (v115 : FVec Ideal S512x1 .f32) (u : Fin 1) (r : Fin 512) (z : Fin 1) : k0_pay2 v115 c (ix3 u r z)
    = c (ix3 0 r 0) + v115 (ix2 r 0) := by
  pointwise [k0_pay2]

theorem pay1_at (u : Fin 1) (r : Fin 512) (z : Fin 1) : k0_pay1 (F := Ideal) (ix3 u r z) = 0 := by
  pointwise [k0_pay1]

end In

end Cert.Swa

end
-- ==== Proof.Swa.Spec.lean ====
/- The windowed attention's gradient over whole arrays, as extended-real functions of the queries `Q`, the keys `K`, the
   values `W`, the incoming gradient `D` and the sinks `sk`: block `n` of 128 queries, kv head `h`; a row `r` of 512 is one
   query (`r % 128`) of one of the head's four query heads (`r / 128`); `j` is one of the 256 keys of the window. -/
module

public import proofs.«01_k».proof.Proof.Swa.Row

@[expose] public section

noncomputable section

namespace Cert.Swa

open Idealize.ShloMosaic

/-- The query head and the sequence position of row `r`, and the sequence position of key `j`: the first 128 keys are the
    block before `n` (block 0 stands in for the block before the first, where the mask hides them). -/
def hd (h : Fin 2) (r : Fin 512) : Fin 8 := ⟨h * 4 + r / 128, by omega⟩
def qrow (n : Fin 32) (r : Fin 512) : Fin 4096 := ⟨n * 128 + r % 128, by omega⟩
def krow (n : Fin 32) (j : Fin 256) : Fin 4096 :=
  ⟨if (j : ℕ) < 128 then ((n : ℕ) - 1) * 128 + j else n * 128 + (j - 128), by split <;> omega⟩

/-- The mask: keys not after the query, less than 128 before it, and not before the sequence. -/
def okB (n : Fin 32) (i : Fin 128) (j : Fin 256) : BitVec 1 :=
  if (j : ℕ) ≤ i + 128 ∧ (i : ℕ) < j ∧ 128 ≤ n * 128 + (j : ℕ) then 1#1 else 0#1
def ok (n : Fin 32) (r : Fin 512) (j : Fin 256) : BitVec 1 := okB n ⟨r % 128, by omega⟩ j

/-- How far back key `j` lies from query `i` of the block. -/
def distB (i : Fin 128) (j : Fin 256) : EReal := (((i : ℤ) + 128 - j : ℤ) : ℝ)
def dist (r : Fin 512) (j : Fin 256) : EReal := distB ⟨r % 128, by omega⟩ j

/-- Query head `a`'s slope of the distance penalty, `2 ^ -(a + 1)`. -/
def slope (a : Fin 8) : EReal := (((2 : ℝ) ^ ((a : ℕ) + 1))⁻¹ : ℝ)

variable (Q D : Fin 8 → Fin 4096 → Fin 64 → EReal) (K W : Fin 2 → Fin 4096 → Fin 64 → EReal) (sk : Fin 8 → EReal)

def lg (h : Fin 2) (n : Fin 32) (r : Fin 512) (j : Fin 256) : EReal :=
  (∑ d : Fin 64, Q (hd h r) (qrow n r) d * K h (krow n j) d) * cScale - slope (hd h r) * dist r j
/-- The masked logits, and the products of the incoming gradient with the values. -/
def X (h : Fin 2) (n : Fin 32) (r : Fin 512) (j : Fin 256) : EReal := Scalar.select (ok n r j) (lg Q K h n r j) cBot
def DA (h : Fin 2) (n : Fin 32) (r : Fin 512) (j : Fin 256) : EReal := ∑ d : Fin 64, D (hd h r) (qrow n r) d * W h (krow n j) d
/-- The gradient of the unmasked products, and the probabilities. -/
def DL (h : Fin 2) (n : Fin 32) (r : Fin 512) (j : Fin 256) : EReal :=
  dl (X Q K h n r) (DA D W h n r) (sk (hd h r)) (ok n r) j
def PR (h : Fin 2) (n : Fin 32) (r : Fin 512) (j : Fin 256) : EReal := pr (X Q K h n r) (sk (hd h r)) j

/-- The four gradients a block gives: the queries', the window's keys' and values', and the row's share of the sink's. -/
def dQb (h : Fin 2) (n : Fin 32) (r : Fin 512) (d : Fin 64) : EReal := ∑ j : Fin 256, DL Q D K W sk h n r j * K h (krow n j) d
def dKb (h : Fin 2) (n : Fin 32) (j : Fin 256) (d : Fin 64) : EReal := ∑ r : Fin 512, DL Q D K W sk h n r j * Q (hd h r) (qrow n r) d
def dVb (h : Fin 2) (n : Fin 32) (j : Fin 256) (d : Fin 64) : EReal := ∑ r : Fin 512, PR Q K sk h n r j * D (hd h r) (qrow n r) d
def dSb (h : Fin 2) (n : Fin 32) (r : Fin 512) : EReal :=
  dse (X Q K h n r) (DA D W h n r) (sk (hd h r)) + dsm (X Q K h n r) (DA D W h n r) (sk (hd h r))

/-- Position `t`'s key (or value) gradient: what its own block gives it, and what the next block, if any, gives it. -/
def twoBlocks (f : Fin 2 → Fin 32 → Fin 256 → Fin 64 → EReal) (h : Fin 2) (t : Fin 4096) (d : Fin 64) : EReal :=
  f h ⟨t / 128, by omega⟩ ⟨128 + t % 128, by omega⟩ d
    + if hn : (t : ℕ) / 128 + 1 < 32 then f h ⟨t / 128 + 1, hn⟩ ⟨t % 128, by omega⟩ d else 0

end Cert.Swa

end
-- ==== Proof.Swa.Kern.lean ====
/- What the kernel's body leaves in each output block at a grid point, and the output arrays after the run. -/
module

public import proofs.«01_k».proof.Proof.Swa.Block
public import proofs.«01_k».proof.Proof.Swa.Spec
public import proofs.«01_k».proof.Proof.Gen.KernelIdeal.Frame
public import Idealize.ShloMosaic.Lib.Pipeline.ValueKit

@[expose] public section

set_option maxRecDepth 16384

noncomputable section

namespace Cert.Swa

open Idealize.ShloMosaic Idealize.ShloMosaic.TcCoe Idealize.SL.Sem
open Idealize.ShloMosaic.Pipeline (Dat)
open Cert.KernelIdeal Cert.KernelIdeal.Gen

/-! ## A point's blocks as functions of its input blocks -/

section Blk
variable (n : BitVec 32) (x0 : Vec Ideal S1x4x128x64 .f32) (x1 x2 x3 x4 : Vec Ideal S1x128x64 .f32)
  (x5 x6 : Vec Ideal S1x512x1 .f32) (x7 : Vec Ideal S1x4x128x64 .f32)

/-- The column numbers, the mask, and the masked logits of a block. -/
abbrev bI : IVec S512x256 32 := iota .tc S512x256 32 [1] iota_S512x256_d1_w32
abbrev bOk : IVec S512x256 1 := k0_pay11 n bI k0_pay9 k0_pay10
abbrev bS : FVec Ideal S512x256 .f32 := k0_pay8 x0 x1 x2
abbrev bM : FVec Ideal S512x256 .f32 := k0_pay12 n (k0_pay4 x6) (bS x0 x1 x2) bI k0_pay9 k0_pay10
abbrev bEx : FVec Ideal S512x256 .f32 := k0_pay20 n (k0_pay4 x6) (k0_pay5 x5) (bS x0 x1 x2) bI k0_pay9 k0_pay10
abbrev bSum : FVec Ideal S512x1 .f32 := k0_pay21 n (k0_pay4 x6) (k0_pay5 x5) (bS x0 x1 x2) bI k0_pay9 k0_pay10
abbrev bEs : FVec Ideal S512x1 .f32 := k0_pay22 n (k0_pay4 x6) (k0_pay5 x5) (bS x0 x1 x2) bI k0_pay9 k0_pay10
/-- The masked logits' gradient, the values' block gradient, and the sinks'. -/
abbrev bDx : FVec Ideal S512x256 .f32 :=
  k0_pay32 (k0_pay7 x3 x4) (k0_pay14 n (k0_pay4 x6) (bS x0 x1 x2) bI k0_pay9 k0_pay10)
    (k0_pay15 n (k0_pay4 x6) (bS x0 x1 x2) bI k0_pay9 k0_pay10)
    (k0_pay18 n (k0_pay4 x6) (k0_pay5 x5) (bS x0 x1 x2) bI k0_pay9 k0_pay10)
    (bEx n x0 x1 x2 x5 x6) (bSum n x0 x1 x2 x5 x6) (bEs n x0 x1 x2 x5 x6) x7
abbrev bDv : FVec Ideal S256x64 .f32 := k0_pay26 (bEx n x0 x1 x2 x5 x6) (bSum n x0 x1 x2 x5 x6) (bEs n x0 x1 x2 x5 x6) x7
abbrev bSink : FVec Ideal S512x1 .f32 :=
  k0_pay31 (k0_pay7 x3 x4) (k0_pay19 n (k0_pay4 x6) (k0_pay5 x5) (bS x0 x1 x2) bI k0_pay9 k0_pay10)
    (bEx n x0 x1 x2 x5 x6) (bSum n x0 x1 x2 x5 x6) (bEs n x0 x1 x2 x5 x6) x7

end Blk

variable (m : (ℓ : Loc nD τ sig) → Buf (Elt Ideal) ℓ) (c : Dev nD)

/-- The block number of a grid point, as the body reads it. -/
abbrev pn (t : Fin cfg0.N) : BitVec 32 := BitVec.ofNat 32 (grid0.coords t 1).val

/-- The six output blocks of a point, over what the sinks' block held before. -/
abbrev blocks (t : Fin cfg0.N) (s : Vec Ideal S1x512x1 .f32) :
    Vec Ideal S1x4x128x64 .f32 × Vec Ideal S1x128x64 .f32 × Vec Ideal S1x128x64 .f32 × Vec Ideal S1x128x64 .f32
      × Vec Ideal S1x128x64 .f32 × Vec Ideal S1x512x1 .f32 :=
  let x0 := iblk m c 0 t; let x1 := iblk m c 1 t; let x2 := iblk m c 2 t; let x3 := iblk m c 3 t
  let x4 := iblk m c 4 t; let x5 := iblk m c 5 t; let x6 := iblk m c 6 t; let x7 := iblk m c 7 t
  let dx := bDx (pn t) x0 x1 x2 x3 x4 x5 x6 x7
  let dv := bDv (pn t) x0 x1 x2 x5 x6 x7
  (k0_pay35 (k0_pay6 x1 x2) (bOk (pn t)) dx, k0_pay36 (k0_pay3 x0) (bOk (pn t)) dx, k0_pay37 (k0_pay3 x0) (bOk (pn t)) dx,
    k0_pay38 dv, k0_pay39 dv, k0_pay2 (bSink (pn t) x0 x1 x2 x3 x4 x5 x6 x7) s)

theorem outs_A (t : Fin cfg0.N) (h : t.val % 32 = 0) : outsAt0 m c t.val t.isLt = blocks m c t (k0_pay1 (F := Ideal)) := by
  rw [outsAt0_A m c t h]
  frame_out

theorem outs_B (t : Fin cfg0.N) (h : ¬t.val % 32 = 0) : outsAt0 m c t.val t.isLt
    = blocks m c t (outsAt0 m c (t.val - 1) (Nat.lt_of_le_of_lt (Nat.sub_le _ _) t.isLt)).2.2.2.2.2 := by
  rw [outsAt0_B m c t h]
  frame_out

end Cert.Swa
end
-- ==== Proof.Swa.Word.lean ====
/- The kernel's index words: the distance of a key from a query and the mask, as numbers. -/
module

public import proofs.«01_k».proof.Proof.Swa.Kern

@[expose] public section

noncomputable section

namespace Cert.Swa

open Idealize.ShloMosaic Cert.KernelIdeal Cert.KernelIdeal.Gen

theorem and127 (r : Fin 512) : BitVec.ofNat 32 (r : ℕ) &&& 127#32 = BitVec.ofNat 32 ((r : ℕ) % 128) := by
  apply BitVec.eq_of_toNat_eq
  rw [BitVec.toNat_and, BitVec.toNat_ofNat, BitVec.toNat_ofNat]
  have := r.isLt
  rw [Nat.mod_eq_of_lt (by omega : (r : ℕ) < 2 ^ 32)]
  show (r : ℕ) &&& (2 ^ 7 - 1) = _
  rw [Nat.and_two_pow_sub_one_eq_mod]
  exact (Nat.mod_eq_of_lt (by omega)).symm

theorem pay9_at (r : Fin 512) (j : Fin 256) :
    k0_pay9 (ix2 r j) = BitVec.ofNat 32 ((r : ℕ) % 128) + 128#32 - BitVec.ofNat 32 (j : ℕ) := by
  pointwise [k0_pay9]
  rw [← and127]; rfl

theorem pay9_toInt (r : Fin 512) (j : Fin 256) : (k0_pay9 (ix2 r j)).toInt = ((r : ℕ) % 128 : ℕ) + 128 - ((j : ℕ) : ℤ) := by
  rw [pay9_at]
  have := r.isLt; have := j.isLt
  have h : (r : ℕ) % 128 < 128 := Nat.mod_lt _ (by norm_num)
  generalize (r : ℕ) % 128 = i at h
  rw [BitVec.toInt_eq_toNat_bmod]
  simp only [BitVec.toNat_sub, BitVec.toNat_add, BitVec.toNat_ofNat]
  rw [Int.bmod_def]
  split <;> omega

theorem first_toInt (n : Fin 32) (j : Fin 256) :
    ((BitVec.ofNat 32 (n : ℕ) - 1#32) * 128#32 + BitVec.ofNat 32 (j : ℕ)).toInt = ((n : ℕ) : ℤ) * 128 - 128 + ((j : ℕ) : ℤ) := by
  have := n.isLt; have := j.isLt
  rw [BitVec.toInt_eq_toNat_bmod]
  simp only [BitVec.toNat_sub, BitVec.toNat_add, BitVec.toNat_mul, BitVec.toNat_ofNat]
  rw [Int.bmod_def]
  split <;> omega

theorem cmpi_sge (a b : BitVec 32) : IntOp.cmpi .sge a b = if b.toInt ≤ a.toInt then 1#1 else 0#1 := by
  simp only [IntOp.cmpi, BitVec.sle_eq_decide]; split <;> rename_i h <;> simp only [h, decide_true, decide_false] <;> rfl
theorem cmpi_slt (a b : BitVec 32) : IntOp.cmpi .slt a b = if a.toInt < b.toInt then 1#1 else 0#1 := by
  simp only [IntOp.cmpi, BitVec.slt_eq_decide]; split <;> rename_i h <;> simp only [h, decide_true, decide_false] <;> rfl

/-- Three comparisons' bits, together. -/
theorem andi_ite (p q s t : Prop) [Decidable p] [Decidable q] [Decidable s] [Decidable t] (h : (p ∧ q) ∧ s ↔ t) :
    IntOp.andi (IntOp.andi (if p then 1#1 else 0#1) (if q then 1#1 else 0#1)) (if s then 1#1 else 0#1) = if t then 1#1 else 0#1 := by
  rw [if_congr h.symm rfl rfl]
  by_cases p <;> by_cases q <;> by_cases s <;> simp_all [IntOp.andi]

theorem bOk_at (n : Fin 32) (r : Fin 512) (j : Fin 256) : bOk (BitVec.ofNat 32 (n : ℕ)) (ix2 r j) = ok n r j := by
  pointwise [k0_pay11, k0_pay10]
  rw [cmpi_sge, cmpi_slt, cmpi_sge, pay9_toInt]
  refine andi_ite _ _ _ _ ?_
  change (_ ∧ _) ∧ _ ≤ ((BitVec.ofNat 32 (n : ℕ) - 1#32) * 128#32 + BitVec.ofNat 32 (j : ℕ)).toInt ↔ _
  rw [first_toInt]
  rw [show (0#32 : BitVec 32).toInt = 0 from rfl, show (128#32 : BitVec 32).toInt = 128 from rfl]
  dsimp only
  omega

end Cert.Swa
end
-- ==== Proof.Swa.Point.lean ====
/- The kernel's output blocks over whole arrays: each is the gradient of `Spec` at its block. -/
module

public import proofs.«01_k».proof.Proof.Swa.Word
public import Idealize.ShloMosaic.Lib.StableHlo.ReadAt

@[expose] public section

set_option maxRecDepth 16384

noncomputable section

namespace Cert.Swa

open Idealize.ShloMosaic Idealize.ShloMosaic.TcCoe Idealize.SL.Sem
open Idealize.ShloMosaic.Pipeline (Dat)
open Cert.KernelIdeal Cert.KernelIdeal.Gen

/-- A [4096,512] array as eight heads of [4096,64], a [4096,128] one as two. -/
def heads8 (x : FVec Ideal S4096x512 .f32) (a : Fin 8) (t : Fin 4096) (d : Fin 64) : EReal :=
  x (ix2 t (⟨a * 64 + d, by omega⟩ : Fin 512))
def heads2 (x : FVec Ideal S4096x128 .f32) (h : Fin 2) (t : Fin 4096) (d : Fin 64) : EReal :=
  x (ix2 t (⟨h * 64 + d, by omega⟩ : Fin 128))
def sinks8 (x : FVec Ideal S1x8 .f32) (a : Fin 8) : EReal := x (ix2 0 a)

variable (m : (ℓ : Loc nD τ sig) → Buf (Elt Ideal) ℓ) (c : Dev nD)

/-- The arguments on core `c`. -/
abbrev aQ := heads8 (m ((c : Thread nD τ).loc main_arg0))
abbrev aK := heads2 (m ((c : Thread nD τ).loc main_arg1))
abbrev aV := heads2 (m ((c : Thread nD τ).loc main_arg2))
abbrev aS := sinks8 (m ((c : Thread nD τ).loc main_arg3))
abbrev aD := heads8 (m ((c : Thread nD τ).loc main_arg4))

theorem V_q (h : Fin 2) (g : Fin 4) (t : Fin 4096) (d : Fin 64) :
    V m c main_v2 (ix4 h g t d) = aQ m c ⟨h * 4 + g, by omega⟩ t d := by
  unfold V V0; after_reads_at; rfl

theorem V_k (h : Fin 2) (t : Fin 4096) (d : Fin 64) : V m c main_v4 (ix3 h t d) = aK m c h t d := by
  unfold V V0; after_reads_at; rfl

theorem V_v (h : Fin 2) (t : Fin 4096) (d : Fin 64) : V m c main_v6 (ix3 h t d) = aV m c h t d := by
  unfold V V0; after_reads_at; rfl

theorem V_s (h : Fin 2) (r : Fin 512) : V m c main_v10 (ix3 h r 0) = aS m c (hd h r) := by
  unfold V V0; after_reads_at
  have e : (⟨((h : ℕ) * 512 + r) / 128, by omega⟩ : Fin 8) = hd h r := by unfold hd; ext; dsimp only; omega
  rw [e]; rfl

theorem V_d (h : Fin 2) (g : Fin 4) (t : Fin 4096) (d : Fin 64) :
    V m c main_v13 (ix4 h g t d) = aD m c ⟨h * 4 + g, by omega⟩ t d := by
  unfold V V0; after_reads_at; rfl

/-- The table of slopes: entry `i` is the float `2 ^ -(i / 128 + 1)`. -/
theorem lit0_eq : ∀ i : Fin 1024, lit0 i = BitVec.ofNat 32 ((126 - (i : ℕ) / 128) * 8388608) := by decide +kernel

theorem slope_bits (a : Fin 8) : Ideal.ofBits .f32 (BitVec.ofNat 32 ((126 - (a : ℕ)) * 8388608)) = slope a := by
  fin_cases a <;> simp [slope, Ideal.ofBits, Ideal.ieee] <;> rw [← EReal.coe_mul] <;> norm_num

theorem V_l (h : Fin 2) (r : Fin 512) : V m c main_cst (ix3 h r 0) = slope (hd h r) := by
  unfold V V0; after_reads_at
  rw [← slope_bits]
  congr 1
  refine (lit0_eq _).trans ?_
  have e : (S2x512x1.rowMajor (ix3 h r 0) : ℕ) = h * 512 + r :=
    (rowMajor_val3 _ 512 1 rfl rfl).trans (by show (h : ℕ) * 512 + (r : ℕ) * 1 + 0 = _; omega)
  have e' : ((h : ℕ) * 512 + r) / 128 = h * 4 + r / 128 := by omega
  rw [e, e']; rfl

theorem idx0 : ∀ t : Fin cfg0.N, (t : ℕ) < 64 ∧ win0_0.index t = ![t.val / 32, 0, t.val % 32, 0] ∧ win0_1.index t = ![t.val / 32, t.val % 32 - 1, 0]
    ∧ win0_2.index t = ![t.val / 32, t.val % 32, 0] ∧ win0_3.index t = ![t.val / 32, t.val % 32 - 1, 0] ∧ win0_4.index t = ![t.val / 32, t.val % 32, 0]
    ∧ win0_5.index t = ![t.val / 32, 0, 0] ∧ win0_6.index t = ![t.val / 32, 0, 0] ∧ win0_7.index t = ![t.val / 32, 0, t.val % 32, 0]
    ∧ win0_8.index t = ![t.val / 32, 0, t.val % 32, 0] ∧ win0_9.index t = ![t.val / 32, t.val % 32, 0] ∧ win0_10.index t = ![t.val / 32, t.val % 32, 0]
    ∧ win0_11.index t = ![t.val / 32, t.val % 32, 0] ∧ win0_12.index t = ![t.val / 32, t.val % 32, 0] ∧ win0_13.index t = ![t.val / 32, 0, 0]
    ∧ (grid0.coords t 1).val = t.val % 32 := by decide +kernel

/-- A point's kv head and block number. -/
def ph (t : Fin cfg0.N) : Fin 2 := ⟨t.val / 32, by have := (idx0 t).1; omega⟩
def pb (t : Fin cfg0.N) : Fin 32 := ⟨t.val % 32, by omega⟩

section Reads
variable (t : Fin cfg0.N)

theorem blk_q (r : Fin 512) (d : Fin 64) : k0_pay3 (iblk m c 0 t) (ix2 r d) = aQ m c (hd (ph t) r) (qrow (pb t) r) d := by
  rw [pay3_at]
  refine Eq.trans ?_ (V_q m c (ph t) ⟨r / 128, by omega⟩ (qrow (pb t) r) d)
  obtain ⟨_, e, _⟩ := idx0 t
  blk_ext [iblk, V, e] <;> simp [ph, pb, qrow]

theorem blk_d (r : Fin 512) (d : Fin 64) : k0_pay24 (iblk m c 7 t) (ix2 r d) = aD m c (hd (ph t) r) (qrow (pb t) r) d := by
  rw [pay24_at]
  refine Eq.trans ?_ (V_d m c (ph t) ⟨r / 128, by omega⟩ (qrow (pb t) r) d)
  obtain ⟨_, _, _, _, _, _, _, _, e, _⟩ := idx0 t
  blk_ext [iblk, V, e] <;> simp [ph, pb, qrow]

theorem blk_k (j : Fin 256) (d : Fin 64) : k0_pay6 (iblk m c 1 t) (iblk m c 2 t) (ix2 j d) = aK m c (ph t) (krow (pb t) j) d := by
  rw [pay6_at]
  refine Eq.trans ?_ (V_k m c (ph t) (krow (pb t) j) d)
  obtain ⟨_, _, e, e', _⟩ := idx0 t
  split <;> rename_i h
  · blk_ext [iblk, V, e] <;> simp [ph, pb, krow, h]
  · blk_ext [iblk, V, e'] <;> simp [ph, pb, krow, h]

theorem blk_v (j : Fin 256) (d : Fin 64) : k0_pay7 (iblk m c 3 t) (iblk m c 4 t) (ix2 j d) = aV m c (ph t) (krow (pb t) j) d := by
  rw [pay7_at]
  refine Eq.trans ?_ (V_v m c (ph t) (krow (pb t) j) d)
  obtain ⟨_, _, _, _, e, e', _⟩ := idx0 t
  split <;> rename_i h
  · blk_ext [iblk, V, e] <;> simp [ph, pb, krow, h]
  · blk_ext [iblk, V, e'] <;> simp [ph, pb, krow, h]

theorem blk_s (r : Fin 512) : k0_pay5 (iblk m c 5 t) (ix2 r 0) = aS m c (hd (ph t) r) := by
  rw [pay5_at]
  refine Eq.trans ?_ (V_s m c (ph t) r)
  obtain ⟨_, _, _, _, _, _, e, _⟩ := idx0 t
  blk_ext [iblk, V, e] <;> simp [ph]

theorem blk_l (r : Fin 512) : k0_pay4 (iblk m c 6 t) (ix2 r 0) = slope (hd (ph t) r) := by
  rw [pay4_at]
  refine Eq.trans ?_ (V_l m c (ph t) r)
  obtain ⟨_, _, _, _, _, _, _, e, _⟩ := idx0 t
  blk_ext [iblk, V, e] <;> simp [ph]

theorem ok_at (r : Fin 512) (j : Fin 256) : bOk (pn t) (ix2 r j) = ok (pb t) r j := by
  have e : pn t = BitVec.ofNat 32 (pb t : ℕ) := by
    have := (idx0 t).2.2.2.2.2.2.2.2.2.2.2.2.2.2.2
    simp only [pn, pb, this]
  rw [e]; exact bOk_at _ _ _

/-- The masked logits of a point, the products of the gradient with the values, and the two gradients of its rows. -/
theorem X_at (r : Fin 512) (j : Fin 256) :
    bM (pn t) (iblk m c 0 t) (iblk m c 1 t) (iblk m c 2 t) (iblk m c 6 t) (ix2 r j) = X (aQ m c) (aK m c) (ph t) (pb t) r j := by
  pointwise [k0_pay12]
  have e := ok_at t r j
  unfold bOk at e
  unfold bS
  rw [e, pay8_at, blk_l]
  simp only [blk_q, blk_k]
  unfold X lg
  congr 3
  exact congrArg (fun z : ℤ => ((z : ℝ) : EReal)) (pay9_toInt r j)

theorem DA_at (r : Fin 512) (j : Fin 256) :
    k0_pay25 (k0_pay7 (iblk m c 3 t) (iblk m c 4 t)) (iblk m c 7 t) (ix2 r j) = DA (aD m c) (aV m c) (ph t) (pb t) r j := by
  rw [pay25_at]
  simp only [blk_d, blk_v]; rfl

theorem ex_at (r : Fin 512) (j : Fin 256) :
    bEx (pn t) (iblk m c 0 t) (iblk m c 1 t) (iblk m c 2 t) (iblk m c 5 t) (iblk m c 6 t) (ix2 r j)
      = ex (X (aQ m c) (aK m c) (ph t) (pb t) r) (aS m c (hd (ph t) r)) j := by
  rw [← blk_s m c t r]; exact pay20_at _ _ _ _ _ _ _ r j (X_at m c t r)

theorem sum_at (r : Fin 512) :
    bSum (pn t) (iblk m c 0 t) (iblk m c 1 t) (iblk m c 2 t) (iblk m c 5 t) (iblk m c 6 t) (ix2 r 0)
      = ∑ j, ex (X (aQ m c) (aK m c) (ph t) (pb t) r) (aS m c (hd (ph t) r)) j := by
  rw [← blk_s m c t r]; exact pay21_at _ _ _ _ _ _ _ r (X_at m c t r)

theorem es_at (r : Fin 512) :
    bEs (pn t) (iblk m c 0 t) (iblk m c 1 t) (iblk m c 2 t) (iblk m c 5 t) (iblk m c 6 t) (ix2 r 0)
      = es (X (aQ m c) (aK m c) (ph t) (pb t) r) (aS m c (hd (ph t) r)) := by
  rw [← blk_s m c t r]; exact pay22_at _ _ _ _ _ _ _ r (X_at m c t r)

theorem DL_at (r : Fin 512) (j : Fin 256) :
    k0_pay33 (bOk (pn t)) (bDx (pn t) (iblk m c 0 t) (iblk m c 1 t) (iblk m c 2 t) (iblk m c 3 t) (iblk m c 4 t) (iblk m c 5 t)
      (iblk m c 6 t) (iblk m c 7 t)) (ix2 r j) = DL (aQ m c) (aD m c) (aK m c) (aV m c) (aS m c) (ph t) (pb t) r j := by
  rw [pay33_at, ok_at]
  unfold DL dl
  have e := pay32_at _ _ _ _ _ _ _ _ r j (X (aQ m c) (aK m c) (ph t) (pb t) r) (DA (aD m c) (aV m c) (ph t) (pb t) r) (aS m c (hd (ph t) r))
    (ex_at m c t r) (sum_at m c t r) (es_at m c t r) (DA_at m c t r) (pay14_at _ _ _ _ _ _ r j (X_at m c t r))
    (pay15_at _ _ _ _ _ _ r (X_at m c t r))
    ((pay18_at _ _ (k0_pay5 (iblk m c 5 t)) _ _ _ _ r (X_at m c t r)).trans (by rw [blk_s]))
  unfold bDx
  rw [e]

theorem sink_at (r : Fin 512) :
    bSink (pn t) (iblk m c 0 t) (iblk m c 1 t) (iblk m c 2 t) (iblk m c 3 t) (iblk m c 4 t) (iblk m c 5 t)
      (iblk m c 6 t) (iblk m c 7 t) (ix2 r 0) = dSb (aQ m c) (aD m c) (aK m c) (aV m c) (aS m c) (ph t) (pb t) r := by
  refine pay31_at _ _ _ _ _ _ r (X (aQ m c) (aK m c) (ph t) (pb t) r) (DA (aD m c) (aV m c) (ph t) (pb t) r) (aS m c (hd (ph t) r))
    (ex_at m c t r) (sum_at m c t r) (es_at m c t r) (DA_at m c t r) ?_
  rw [← blk_s m c t r]; exact pay19_at _ _ _ _ _ _ _ r (X_at m c t r)

theorem dK_at (j : Fin 256) (d : Fin 64) :
    k0_pay34 (k0_pay3 (iblk m c 0 t)) (bOk (pn t)) (bDx (pn t) (iblk m c 0 t) (iblk m c 1 t) (iblk m c 2 t) (iblk m c 3 t)
      (iblk m c 4 t) (iblk m c 5 t) (iblk m c 6 t) (iblk m c 7 t)) (ix2 j d)
      = dKb (aQ m c) (aD m c) (aK m c) (aV m c) (aS m c) (ph t) (pb t) j d := by
  rw [pay34_at]
  simp only [DL_at, blk_q]; rfl

theorem dV_at (j : Fin 256) (d : Fin 64) :
    bDv (pn t) (iblk m c 0 t) (iblk m c 1 t) (iblk m c 2 t) (iblk m c 5 t) (iblk m c 6 t) (iblk m c 7 t) (ix2 j d)
      = dVb (aQ m c) (aD m c) (aK m c) (aS m c) (ph t) (pb t) j d := by
  refine (pay26_at _ _ _ _ j d).trans ?_
  refine Finset.sum_congr rfl fun r _ => ?_
  rw [ex_at, blk_d, pay23_at _ _ r _ _ (sum_at m c t r) (es_at m c t r)]; rfl

theorem dQ_at (u : Fin 1) (g : Fin 4) (i : Fin 128) (d : Fin 64) :
    k0_pay35 (k0_pay6 (iblk m c 1 t) (iblk m c 2 t)) (bOk (pn t)) (bDx (pn t) (iblk m c 0 t) (iblk m c 1 t) (iblk m c 2 t)
      (iblk m c 3 t) (iblk m c 4 t) (iblk m c 5 t) (iblk m c 6 t) (iblk m c 7 t)) (ix4 u g i d)
      = dQb (aQ m c) (aD m c) (aK m c) (aV m c) (aS m c) (ph t) (pb t) ⟨g * 128 + i, by omega⟩ d := by
  rw [pay35_at]
  simp only [DL_at, blk_k]; rfl

end Reads

/-- The first five blocks a point leaves do not depend on what the sinks' block held. -/
theorem outs_eq (t : Fin cfg0.N) : ∃ s, outsAt0 m c t.val t.isLt = blocks m c t s := by
  by_cases h : t.val % 32 = 0
  · exact ⟨_, outs_A m c t h⟩
  · exact ⟨_, outs_B m c t h⟩

end Cert.Swa
end
-- ==== Proof.Swa.Arrays.lean ====
/- What the region leaves in its six result arrays: the gradients of `Spec`, block by block. -/
module

public import proofs.«01_k».proof.Proof.Swa.Point

@[expose] public section

set_option maxRecDepth 16384

noncomputable section

namespace Cert.Swa

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

/-- A point's gradients of queries, keys, values and sinks, of the arguments on core `c`. -/
abbrev kQ := dQb (aQ m c) (aD m c) (aK m c) (aV m c) (aS m c)
abbrev kK := dKb (aQ m c) (aD m c) (aK m c) (aV m c) (aS m c)
abbrev kV := dVb (aQ m c) (aD m c) (aK m c) (aS m c)
abbrev kS := dSb (aQ m c) (aD m c) (aK m c) (aV m c) (aS m c)

/-- A position's block, and where it lies there. -/
def bn (t : Fin 4096) : Fin 32 := ⟨t / 128, by omega⟩
def bi (t : Fin 4096) : Fin 128 := ⟨t % 128, by omega⟩
def rw4 (g : Fin 4) (i : Fin 128) : Fin 512 := ⟨g * 128 + i, by omega⟩
def lo (i : Fin 128) : Fin 256 := ⟨i, by omega⟩
def hi (i : Fin 128) : Fin 256 := ⟨128 + i, by omega⟩

/-- The queries' gradient as the region's array, a half (`o`) of a block gradient of 256 rows as one, and the sinks'. -/
def gQ (f : Fin 2 → Fin 32 → Fin 512 → Fin 64 → EReal) : FVec Ideal S2x4x4096x64 .f32 := fun i =>
  f (i 0) (bn (i 2)) (rw4 (i 1) (bi (i 2))) (i 3)
def gHalf (o : Fin 128 → Fin 256) (f : Fin 2 → Fin 32 → Fin 256 → Fin 64 → EReal) : FVec Ideal S2x4096x64 .f32 := fun i =>
  f (i 0) (bn (i 1)) (o (bi (i 1))) (i 2)
def gS (f : Fin 2 → Fin 32 → Fin 512 → EReal) : FVec Ideal S2x512x1 .f32 := fun i => ∑ n : Fin 32, f (i 0) n (i 1)

/-- Position `i` of block `n`. -/
def pos (n : Fin 32) (i : Fin 128) : Fin 4096 := ⟨n * 128 + i, by omega⟩
theorem bn_pos (n : Fin 32) (i : Fin 128) : bn (pos n i) = n := by ext; simp only [bn, pos]; omega
theorem bi_pos (n : Fin 32) (i : Fin 128) : bi (pos n i) = i := by ext; simp only [bi, pos]; omega

theorem gQ_at (f : Fin 2 → Fin 32 → Fin 512 → Fin 64 → EReal) (h : Fin 2) (g : Fin 4) (n : Fin 32) (i : Fin 128) (d : Fin 64) :
    gQ f (ix4 h g (pos n i) d) = f h n (rw4 g i) d := by
  show f h (bn (pos n i)) (rw4 g (bi (pos n i))) d = _
  rw [bn_pos, bi_pos]

theorem gHalf_at (o : Fin 128 → Fin 256) (f : Fin 2 → Fin 32 → Fin 256 → Fin 64 → EReal) (h : Fin 2) (n : Fin 32) (i : Fin 128)
    (d : Fin 64) : gHalf o f (ix3 h (pos n i) d) = f h n (o i) d := by
  show f h (bn (pos n i)) (o (bi (pos n i))) d = _
  rw [bn_pos, bi_pos]

theorem arr_q : (dats m 0 c).arrAt 8 cfg0.N = gQ (kQ m c) := by
  refine (dats m 0 c).arrAt_eq_of_covers 8 _ (by decide +kernel) fun t hf y => ?_
  blk_simp
  obtain ⟨s, e⟩ := outs_eq m c t
  rw [after0_8, e]
  obtain ⟨_, _, _, _, _, _, _, _, _, e8, _⟩ := idx0 t
  have key := dQ_at m c t (y 0) (y 1) (y 2) (y 3)
  rw [← eq_ix4 (n0 := 1) (n1 := 4) (n2 := 128) (n3 := 64) y] at key
  refine key.trans ((gQ_at _ (ph t) (y 1) (pb t) (y 2) (y 3)).symm.trans (congrArg (gQ (kQ m c)) ?_))
  blk_ext [e8] <;> simp [ph, pb, pos]

/-- One of the four halves: the array is the half of the block gradient that every point leaves in it. -/
theorem arr_kp : (dats m 0 c).arrAt 9 cfg0.N = gHalf lo (kK m c) := by
  refine (dats m 0 c).arrAt_eq_of_covers 9 _ (by decide +kernel) fun t hf y => ?_
  blk_simp
  obtain ⟨s, e⟩ := outs_eq m c t
  rw [after0_9, e]
  obtain ⟨_, _, _, _, _, _, _, _, _, _, e9, _⟩ := idx0 t
  have key := (pay36_at _ _ _ (y 0) (y 1) (y 2)).trans (dK_at m c t (lo (y 1)) (y 2))
  rw [← eq_ix3 (n0 := 1) (n1 := 128) (n2 := 64) y] at key
  refine key.trans ((gHalf_at lo _ (ph t) (pb t) (y 1) (y 2)).symm.trans (congrArg (gHalf lo (kK m c)) ?_))
  blk_ext [e9] <;> simp [ph, pb, pos]

theorem arr_kc : (dats m 0 c).arrAt 10 cfg0.N = gHalf hi (kK m c) := by
  refine (dats m 0 c).arrAt_eq_of_covers 10 _ (by decide +kernel) fun t hf y => ?_
  blk_simp
  obtain ⟨s, e⟩ := outs_eq m c t
  rw [after0_10, e]
  obtain ⟨_, _, _, _, _, _, _, _, _, _, _, e10, _⟩ := idx0 t
  have key := (pay37_at _ _ _ (y 0) (y 1) (y 2)).trans (dK_at m c t (hi (y 1)) (y 2))
  rw [← eq_ix3 (n0 := 1) (n1 := 128) (n2 := 64) y] at key
  refine key.trans ((gHalf_at hi _ (ph t) (pb t) (y 1) (y 2)).symm.trans (congrArg (gHalf hi (kK m c)) ?_))
  blk_ext [e10] <;> simp [ph, pb, pos]

theorem arr_vp : (dats m 0 c).arrAt 11 cfg0.N = gHalf lo (kV m c) := by
  refine (dats m 0 c).arrAt_eq_of_covers 11 _ (by decide +kernel) fun t hf y => ?_
  blk_simp
  obtain ⟨s, e⟩ := outs_eq m c t
  rw [after0_11, e]
  obtain ⟨_, _, _, _, _, _, _, _, _, _, _, _, e11, _⟩ := idx0 t
  have key := (pay38_at _ (y 0) (y 1) (y 2)).trans (dV_at m c t (lo (y 1)) (y 2))
  rw [← eq_ix3 (n0 := 1) (n1 := 128) (n2 := 64) y] at key
  refine key.trans ((gHalf_at lo _ (ph t) (pb t) (y 1) (y 2)).symm.trans (congrArg (gHalf lo (kV m c)) ?_))
  blk_ext [e11] <;> simp [ph, pb, pos]

theorem arr_vc : (dats m 0 c).arrAt 12 cfg0.N = gHalf hi (kV m c) := by
  refine (dats m 0 c).arrAt_eq_of_covers 12 _ (by decide +kernel) fun t hf y => ?_
  blk_simp
  obtain ⟨s, e⟩ := outs_eq m c t
  rw [after0_12, e]
  obtain ⟨_, _, _, _, _, _, _, _, _, _, _, _, _, e12, _⟩ := idx0 t
  have key := (pay39_at _ (y 0) (y 1) (y 2)).trans (dV_at m c t (hi (y 1)) (y 2))
  rw [← eq_ix3 (n0 := 1) (n1 := 128) (n2 := 64) y] at key
  refine key.trans ((gHalf_at hi _ (ph t) (pb t) (y 1) (y 2)).symm.trans (congrArg (gHalf hi (kV m c)) ?_))
  blk_ext [e12] <;> simp [ph, pb, pos]

/-- The sinks' block of a point: what it held, and the point's share. -/
theorem step_at (t : Fin cfg0.N) (s : Vec Ideal S1x512x1 .f32) (u : Fin 1) (r : Fin 512) (z : Fin 1) :
    (blocks m c t s).2.2.2.2.2 (ix3 u r z) = s (ix3 u r z) + kS m c (ph t) (pb t) r := by
  obtain rfl : u = 0 := Subsingleton.elim _ _
  obtain rfl : z = 0 := Subsingleton.elim _ _
  refine (pay2_at _ _ 0 r 0).trans ?_
  rw [sink_at]

theorem step_eq (t : Fin cfg0.N) (s : Vec Ideal S1x512x1 .f32) (j : S1x512x1.Idx) :
    (blocks m c t s).2.2.2.2.2 j = s j + kS m c (ph t) (pb t) (j 1) := by
  have := step_at m c t s (j 0) (j 1) (j 2)
  rwa [← eq_ix3 (n0 := 1) (n1 := 512) (n2 := 1) j] at this

theorem arr_s : (dats m 0 c).arrAt 13 cfg0.N = gS (kS m c) := by
  refine (dats m 0 c).arrAt_eq_of_covers 13 _ (by decide +kernel) fun t hf y => ?_
  have hr := (flush0_13 t).mp hf
  blk_simp
  rw [after0_13]
  obtain ⟨ht, _, _, _, _, _, _, _, _, _, _, _, _, _, e13, _⟩ := idx0 t
  have acc := Pipeline.eq_sum_fin_of_reset_step_apply_of_flush (ι := S1x512x1.Idx)
    (fun n h => (outsAt0 m c n h).2.2.2.2.2) 32 (fun _ => (0 : EReal)) (fun t j => kS m c (ph t) (pb t) (j 1))
    (fun t h j => by
      rw [outs_A m c t h, step_eq]
      congr 1
      exact (congrArg _ (eq_ix3 (n0 := 1) (n1 := 512) (n2 := 1) j)).trans (pay1_at _ _ _))
    (fun t h j => by rw [outs_B m c t h, step_eq]) t hr y
  refine acc.trans ?_
  rw [zero_add]
  unfold gS
  refine Finset.sum_congr rfl fun s _ => ?_
  have q0 : ((win0_13.blk t).view.emb y 0 : Fin 2) = ph t := by ext; blk_simp [e13]; simp [ph]
  have q1 : ((win0_13.blk t).view.emb y 1 : Fin 512) = (y 1 : Fin 512) := by ext; blk_simp [e13]
  rw [q0, q1]
  have hs := s.isLt
  congr 1 <;> ext <;> simp only [ph, pb] <;> omega

end Cert.Swa

end
-- ==== Proof.Swa.Tail.lean ====
/- The four results of the kernel's program: what its last host operations make of the region's arrays. -/
module

public import proofs.«01_k».proof.Proof.Swa.Arrays

@[expose] public section

set_option maxRecDepth 16384

noncomputable section

namespace Cert.Swa

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

/-- A half of the block gradients shifted back by a block, zero at the last block. -/
theorem shift_at (f : Fin 2 → Fin 32 → Fin 256 → Fin 64 → EReal) (h : Fin 2) (t : Fin 4096) (d : Fin 64) :
    gHalf hi f (ix3 h t d) + (if ht : (t : ℕ) < 3968 then gHalf lo f (ix3 h (⟨128 + t, by omega⟩ : Fin 4096) d) else 0)
      = twoBlocks f h t d := by
  unfold twoBlocks
  congr 1
  by_cases ht : (t : ℕ) < 3968
  · rw [dif_pos ht, dif_pos (by omega)]
    show f h (bn ⟨128 + t, _⟩) (lo (bi ⟨128 + t, _⟩)) d = _
    congr 1
    · congr 1
      ext; simp only [bn]; omega
    · ext; simp only [lo, bi]; omega
  · rw [dif_neg ht, dif_neg (by omega)]

/-! The last host operations, over any contents `U` they start from. -/

/-- A buffer after the last host operations. -/
abbrev out (U : Valuation τ sig (Elt Ideal)) (b : Ref sig .tc) :=
  StableHlo.after (List.flatten [hostOps1, hostOps1_1, hostOps1_2, hostOps1_3, hostOps1_4]) U (Proc.devRef .tc b)

section Out
variable (U : Valuation τ sig (Elt Ideal))

theorem out_q (f : Fin 2 → Fin 32 → Fin 512 → Fin 64 → EReal) (hq : U (Proc.devRef .tc main_v14_0) = gQ f) (t : Fin 4096) (a : Fin 512) :
    out U main_v26 (ix2 t a) = f ⟨a / 256, by omega⟩ (bn t) (rw4 ⟨a / 64 % 4, by omega⟩ (bi t)) ⟨a % 64, by omega⟩ := by
  unfold out
  after_reads_at
  rw [hq]
  have e : (⟨a / 64 / 4, by omega⟩ : Fin 2) = ⟨a / 256, by omega⟩ := by ext; simp only; omega
  rw [e]; rfl

/-- The shifted halves, the keys' and the values', and the results from them. -/
theorem pad_k (f : Fin 2 → Fin 32 → Fin 256 → Fin 64 → EReal) (hp : U (Proc.devRef .tc main_v14_1) = gHalf lo f)
    (h : Fin 2) (t : Fin 4096) (d : Fin 64) : StableHlo.after (hostOps1 ++ hostOps1_1) U (Proc.devRef .tc main_v16) (ix3 h t d)
      = if ht : (t : ℕ) < 3968 then gHalf lo f (ix3 h (⟨128 + t, by omega⟩ : Fin 4096) d) else 0 := by
  after_reads_at
  by_cases ht : (t : ℕ) < 3968
  · rw [dif_pos ht, dif_pos ht]
    exact congrFun hp _
  · rw [dif_neg ht, dif_neg ht]; simp [FloatOps.sitofp]

theorem pad_v (f : Fin 2 → Fin 32 → Fin 256 → Fin 64 → EReal) (hp : U (Proc.devRef .tc main_v14_3) = gHalf lo f)
    (h : Fin 2) (t : Fin 4096) (d : Fin 64) : StableHlo.after (hostOps1 ++ hostOps1_1 ++ hostOps1_2 ++ hostOps1_3) U (Proc.devRef .tc main_v19) (ix3 h t d)
      = if ht : (t : ℕ) < 3968 then gHalf lo f (ix3 h (⟨128 + t, by omega⟩ : Fin 4096) d) else 0 := by
  after_reads_at
  by_cases ht : (t : ℕ) < 3968
  · rw [dif_pos ht, dif_pos ht]
    exact congrFun hp _
  · rw [dif_neg ht, dif_neg ht]; simp [FloatOps.sitofp]

theorem sum_k (f : Fin 2 → Fin 32 → Fin 256 → Fin 64 → EReal) (hc : U (Proc.devRef .tc main_v14_2) = gHalf hi f)
    (hp : ∀ (h : Fin 2) (t : Fin 4096) (d : Fin 64), U (Proc.devRef .tc main_v16) (ix3 h t d)
      = if ht : (t : ℕ) < 3968 then gHalf lo f (ix3 h (⟨128 + t, by omega⟩ : Fin 4096) d) else (0 : EReal)) (t : Fin 4096) (a : Fin 128) :
    StableHlo.after (hostOps1_2 ++ hostOps1_3 ++ hostOps1_4) U (Proc.devRef .tc main_v28) (ix2 t a) = twoBlocks f ⟨a / 64, by omega⟩ t ⟨a % 64, by omega⟩ := by
  after_reads_at
  rw [hc, hp]
  exact shift_at f _ t _

theorem sum_v (f : Fin 2 → Fin 32 → Fin 256 → Fin 64 → EReal) (hc : U (Proc.devRef .tc main_v14_4) = gHalf hi f)
    (hp : ∀ (h : Fin 2) (t : Fin 4096) (d : Fin 64), U (Proc.devRef .tc main_v19) (ix3 h t d)
      = if ht : (t : ℕ) < 3968 then gHalf lo f (ix3 h (⟨128 + t, by omega⟩ : Fin 4096) d) else (0 : EReal)) (t : Fin 4096) (a : Fin 128) :
    StableHlo.after (hostOps1_4) U (Proc.devRef .tc main_v30) (ix2 t a) = twoBlocks f ⟨a / 64, by omega⟩ t ⟨a % 64, by omega⟩ := by
  after_reads_at
  rw [hc, hp]
  exact shift_at f _ t _

theorem out_k (f : Fin 2 → Fin 32 → Fin 256 → Fin 64 → EReal) (hp : U (Proc.devRef .tc main_v14_1) = gHalf lo f)
    (hc : U (Proc.devRef .tc main_v14_2) = gHalf hi f) (t : Fin 4096) (a : Fin 128) :
    out U main_v28 (ix2 t a) = twoBlocks f ⟨a / 64, by omega⟩ t ⟨a % 64, by omega⟩ :=
  sum_k (StableHlo.after (hostOps1 ++ hostOps1_1) U) f
    ((StableHlo.after_of_writes_sub (W := [main_v15, main_c, main_call0_v0, main_v16]) _ _
      (StableHlo.forall_writes_sub_of_map rfl) (by decide)).trans hc) (pad_k U f hp) t a

theorem out_v (f : Fin 2 → Fin 32 → Fin 256 → Fin 64 → EReal) (hp : U (Proc.devRef .tc main_v14_3) = gHalf lo f)
    (hc : U (Proc.devRef .tc main_v14_4) = gHalf hi f) (t : Fin 4096) (a : Fin 128) :
    out U main_v30 (ix2 t a) = twoBlocks f ⟨a / 64, by omega⟩ t ⟨a % 64, by omega⟩ :=
  sum_v (StableHlo.after (hostOps1 ++ hostOps1_1 ++ hostOps1_2 ++ hostOps1_3) U) f
    ((StableHlo.after_of_writes_sub (W := [main_v15, main_c, main_call0_v0, main_v16, main_v17, main_v18, main_c_0, main_call1_v0, main_v19]) _ _
      (StableHlo.forall_writes_sub_of_map rfl) (by decide)).trans hc) (pad_v U f hp) t a

theorem out_s (f : Fin 2 → Fin 32 → Fin 512 → EReal) (hs : U (Proc.devRef .tc main_v14_5) = gS f) (a : Fin 8) :
    out U main_v23 (ix2 0 a) = ∑ i : Fin 128, ∑ n : Fin 32, f ⟨a / 4, by omega⟩ n (rw4 ⟨a % 4, by omega⟩ i) := by
  unfold out
  after_reads_at
  rw [hs]
  rfl

end Out

/-- A result array of the region, read among the buffers the region leaves. -/
theorem left_arr (w : Fin cfg0.W) :
    Pipeline.withArrays (cfgs 0).spec c (V0 m c) (fun w => (dats m 0 c).arrAt w (cfgs 0).N) (Proc.devRef .tc (Pipeline.arrRef spec0 w))
      = (dats m 0 c).arrAt w cfg0.N :=
  Pipeline.withArrays_arr_shared _ c _ _ (Pipeline.Dat.arrAt_sharedIn (dats m 0 c) sharedIn0 (V0 m c) (A_eq m c) _) w

theorem left_q : Pipeline.withArrays (cfgs 0).spec c (V0 m c) (fun w => (dats m 0 c).arrAt w (cfgs 0).N) (Proc.devRef .tc main_v14_0)
    = gQ (kQ m c) := (left_arr m c 8).trans (arr_q m c)
theorem left_kp : Pipeline.withArrays (cfgs 0).spec c (V0 m c) (fun w => (dats m 0 c).arrAt w (cfgs 0).N) (Proc.devRef .tc main_v14_1)
    = gHalf lo (kK m c) := (left_arr m c 9).trans (arr_kp m c)
theorem left_kc : Pipeline.withArrays (cfgs 0).spec c (V0 m c) (fun w => (dats m 0 c).arrAt w (cfgs 0).N) (Proc.devRef .tc main_v14_2)
    = gHalf hi (kK m c) := (left_arr m c 10).trans (arr_kc m c)
theorem left_vp : Pipeline.withArrays (cfgs 0).spec c (V0 m c) (fun w => (dats m 0 c).arrAt w (cfgs 0).N) (Proc.devRef .tc main_v14_3)
    = gHalf lo (kV m c) := (left_arr m c 11).trans (arr_vp m c)
theorem left_vc : Pipeline.withArrays (cfgs 0).spec c (V0 m c) (fun w => (dats m 0 c).arrAt w (cfgs 0).N) (Proc.devRef .tc main_v14_4)
    = gHalf hi (kV m c) := (left_arr m c 12).trans (arr_vc m c)
theorem left_s : Pipeline.withArrays (cfgs 0).spec c (V0 m c) (fun w => (dats m 0 c).arrAt w (cfgs 0).N) (Proc.devRef .tc main_v14_5)
    = gS (kS m c) := (left_arr m c 13).trans (arr_s m c)

/-- A buffer at the end of the program. -/
abbrev res (b : Ref sig .tc) :=
  Pipeline.afterTail₀ cfgs (dats m) 0 (V0 m) [hostOps1, hostOps1_1, hostOps1_2, hostOps1_3, hostOps1_4] c b

theorem res_q (t : Fin 4096) (a : Fin 512) : res m c main_v26 (ix2 t a)
    = kQ m c ⟨a / 256, by omega⟩ (bn t) (rw4 ⟨a / 64 % 4, by omega⟩ (bi t)) ⟨a % 64, by omega⟩ := out_q _ _ (left_q m c) t a
theorem res_k (t : Fin 4096) (a : Fin 128) : res m c main_v28 (ix2 t a)
    = twoBlocks (kK m c) ⟨a / 64, by omega⟩ t ⟨a % 64, by omega⟩ := out_k _ _ (left_kp m c) (left_kc m c) t a
theorem res_v (t : Fin 4096) (a : Fin 128) : res m c main_v30 (ix2 t a)
    = twoBlocks (kV m c) ⟨a / 64, by omega⟩ t ⟨a % 64, by omega⟩ := out_v _ _ (left_vp m c) (left_vc m c) t a
theorem res_s (a : Fin 8) : res m c main_v23 (ix2 0 a)
    = ∑ i : Fin 128, ∑ n : Fin 32, kS m c ⟨a / 4, by omega⟩ n (rw4 ⟨a % 4, by omega⟩ i) := out_s _ _ (left_s m c) a

end Cert.Swa

end
-- ==== Proof.Swa.Ref.lean ====
/- The reference's stages, read at an index, as the functions of `Row` and `Spec`. -/
module

public import proofs.«01_k».proof.Proof.Gen.ReferenceIdeal.Read
public import proofs.«01_k».proof.Proof.Swa.Arrays

@[expose] public section

set_option maxRecDepth 16384

noncomputable section

namespace Cert.Swa.Ref

open Idealize.ShloMosaic Idealize.ShloMosaic.TcCoe Idealize.SL.Sem
open Cert.ReferenceIdeal Cert.ReferenceIdeal.Read

/-- A query head from its kv head and its place there. -/
def hg (h : Fin 2) (g : Fin 4) : Fin 8 := ⟨h * 4 + g, by omega⟩
theorem hd_rw4 (h : Fin 2) (g : Fin 4) (i : Fin 128) : hd h (rw4 g i) = hg h g := by ext; simp only [hd, rw4, hg]; omega
theorem qrow_rw4 (n : Fin 32) (g : Fin 4) (i : Fin 128) : qrow n (rw4 g i) = pos n i := by ext; simp only [qrow, rw4, pos]; omega
theorem ok_rw4 (n : Fin 32) (g : Fin 4) (i : Fin 128) (j : Fin 256) : ok n (rw4 g i) j = okB n i j := by
  unfold ok; congr 1; ext; simp only [rw4]; omega
theorem dist_rw4 (g : Fin 4) (i : Fin 128) (j : Fin 256) : dist (rw4 g i) j = distB i j := by
  unfold dist; congr 1; ext; simp only [rw4]; omega

/-- The window's keys (values) as the reference pads them: zeros stand before the sequence. -/
def kR (K : Fin 2 → Fin 4096 → Fin 64 → EReal) (n : Fin 32) (j : Fin 256) (h : Fin 2) (d : Fin 64) : EReal :=
  if (j : ℕ) < 128 ∧ (n : ℕ) = 0 then 0 else K h (krow n j) d

/-- A sum over a four-axis array's first and last axis. -/
theorem sum03 {n0 n1 n2 n3 : ℕ} (h : (⟨4, ![n0, n1, n2, n3]⟩ : Shape).ReducesTo [0, 3] ⟨2, ![n1, n2]⟩)
    (v : (⟨4, ![n0, n1, n2, n3]⟩ : Shape).Idx → EReal) (z : EReal) (a : Fin n1) (b : Fin n2) :
    Ideal.hostReduceAdd h v z (ix2 a b) = z + ∑ k : Fin n0, ∑ l : Fin n3, v (ix4 k a b l) := by
  unfold Ideal.hostReduceAdd
  refine congrArg (z + ·) ((Finset.sum_filter_eq_sum_of_fiber _ (fun k : Fin n0 × Fin n3 => ix4 k.1 a b k.2)
    (fun _ _ e => Prod.ext (congrFun e 0) (congrFun e 3)) (fun i => ⟨fun e => ⟨(i 0, i 3), funext fun c => ?_⟩, ?_⟩) v).trans
    (Fintype.sum_prod_type _))
  · match c with
    | ⟨0, _⟩ => rfl
    | ⟨1, _⟩ => exact Fin.ext (congrArg Fin.val (congrFun e 0)).symm
    | ⟨2, _⟩ => exact Fin.ext (congrArg Fin.val (congrFun e 1)).symm
    | ⟨3, _⟩ => rfl
  · rintro ⟨k, rfl⟩
    funext c
    match c with
    | ⟨0, _⟩ => rfl
    | ⟨1, _⟩ => rfl

variable (x0 : FVec Ideal S4096x512 .f32) (x1 x2 : FVec Ideal S4096x128 .f32) (x3 : FVec Ideal S1x8 .f32)
  (x4 : FVec Ideal S4096x512 .f32)

/-! ## The arguments -/

theorem q_at (n : Fin 32) (i : Fin 128) (h : Fin 2) (g : Fin 4) (d : Fin 64) :
    val_main_v4 (F := Ideal) x0 (ix5 n i h g d) = heads8 x0 (hg h g) (pos n i) d := by
  pointwise [val_main_v4, val_main_v0]
  rfl

theorem d_at (n : Fin 32) (h : Fin 2) (d : Fin 64) (g : Fin 4) (i : Fin 128) :
    val_main_v122 (F := Ideal) x4 (ix5 n h d g i) = heads8 x4 (hg h g) (pos n i) d := by
  pointwise [val_main_v122, val_main_v121]
  refine congrArg x4 (congrArg (ix2 _) (Fin.ext ?_))
  simp only [hg]; omega

theorem kR_eq (x : FVec Ideal S4096x128 .f32) (n : Fin 32) (j : Fin 256) (h : Fin 2) (d : Fin 64) :
    (if _ : (j : ℕ) < 128 then
      if _ : (n : ℕ) * 128 + j < 128 then (0 : EReal)
      else x (ix2 ⟨(n : ℕ) * 128 + j - 128, by omega⟩ ⟨(h : ℕ) * 64 + d, by omega⟩)
    else
      if _ : (1 + (n : ℕ)) * 128 + ((j : ℕ) - 128) < 128 then 0
      else x (ix2 ⟨(1 + (n : ℕ)) * 128 + ((j : ℕ) - 128) - 128, by omega⟩ ⟨(h : ℕ) * 64 + d, by omega⟩))
    = kR (heads2 x) n j h d := by
  unfold kR
  split
  · split
    · rw [if_pos (by omega)]
    · rw [if_neg (by omega)]
      refine congrArg x (congrArg (ix2 · _) (Fin.ext ?_))
      simp only [krow]; rw [if_pos ‹_›]; omega
  · rw [dif_neg (by omega), if_neg (by omega)]
    refine congrArg x (congrArg (ix2 · _) (Fin.ext ?_))
    simp only [krow]; rw [if_neg ‹_›]; omega

theorem k_at (n : Fin 32) (j : Fin 256) (h : Fin 2) (d : Fin 64) :
    val_main_v14 (F := Ideal) x1 (ix4 n j h d) = kR (heads2 x1) n j h d := by
  pointwise [val_main_v14, val_main_v13, val_main_v12, val_main_v8, val_main_v6, val_main_v5, val_main_v1, val_main_cst]
  exact kR_eq x1 n j h d

theorem v_at (n : Fin 32) (j : Fin 256) (h : Fin 2) (d : Fin 64) :
    val_main_v17 (F := Ideal) x2 (ix4 n j h d) = kR (heads2 x2) n j h d := by
  pointwise [val_main_v17, val_main_v16, val_main_v15, val_main_v11, val_main_v9, val_main_v2, val_main_cst_0, val_main_v8, val_main_v10, val_main_cst_1, val_main_v5, val_main_cst]
  exact kR_eq x2 n j h d

/-! ## The mask and the distance penalty -/

theorem dist_toInt (i : Fin 128) (j : Fin 256) :
    (IntOp.subi (IntOp.addi (BitVec.ofNat 32 (i : ℕ)) 128#32) (BitVec.ofNat 32 (j : ℕ))).toInt = ((i : ℕ) : ℤ) + 128 - ((j : ℕ) : ℤ) := by
  have := i.isLt; have := j.isLt
  unfold IntOp.addi IntOp.subi
  rw [BitVec.toInt_eq_toNat_bmod]
  simp only [BitVec.toNat_sub, BitVec.toNat_add, BitVec.toNat_ofNat]
  rw [Int.bmod_def]
  split <;> omega

theorem start_toInt (n : Fin 32) (j : Fin 256) :
    (IntOp.addi (IntOp.subi (IntOp.muli (BitVec.ofNat 32 (n : ℕ)) 128#32) 128#32) (BitVec.ofNat 32 (j : ℕ))).toInt = ((n : ℕ) : ℤ) * 128 - 128 + ((j : ℕ) : ℤ) := by
  have := n.isLt; have := j.isLt
  unfold IntOp.addi IntOp.subi IntOp.muli
  rw [BitVec.toInt_eq_toNat_bmod]
  simp only [BitVec.toNat_sub, BitVec.toNat_add, BitVec.toNat_mul, BitVec.toNat_ofNat]
  rw [Int.bmod_def]
  split <;> omega

theorem mask_at (n : Fin 32) (h : Fin 2) (g : Fin 4) (i : Fin 128) (j : Fin 256) : val_main_v72_1 (F := Ideal) (ix5 n h g i j) = okB n i j := by
  pointwise [val_main_v72_1, val_main_v71, val_main_v51, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v22, val_main_v23, val_main_v24, val_main_v25, val_main_v26, val_main_v27, val_main_v28, val_main_v29, val_main_v30, val_main_c, val_main_c_3, val_main_c_4, val_main_c_5, val_main_c_6, val_main_c_7]
  rw [cmpi_sge, cmpi_slt, cmpi_sge, dist_toInt, start_toInt]
  rw [show (0#32 : BitVec 32).toInt = 0 from rfl, show (128#32 : BitVec 32).toInt = 128 from rfl]
  unfold okB
  exact andi_ite _ _ _ _ (by omega)

theorem slope_at (h : Fin 2) (g : Fin 4) : val_main_v61 (F := Ideal) (ix2 h g) = slope (hg h g) := by
  pointwise [val_main_v52, val_main_v53, val_main_v54, val_main_v55, val_main_v56, val_main_v57, val_main_v58, val_main_v59, val_main_v60, val_main_v61, val_main_cst_8, val_main_cst_9, val_main_cst_10, val_main_cst_11]
  generalize hg' : hg h g = a
  have e : (h : ℕ) * 4 + g = (a : ℕ) := by rw [← hg']; rfl
  rw [e]
  have t : FloatOps.sitofp (F := Ideal) .f32 (BitVec.ofNat 32 (a : ℕ)) = (((a : ℕ) : ℝ) : EReal) := by
    fin_cases a <;> simp [FloatOps.sitofp] <;> rfl
  have h8 : Ideal.ofBits .f32 0xC1000000#32 = ((-8 : ℝ) : EReal) := by
    simp [Ideal.ofBits, Ideal.ieee, -EReal.coe_mul]; norm_num
  have h8' : Ideal.ofBits .f32 0x41000000#32 = ((8 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  rw [t, h8, h8', h2, Ideal.div_coe (by norm_num), ← EReal.coe_one, ← EReal.coe_add, ← EReal.coe_mul, ← EReal.coe_mul,
    Ideal.pow_coe_coe, slope]
  refine congrArg _ ?_
  show (2 : ℝ) ^ (-8 * (1 + ((a : ℕ) : ℝ)) * (1 / 8)) = _
  rw [show -8 * (1 + ((a : ℕ) : ℝ)) * (1 / 8) = -(((a : ℕ) + 1 : ℕ) : ℝ) by push_cast; ring, Real.rpow_neg (by norm_num), Real.rpow_natCast]

theorem pen_at (n : Fin 32) (h : Fin 2) (g : Fin 4) (i : Fin 128) (j : Fin 256) : val_main_v69 (F := Ideal) (ix5 n h g i j) = slope (hg h g) * distB i j := by
  pointwise [val_main_v62, val_main_v63, val_main_v64, val_main_v65, val_main_v66, val_main_v67, val_main_v68, val_main_v69, val_main_v22, val_main_v23, val_main_v24, val_main_v25, val_main_v26, val_main_v27, val_main_v28, val_main_v29, val_main_v30, val_main_c]
  rw [slope_at]
  refine congrArg (_ * ·) ?_
  show (((IntOp.subi (IntOp.addi (BitVec.ofNat 32 (i : ℕ)) 128#32) (BitVec.ofNat 32 (j : ℕ))).toInt : ℝ) : EReal) = _
  rw [dist_toInt]; rfl

/-! ## The softmax's row -/

/-- The masked logits of one query row, and the products of its incoming gradient with the padded values. -/
abbrev XR (n : Fin 32) (h : Fin 2) (g : Fin 4) (i : Fin 128) : Fin 256 → EReal := X (heads8 x0) (heads2 x1) h n (rw4 g i)
abbrev sR (h : Fin 2) (g : Fin 4) : EReal := sinks8 x3 (hg h g)
abbrev dR (n : Fin 32) (h : Fin 2) (g : Fin 4) (i : Fin 128) (j : Fin 256) : EReal := ∑ d, heads8 x4 (hg h g) (pos n i) d * kR (heads2 x2) n j h d

theorem okB_first {n : Fin 32} {i : Fin 128} {j : Fin 256} (e : (j : ℕ) < 128 ∧ (n : ℕ) = 0) : okB n i j = 0#1 := by
  unfold okB; rw [if_neg (by omega)]

theorem X_bot {Q : Fin 8 → Fin 4096 → Fin 64 → EReal} {K : Fin 2 → Fin 4096 → Fin 64 → EReal} {n : Fin 32} {h : Fin 2} {g : Fin 4}
    {i : Fin 128} {j : Fin 256} (e : (j : ℕ) < 128 ∧ (n : ℕ) = 0) : X Q K h n (rw4 g i) j = ⊥ := by
  unfold X; rw [ok_rw4, okB_first e]; exact cBot_eq

theorem X_at (n : Fin 32) (h : Fin 2) (g : Fin 4) (i : Fin 128) (j : Fin 256) : val_main_v72_0 (F := Ideal) x0 x1 (ix5 n h g i j) = XR x0 x1 n h g i j := by
  pointwise [val_main_v72_0, val_main_v70, val_main_v21, val_main_v20, val_main_v19, val_main_v18, val_main_call0_v2, val_main_call0_v0, val_main_cst_12, val_main_cst_2]
  rw [mask_at, pen_at]
  simp only [k_at, q_at]
  unfold XR X
  rw [ok_rw4]
  by_cases e : (j : ℕ) < 128 ∧ (n : ℕ) = 0
  · rw [okB_first e]; rfl
  · refine congrArg (Scalar.select _ · _) ?_
    unfold lg
    rw [hd_rw4, qrow_rw4, dist_rw4]
    refine congrArg (· * cScale - _) (Finset.sum_congr rfl fun d _ => ?_)
    rw [kR, if_neg e, mul_comm]

theorem mx_at (n : Fin 32) (h : Fin 2) (g : Fin 4) (i : Fin 128) : val_main_v75 (F := Ideal) x0 x1 (ix4 n h g i) = mx (XR x0 x1 n h g i) := by
  pointwise [val_main_v75, val_main_cst_13]
  simp only [X_at]; rfl

theorem eqm_at (n : Fin 32) (h : Fin 2) (g : Fin 4) (i : Fin 128) (j : Fin 256) : val_main_v79 (F := Ideal) x0 x1 (ix5 n h g i j) = eqm (XR x0 x1 n h g i) j := by
  pointwise [val_main_v76, val_main_v77, val_main_v78, val_main_v79]
  rw [mx_at, X_at]; rfl

theorem cnt_at (n : Fin 32) (h : Fin 2) (g : Fin 4) (i : Fin 128) : val_main_v80 (F := Ideal) x0 x1 (ix4 n h g i) = cnt (XR x0 x1 n h g i) := by
  pointwise [val_main_v80, val_main_cst_14]
  simp only [eqm_at, zero_add]; rfl

theorem sink_at (n : Fin 32) (h : Fin 2) (g : Fin 4) (i : Fin 128) : val_main_v82 (F := Ideal) x3 (ix4 n h g i) = sR x3 h g := by
  pointwise [val_main_v82, val_main_v81, val_main_v74, val_main_v73, val_main_v3]
  rfl

end Cert.Swa.Ref

end
-- ==== Proof.Swa.RefRow.lean ====
/- The reference's softmax row and its gradient, read at an index, as the functions of `Row`. -/
module

public import proofs.«01_k».proof.Proof.Swa.Ref

@[expose] public section

set_option maxRecDepth 16384

noncomputable section

namespace Cert.Swa.Ref

open Idealize.ShloMosaic Idealize.ShloMosaic.TcCoe Idealize.SL.Sem
open Cert.ReferenceIdeal Cert.ReferenceIdeal.Read

attribute [local irreducible] val_main_v75 val_main_v80 val_main_v72_0

variable (x0 : FVec Ideal S4096x512 .f32) (x1 x2 : FVec Ideal S4096x128 .f32) (x3 : FVec Ideal S1x8 .f32)
  (x4 : FVec Ideal S4096x512 .f32)

theorem top_at (n : Fin 32) (h : Fin 2) (g : Fin 4) (i : Fin 128) : val_main_v83 (F := Ideal) x0 x1 x3 (ix4 n h g i) = top (XR x0 x1 n h g i) (sR x3 h g) := by
  rw [val_main_v83_apply, mx_at, sink_at]; rfl

theorem bX_at (n : Fin 32) (h : Fin 2) (g : Fin 4) (i : Fin 128) : val_main_v84 (F := Ideal) x3 (ix4 n h g i) = sR x3 h g := by
  pointwise [val_main_v84, val_main_v81, val_main_v74, val_main_v73, val_main_v3]
  rfl

theorem bE_at (n : Fin 32) (h : Fin 2) (g : Fin 4) (i : Fin 128) : val_main_v86 (F := Ideal) x3 (ix4 n h g i) = sR x3 h g := by
  pointwise [val_main_v86, val_main_v81, val_main_v74, val_main_v73, val_main_v3]
  rfl

/-- The share of the largest logit, as the reference's two selects write it. -/
theorem wX_sel (a b : EReal) : Scalar.select (FloatOps.cmpf (F := Ideal) (φ := .f32) .ogt a b) (1 : EReal)
    (Scalar.select (FloatOps.cmpf (F := Ideal) (φ := .f32) .oeq a b) cHalf 0) = if b < a then 1 else if a = b then cHalf else 0 := by
  pointwise

theorem one_at (i : S32x2x4x128.Idx) : val_main_v88 (F := Ideal) i = (1 : EReal) := by
  show Ideal.ofBits .f32 0x3F800000#32 = 1
  simp

theorem zero_at (i : S32x2x4x128.Idx) : val_main_v89 (F := Ideal) i = (0 : EReal) := by
  show Ideal.ofBits .f32 0x00000000#32 = 0
  simp

theorem wX_at (n : Fin 32) (h : Fin 2) (g : Fin 4) (i : Fin 128) : val_main_v92 (F := Ideal) x0 x1 x3 (ix4 n h g i) = wX (XR x0 x1 n h g i) (sR x3 h g) := by
  rw [val_main_v92_apply, val_main_v91_apply, val_main_v85_apply, val_main_v87_apply, mx_at, bX_at, bE_at, one_at, zero_at]
  exact wX_sel _ _

theorem wS_at (n : Fin 32) (h : Fin 2) (g : Fin 4) (i : Fin 128) : val_main_v101 (F := Ideal) x0 x1 x3 (ix4 n h g i) = wS (XR x0 x1 n h g i) (sR x3 h g) := by
  pointwise [val_main_v93, val_main_v94, val_main_v95, val_main_v96, val_main_v97, val_main_v98, val_main_v99, val_main_v100, val_main_v101, val_main_v81, val_main_v74, val_main_v73, val_main_v3, val_main_cst_18, val_main_cst_19, val_main_cst_20]
  rw [mx_at]; rfl

theorem ex_at (n : Fin 32) (h : Fin 2) (g : Fin 4) (i : Fin 128) (j : Fin 256) : val_main_v105 (F := Ideal) x0 x1 x3 (ix5 n h g i j) = ex (XR x0 x1 n h g i) (sR x3 h g) j := by
  pointwise [val_main_v102, val_main_v103, val_main_v104, val_main_v105]
  rw [top_at, X_at]; rfl

theorem es_at (n : Fin 32) (h : Fin 2) (g : Fin 4) (i : Fin 128) : val_main_v110 (F := Ideal) x0 x1 x3 (ix4 n h g i) = es (XR x0 x1 n h g i) (sR x3 h g) := by
  pointwise [val_main_v107, val_main_v108, val_main_v109, val_main_v110, val_main_v74, val_main_v73, val_main_v3]
  rw [top_at]; rfl

theorem den_at (n : Fin 32) (h : Fin 2) (g : Fin 4) (i : Fin 128) : val_main_v111 (F := Ideal) x0 x1 x3 (ix4 n h g i) = den (XR x0 x1 n h g i) (sR x3 h g) := by
  pointwise [val_main_v111, val_main_v106, val_main_cst_21]
  simp only [ex_at, es_at, zero_add]; rfl

theorem pr_at (n : Fin 32) (h : Fin 2) (g : Fin 4) (i : Fin 128) (j : Fin 256) : val_main_v114 (F := Ideal) x0 x1 x3 (ix5 n h g i j) = pr (XR x0 x1 n h g i) (sR x3 h g) j := by
  pointwise [val_main_v112, val_main_v113, val_main_v114]
  rw [ex_at, den_at]; rfl

theorem da_at (n : Fin 32) (h : Fin 2) (g : Fin 4) (i : Fin 128) (j : Fin 256) : val_main_v123 (F := Ideal) x2 x4 (ix5 n h g i j) = (dR x2 x4 n h g i) j := by
  pointwise [val_main_v123]
  simp only [d_at, v_at]

theorem dden_at (n : Fin 32) (h : Fin 2) (g : Fin 4) (i : Fin 128) : val_main_v134 (F := Ideal) x0 x1 x2 x3 x4 (ix4 n h g i) = dden (XR x0 x1 n h g i) (dR x2 x4 n h g i) (sR x3 h g) := by
  pointwise [val_main_v134, val_main_v131, val_main_v130, val_main_v126, val_main_v127, val_main_v128, val_main_v129, val_main_v115, val_main_v116, val_main_v117, val_main_v112, val_main_cst_22, val_main_cst_23, val_main_cst_24]
  simp only [sum_one, da_at, ex_at, den_at, zero_add]; rfl

theorem dse_at (n : Fin 32) (h : Fin 2) (g : Fin 4) (i : Fin 128) : val_main_v135 (F := Ideal) x0 x1 x2 x3 x4 (ix4 n h g i) = dse (XR x0 x1 n h g i) (dR x2 x4 n h g i) (sR x3 h g) := by
  rw [val_main_v135_apply, dden_at, es_at]; rfl

theorem dxe_at (n : Fin 32) (h : Fin 2) (g : Fin 4) (i : Fin 128) (j : Fin 256) : val_main_v143 (F := Ideal) x0 x1 x2 x3 x4 (ix5 n h g i j) = dxe (XR x0 x1 n h g i) (dR x2 x4 n h g i) (sR x3 h g) j := by
  pointwise [val_main_v143, val_main_v142, val_main_v141, val_main_v133, val_main_v132, val_main_v112]
  rw [dden_at, ex_at, da_at, den_at]; rfl

theorem dtop_at (n : Fin 32) (h : Fin 2) (g : Fin 4) (i : Fin 128) : val_main_v148 (F := Ideal) x0 x1 x2 x3 x4 (ix4 n h g i) = dtop (XR x0 x1 n h g i) (dR x2 x4 n h g i) (sR x3 h g) := by
  pointwise [val_main_v148, val_main_v138, val_main_v147, val_main_v146, val_main_v145, val_main_v144, val_main_cst_27, val_main_cst_28]
  simp only [sum_one, dse_at, dxe_at, zero_add]; rfl

theorem dsm_at (n : Fin 32) (h : Fin 2) (g : Fin 4) (i : Fin 128) : val_main_v149 (F := Ideal) x0 x1 x2 x3 x4 (ix4 n h g i) = dsm (XR x0 x1 n h g i) (dR x2 x4 n h g i) (sR x3 h g) := by
  rw [val_main_v149_apply, dtop_at, wS_at]; rfl

theorem dx_at (n : Fin 32) (h : Fin 2) (g : Fin 4) (i : Fin 128) (j : Fin 256) : val_main_v159 (F := Ideal) x0 x1 x2 x3 x4 (ix5 n h g i j) = dx (XR x0 x1 n h g i) (dR x2 x4 n h g i) (sR x3 h g) j := by
  pointwise [val_main_v156, val_main_v157, val_main_v158, val_main_v159, val_main_v152]
  rw [dxe_at, dtop_at, wX_at, cnt_at, eqm_at]; rfl

theorem sel_mul (b : BitVec 1) (x c : EReal) : Scalar.select b (x * c) 0 = Scalar.select b x c0 * c := by
  unfold Scalar.select
  split
  · rfl
  · rw [c0_eq, zero_mul]

/-- Outside the sequence the padded values do not matter: the mask hides them. -/
theorem dR_eq (n : Fin 32) (h : Fin 2) (g : Fin 4) (i : Fin 128) (j : Fin 256) (e : XR x0 x1 n h g i j ≠ ⊥) :
    dR x2 x4 n h g i j = DA (heads8 x4) (heads2 x2) h n (rw4 g i) j := by
  unfold dR DA
  rw [hd_rw4, qrow_rw4]
  refine Finset.sum_congr rfl fun d _ => ?_
  rw [kR, if_neg fun c => e (X_bot c)]

theorem dl_at (n : Fin 32) (h : Fin 2) (g : Fin 4) (i : Fin 128) (j : Fin 256) : val_main_v164 (F := Ideal) x0 x1 x2 x3 x4 (ix5 n h g i j) = DL (heads8 x0) (heads8 x4) (heads2 x1) (heads2 x2) (sinks8 x3) h n (rw4 g i) j := by
  pointwise [val_main_v162, val_main_v163, val_main_v164, val_main_call1_v0, val_main_call1_cst, val_main_cst_32]
  rw [mask_at, dx_at, ← ok_rw4 n g i j]
  unfold DL
  rw [← dl_congr _ (dR_eq x0 x1 x2 x4 n h g i), hd_rw4]
  exact sel_mul _ _ _

end Cert.Swa.Ref

end
-- ==== Proof.Swa.RefOut.lean ====
/- The reference's four results, read at an index. -/
module

public import proofs.«01_k».proof.Proof.Swa.RefRow

@[expose] public section

set_option maxRecDepth 16384

noncomputable section

namespace Cert.Swa.Ref

open Idealize.ShloMosaic Idealize.ShloMosaic.TcCoe Idealize.SL.Sem
open Cert.ReferenceIdeal Cert.ReferenceIdeal.Read

attribute [local irreducible] val_main_v114 val_main_v164 val_main_v135 val_main_v149

variable (x0 : FVec Ideal S4096x512 .f32) (x1 x2 : FVec Ideal S4096x128 .f32) (x3 : FVec Ideal S1x8 .f32)
  (x4 : FVec Ideal S4096x512 .f32)

/-- The four gradients over the reference's arguments. -/
abbrev rQ := dQb (heads8 x0) (heads8 x4) (heads2 x1) (heads2 x2) (sinks8 x3)
abbrev rK := dKb (heads8 x0) (heads8 x4) (heads2 x1) (heads2 x2) (sinks8 x3)
abbrev rV := dVb (heads8 x0) (heads8 x4) (heads2 x1) (sinks8 x3)
abbrev rS := dSb (heads8 x0) (heads8 x4) (heads2 x1) (heads2 x2) (sinks8 x3)

/-- A row of the 512 is a query head's place and a query. -/
theorem sum_rows (f : Fin 512 → EReal) : ∑ g : Fin 4, ∑ i : Fin 128, f (rw4 g i) = ∑ r : Fin 512, f r := by
  rw [← Fintype.sum_prod_type']
  refine Fintype.sum_bijective (fun p : Fin 4 × Fin 128 => rw4 p.1 p.2) ⟨fun p q e => ?_, fun r => ?_⟩ _ _ fun _ => rfl
  · have e' : (p.1 : ℕ) * 128 + p.2 = q.1 * 128 + q.2 := congrArg Fin.val e
    exact Prod.ext (Fin.ext (by omega)) (Fin.ext (by omega))
  · exact ⟨(⟨r / 128, by omega⟩, ⟨r % 128, by omega⟩), Fin.ext (by simp only [rw4]; omega)⟩

theorem bp_at (n : Fin 32) (i : Fin 128) (h : Fin 2) (g : Fin 4) (d : Fin 64) :
    val_main_v167 (F := Ideal) x0 x1 x2 x3 x4 (ix5 n i h g d) = rQ x0 x1 x2 x3 x4 h n (rw4 g i) d := by
  pointwise [val_main_v167, val_main_v166, val_main_v165]
  simp only [dl_at, k_at]
  refine Finset.sum_congr rfl fun j _ => ?_
  unfold kR
  split
  · next e =>
    unfold DL
    rw [dl_of_zero _ (by rw [ok_rw4]; exact okB_first e), zero_mul, zero_mul]
  · rfl

theorem bk_at (n : Fin 32) (j : Fin 256) (h : Fin 2) (d : Fin 64) :
    val_main_v169 (F := Ideal) x0 x1 x2 x3 x4 (ix4 n j h d) = rK x0 x1 x2 x3 x4 h n j d := by
  pointwise [val_main_v169, val_main_v168, val_main_v165]
  simp only [dl_at, q_at]
  rw [Finset.sum_comm]
  refine Eq.trans ?_ (sum_rows _)
  simp only [hd_rw4, qrow_rw4]

theorem bv_at (n : Fin 32) (j : Fin 256) (h : Fin 2) (d : Fin 64) :
    val_main_v125 (F := Ideal) x0 x1 x3 x4 (ix4 n j h d) = rV x0 x1 x3 x4 h n j d := by
  pointwise [val_main_v125, val_main_v124]
  simp only [pr_at, d_at]
  refine Eq.trans ?_ (sum_rows _)
  simp only [hd_rw4, qrow_rw4, PR]
  exact Finset.sum_congr rfl fun _ _ => Finset.sum_congr rfl fun _ _ => mul_comm _ _

theorem out_q (t : Fin 4096) (a : Fin 512) : val_main_v190 (F := Ideal) x0 x1 x2 x3 x4 (ix2 t a)
    = rQ x0 x1 x2 x3 x4 ⟨a / 256, by omega⟩ (bn t) (rw4 ⟨a / 64 % 4, by omega⟩ (bi t)) ⟨a % 64, by omega⟩ := by
  pointwise [val_main_v190, val_main_v186]
  rw [bp_at]
  exact congrArg (fun hh => rQ x0 x1 x2 x3 x4 hh (bn t) (rw4 ⟨a / 64 % 4, by omega⟩ (bi t)) ⟨a % 64, by omega⟩)
    (Fin.ext (by show (a : ℕ) / 64 / 4 = a / 256; omega))

theorem two_eq (f : Fin 32 → Fin 256 → Fin 2 → Fin 64 → EReal) (t : Fin 4096) (a : Fin 128) :
    (if hc : (1 ≤ (128 + (t : ℕ)) / 128 ∧ (128 + (t : ℕ)) / 128 - 1 < 32) ∧ (128 + (t : ℕ)) % 128 < 128 ∧ (a : ℕ) / 64 < 2 ∧ (a : ℕ) % 64 < 64 then
        f ⟨(128 + (t : ℕ)) / 128 - 1, hc.1.2⟩ ⟨128 + (128 + (t : ℕ)) % 128, by omega⟩ ⟨(a : ℕ) / 64, by omega⟩ ⟨(a : ℕ) % 64, by omega⟩
      else 0)
    + (if hc : (128 + (t : ℕ)) / 128 < 32 ∧ (128 + (t : ℕ)) % 128 < 128 ∧ (a : ℕ) / 64 < 2 ∧ (a : ℕ) % 64 < 64 then
        f ⟨(128 + (t : ℕ)) / 128, hc.1⟩ ⟨(128 + (t : ℕ)) % 128, by omega⟩ ⟨(a : ℕ) / 64, by omega⟩ ⟨(a : ℕ) % 64, by omega⟩
      else 0)
    = twoBlocks (fun h n j d => f n j h d) ⟨a / 64, by omega⟩ t ⟨a % 64, by omega⟩ := by
  have e1 : (128 + (t : ℕ)) / 128 = t / 128 + 1 := by omega
  have e2 : (128 + (t : ℕ)) % 128 = t % 128 := by omega
  unfold twoBlocks
  rw [dif_pos (by omega)]
  refine congrArg₂ (· + ·) ?_ ?_
  · simp only [e1, e2, Nat.add_sub_cancel]
  · by_cases hn : (t : ℕ) / 128 + 1 < 32
    · rw [dif_pos (by omega), dif_pos hn]; simp only [e1, e2]
    · rw [dif_neg (by omega), dif_neg hn]

theorem out_k (t : Fin 4096) (a : Fin 128) : val_main_v189 (F := Ideal) x0 x1 x2 x3 x4 (ix2 t a)
    = twoBlocks (rK x0 x1 x2 x3 x4) ⟨a / 64, by omega⟩ t ⟨a % 64, by omega⟩ := by
  pointwise [val_main_v189, val_main_v185, val_main_v183, val_main_v179, val_main_v178, val_main_v177, val_main_v176, val_main_v175,
    val_main_cst_35, val_main_cst_36]
  simp only [bk_at]
  exact two_eq (fun n j h d => rK x0 x1 x2 x3 x4 h n j d) t a

theorem out_v (t : Fin 4096) (a : Fin 128) : val_main_v188 (F := Ideal) x0 x1 x3 x4 (ix2 t a)
    = twoBlocks (rV x0 x1 x3 x4) ⟨a / 64, by omega⟩ t ⟨a % 64, by omega⟩ := by
  pointwise [val_main_v188, val_main_v182, val_main_v180, val_main_v174, val_main_v173, val_main_v172, val_main_v171, val_main_v170,
    val_main_cst_33, val_main_cst_34]
  simp only [bv_at]
  exact two_eq (fun n j h d => rV x0 x1 x3 x4 h n j d) t a

theorem dse_sum (h : Fin 2) (g : Fin 4) : val_main_v139 (F := Ideal) x0 x1 x2 x3 x4 (ix2 h g)
    = ∑ n, ∑ i, dse (XR x0 x1 n h g i) (dR x2 x4 n h g i) (sR x3 h g) := by
  pointwise [val_main_v139]
  rw [sum03]
  pointwise [val_main_v137, val_main_v136]
  simp only [sum03, sum_one, dse_at]
  simp [val_main_cst_25, val_main_cst_26, constant]

theorem dsm_sum (h : Fin 2) (g : Fin 4) : val_main_v153 (F := Ideal) x0 x1 x2 x3 x4 (ix2 h g)
    = ∑ n, ∑ i, dsm (XR x0 x1 n h g i) (dR x2 x4 n h g i) (sR x3 h g) := by
  pointwise [val_main_v153]
  rw [sum03]
  pointwise [val_main_v151, val_main_v150]
  simp only [sum03, sum_one, dsm_at]
  simp [val_main_cst_29, val_main_cst_30, constant]

theorem out_s (a : Fin 8) : val_main_v187 (F := Ideal) x0 x1 x2 x3 x4 (ix2 0 a)
    = ∑ i : Fin 128, ∑ n : Fin 32, rS x0 x1 x2 x3 x4 ⟨a / 4, by omega⟩ n (rw4 ⟨a % 4, by omega⟩ i) := by
  pointwise [val_main_v187, val_main_v161, val_main_v160, val_main_v155, val_main_v154, val_main_v140, val_main_cst_31]
  simp only [sum_one, dse_sum, dsm_sum, zero_add, ← Finset.sum_add_distrib]
  rw [Finset.sum_comm]
  refine Finset.sum_congr rfl fun i _ => Finset.sum_congr rfl fun n _ => ?_
  unfold rS dSb
  rw [hd_rw4, ← dse_congr _ (dR_eq x0 x1 x2 x4 n _ _ i), ← dsm_congr _ (dR_eq x0 x1 x2 x4 n _ _ i)]

end Cert.Swa.Ref

end
-- ==== Proof.Swa.Equal.lean ====
/- The kernel's program and the reference leave the same four gradients. -/
module

public import proofs.«01_k».proof.Defs
public import proofs.«01_k».proof.Proof.Swa.Tail
public import proofs.«01_k».proof.Proof.Swa.RefOut
public import proofs.«01_k».proof.Proof.Gen.ReferenceIdeal.Run
public import Idealize.ShloMosaic.Lib.Claim

@[expose] public section

set_option maxRecDepth 16384

noncomputable section

namespace Cert.Swa

open Idealize.ShloMosaic Idealize.ShloMosaic.TcCoe Idealize.SL.Sem

/-- Two arrays of two axes are equal where every element is. -/
theorem ext2 {n0 n1 : ℕ} {f f' : (⟨2, ![n0, n1]⟩ : Shape).Idx → EReal} (h : ∀ a b, f (ix2 a b) = f' (ix2 a b)) : f = f' :=
  funext fun i => by
    have e : i = ix2 (i 0) (i 1) := by
      funext c
      match c with
      | ⟨0, _⟩ => rfl
      | ⟨1, _⟩ => rfl
    rw [e]; exact h _ _

section Final
open Cert.KernelIdeal Cert.KernelIdeal.Gen
variable (m : (ℓ : Loc nD τ sig) → Buf (Elt Ideal) ℓ) (g : Dev nD → PrngReg)

/-- What the kernel's program leaves in its four results. -/
theorem kernel_run : θ_run defs (onTc (τ := τ) (main (F := Ideal))) ⟨m, fun _ => 0, g⟩ fun r => ∀ c : Dev nD,
    r.2.mem ((c.tc : Thread nD τ).loc main_v26) = res m c main_v26
    ∧ r.2.mem ((c.tc : Thread nD τ).loc main_v28) = res m c main_v28
    ∧ r.2.mem ((c.tc : Thread nD τ).loc main_v30) = res m c main_v30
    ∧ r.2.mem ((c.tc : Thread nD τ).loc main_v23) = res m c main_v23 :=
  (θ_run defs _ _).mono (fun _ h c => ⟨h.rest_eq c main_v26 (by decide), h.rest_eq c main_v28 (by decide),
    h.rest_eq c main_v30 (by decide), h.rest_eq c main_v23 (by decide)⟩) (run_main m g)
end Final

section Ref
open Cert.ReferenceIdeal Cert.ReferenceIdeal.Read
variable (m : (ℓ : Loc nD τ sig) → Buf (Elt Ideal) ℓ) (g : Dev nD → PrngReg)

/-- What the reference leaves in its four results: its stages over the arguments. -/
theorem reference_run : θ_run defs (onTc (τ := τ) (main (F := Ideal))) ⟨m, fun _ => 0, g⟩ fun r => ∀ c : Dev nD,
    r.2.mem ((c.tc : Thread nD τ).loc main_v190) = val_main_v190 (F := Ideal) (m (c.tc.loc main_arg0)) (m (c.tc.loc main_arg1)) (m (c.tc.loc main_arg2)) (m (c.tc.loc main_arg3)) (m (c.tc.loc main_arg4))
    ∧ r.2.mem ((c.tc : Thread nD τ).loc main_v189) = val_main_v189 (F := Ideal) (m (c.tc.loc main_arg0)) (m (c.tc.loc main_arg1)) (m (c.tc.loc main_arg2)) (m (c.tc.loc main_arg3)) (m (c.tc.loc main_arg4))
    ∧ r.2.mem ((c.tc : Thread nD τ).loc main_v188) = val_main_v188 (F := Ideal) (m (c.tc.loc main_arg0)) (m (c.tc.loc main_arg1)) (m (c.tc.loc main_arg3)) (m (c.tc.loc main_arg4))
    ∧ r.2.mem ((c.tc : Thread nD τ).loc main_v187) = val_main_v187 (F := Ideal) (m (c.tc.loc main_arg0)) (m (c.tc.loc main_arg1)) (m (c.tc.loc main_arg2)) (m (c.tc.loc main_arg3)) (m (c.tc.loc main_arg4))
    ∧ r.2.mem (c.tc.loc main_arg0) = m (c.tc.loc main_arg0) ∧ r.2.mem (c.tc.loc main_arg1) = m (c.tc.loc main_arg1)
    ∧ r.2.mem (c.tc.loc main_arg2) = m (c.tc.loc main_arg2) ∧ r.2.mem (c.tc.loc main_arg3) = m (c.tc.loc main_arg3)
    ∧ r.2.mem (c.tc.loc main_arg4) = m (c.tc.loc main_arg4) :=
  (θ_run defs _ _).mono (fun _ h c => by
    obtain ⟨h0, h1, h2, h3, h4⟩ := h c
    exact ⟨h0.trans (val_main_v190_eq (StableHlo.launchContents m c)), h1.trans (val_main_v189_eq (StableHlo.launchContents m c)),
      h2.trans (val_main_v188_eq (StableHlo.launchContents m c)), h3.trans (val_main_v187_eq (StableHlo.launchContents m c)), h4⟩)
    (Cert.ReferenceIdeal.Value.run m g)
end Ref

/-- The kernel's four gradients are the reference's, at every argument. -/
theorem algebraic : Cert.algebraic_KernelIdeal_ReferenceIdeal := by
  pair_intro
  · run_from (kernel_run m g) & (Cert.KernelIdeal.Gen.unchanged m g)
  · run_from (reference_run m' g')
    · exact ext2 fun t a => (Ref.out_q _ _ _ _ _ t a).trans (res_q m c t a).symm
    · exact ext2 fun t a => (Ref.out_k _ _ _ _ _ t a).trans (res_k m c t a).symm
    · exact ext2 fun t a => (Ref.out_v _ _ _ _ t a).trans (res_v m c t a).symm
    · refine ext2 fun z a => ?_
      obtain rfl : z = 0 := Subsingleton.elim _ _
      exact (Ref.out_s _ _ _ _ _ a).trans (res_s m c a).symm

end Cert.Swa

end
-- ==== Proof.Ffn.Row.lean ====
/- The feed-forward block's backward on one row, over the extended reals: the formulas both programs are read to. -/
module

public import Idealize.ShloMosaic.Lib.Pointwise

@[expose] public section

noncomputable section

namespace Cert.Ffn

open Idealize.ShloMosaic

/-- The programs' literals. -/
def cHalf : EReal := Ideal.ofBits .f32 0x3F000000#32
def cLen : EReal := Ideal.ofBits .f32 0x44800000#32
def cEps : EReal := Ideal.ofBits .f32 0x358637BD#32
def cMinus : EReal := Ideal.ofBits .f32 0xBF000000#32

/-- The mean square of a row and the normalizing factor. -/
def var (x : Fin 1024 → EReal) : EReal := Ideal.div (∑ d, x d * x d) cLen + cEps
def rs (x : Fin 1024 → EReal) : EReal := Ideal.rsqrt (var x)
/-- The normalized row. -/
def hn (x g : Fin 1024 → EReal) (d : Fin 1024) : EReal := x d * rs x * g d
/-- A product of two rows. -/
def dot (h w : Fin 1024 → EReal) : EReal := ∑ d, h d * w d
/-- The gradient of an element of the activation. -/
def da (y w : Fin 1024 → EReal) : EReal := ∑ d, cHalf * y d * w d

/-- The logistic function by the hyperbolic tangent, and by the exponential. -/
def sgT (g : EReal) : EReal := cHalf * Ideal.tanh (cHalf * g) + cHalf
def sgE (g : EReal) : EReal := Ideal.div 1 (1 + Ideal.exp (-g))

/-- The activation, the gate's gradient and the up projection's, of gate `g`, up `u` and gradient `a`. -/
def actT (g u : EReal) : EReal := g * sgT g * u
def dgT (a g u : EReal) : EReal := a * u * (sgT g + g * sgT g * (1 - sgT g))
def duT (a g : EReal) : EReal := a * (g * sgT g)
def dgE (a g u : EReal) : EReal := a * u * sgE g + g * (a * u) * (sgE g * (1 - sgE g))

/-- The row's common term of the gradient through the normalization. -/
def wsum (x g h : Fin 1024 → EReal) : EReal :=
  Ideal.div ((∑ d, x d * (h d * g d)) * (cMinus * Ideal.div (rs x) (var x))) cLen
/-- The row's gradient, of the gradient `h` of the normalized row and the incoming gradient `y`. -/
def dx (x g h y : Fin 1024 → EReal) (d : Fin 1024) : EReal :=
  y d + (h d * g d * rs x + x d * wsum x g h + wsum x g h * x d)

end Cert.Ffn

end
-- ==== Proof.Ffn.Block.lean ====
/- The kernel's block body read at an index: each payload of one grid point by the formulas of `Row`. -/
module

public import proofs.«01_k».proof.Proof.Ffn.Row
public import proofs.«01_k».proof.Proof.Gen.Kernel2Ideal.Skeleton

@[expose] public section

noncomputable section

namespace Cert.Ffn

open Idealize.ShloMosaic Cert.Kernel2Ideal Cert.Kernel2Ideal.Gen

section Gates
variable (v3 : Vec Ideal S1024x1024 .bf16) (v5 v7 : Vec Ideal S1024x256 .bf16) (v9 : Vec Ideal S1024x1024 .bf16)
  (v10 : Vec Ideal S256x1024 .bf16) (r : Fin 1024) (k : Fin 256)

theorem pay11_at : k0_pay11 v3 v5 (ix2 r k) = ∑ d : Fin 1024, v3 (ix2 r d) * v5 (ix2 d k) := by
  pointwise [k0_pay11, k0_pay10]

theorem pay12_at : k0_pay12 v3 v7 (ix2 r k) = ∑ d : Fin 1024, v3 (ix2 r d) * v7 (ix2 d k) := by
  pointwise [k0_pay12, k0_pay10]

theorem pay13_at : k0_pay13 v9 v10 (ix2 r k) = ∑ d : Fin 1024, v9 (ix2 r d) * v10 (ix2 k d) := by
  pointwise [k0_pay13]

theorem pay14_at : k0_pay14 v3 v5 (ix2 r k) = sgT (k0_pay11 v3 v5 (ix2 r k)) := by
  pointwise [k0_pay14]
  rfl

theorem pay15_at : k0_pay15 v3 v5 (ix2 r k) = k0_pay11 v3 v5 (ix2 r k) * sgT (k0_pay11 v3 v5 (ix2 r k)) := by
  rw [← pay14_at]
  pointwise [k0_pay15]

theorem pay16_at : k0_pay16 v3 v5 v7 (ix2 r k) = actT (k0_pay11 v3 v5 (ix2 r k)) (k0_pay12 v3 v7 (ix2 r k)) := by
  pointwise [k0_pay16]
  rw [pay15_at]; rfl

theorem pay17_at : k0_pay17 v3 v5 v7 v9 v10 (ix2 r k)
    = dgT (k0_pay13 v9 v10 (ix2 r k)) (k0_pay11 v3 v5 (ix2 r k)) (k0_pay12 v3 v7 (ix2 r k)) := by
  pointwise [k0_pay17]
  rw [pay15_at, pay14_at]; rfl

theorem pay18_at : k0_pay18 v3 v5 v9 v10 (ix2 r k) = duT (k0_pay13 v9 v10 (ix2 r k)) (k0_pay11 v3 v5 (ix2 r k)) := by
  pointwise [k0_pay18]
  rw [pay15_at]; rfl

end Gates

section Norm
variable (x : Vec Ideal S1024x1024 .f32) (g : Vec Ideal S1x1024 .f32) (h y : Vec Ideal S1024x1024 .f32) (r a : Fin 1024)

theorem pay8_at : k0_pay8 y (ix2 r a) = cHalf * y (ix2 r a) := by
  pointwise [k0_pay8]
  rfl

theorem pay9_at : k0_pay9 (F := Ideal) (ix2 r a) = 0 := by
  pointwise [k0_pay9]

theorem pay2_at (z : Fin 1) : k0_pay2 (F := Ideal) (ix2 z a) = 0 := by
  pointwise [k0_pay2]

theorem pay3_at (u v : Vec Ideal S1x1024 .f32) (z : Fin 1) : k0_pay3 u v (ix2 z a) = v (ix2 z a) + u (ix2 z a) := by
  pointwise [k0_pay3]

theorem pay4_at (z : Fin 1) : k0_pay4 x (ix2 r z) = var fun d => x (ix2 r d) := by
  pointwise [k0_pay4]
  rfl

theorem pay5_at (z : Fin 1) : k0_pay5 x (ix2 r z) = rs fun d => x (ix2 r d) := by
  unfold rs
  rw [← pay4_at x r z]
  pointwise [k0_pay5]

theorem pay6_at (z : Fin 1) : k0_pay6 x h (ix2 z a) = ∑ r : Fin 1024, x (ix2 r a) * rs (fun d => x (ix2 r d)) * h (ix2 r a) := by
  simp only [← pay5_at x _ 0]
  pointwise [k0_pay6]

theorem pay7_at : k0_pay7 x g h y (ix2 r a)
    = dx (fun d => x (ix2 r d)) (fun d => g (ix2 0 d)) (fun d => h (ix2 r d)) (fun d => y (ix2 r d)) a := by
  unfold dx wsum
  rw [← pay5_at x r 0, ← pay4_at x r 0]
  pointwise [k0_pay7]
  simp only [Fin.sum_univ_one]
  rfl

end Norm

section Acc
variable (v29 v31 : FVec Ideal S1024x256 .bf16) (v34 : Vec Ideal S1024x1024 .f32) (v36 v37 : Vec Ideal S1024x256 .bf16)

theorem pay1_at (r a : Fin 1024) : k0_pay1 v29 v31 v34 v36 v37 (ix2 r a) = v34 (ix2 r a)
    + ∑ q : Fin 512, (if h : (q : ℕ) < 256 then v29 (ix2 r (⟨q, h⟩ : Fin 256)) else v31 (ix2 r (⟨q - 256, by omega⟩ : Fin 256)))
        * (if h : (q : ℕ) < 256 then v36 (ix2 a (⟨q, h⟩ : Fin 256)) else v37 (ix2 a (⟨q - 256, by omega⟩ : Fin 256))) := by
  pointwise [k0_pay1]

end Acc

end Cert.Ffn

end
-- ==== Proof.Ffn.Kern.lean ====
/- What the kernel's body leaves in each output and scratch block at a grid point. -/
module

public import proofs.«01_k».proof.Proof.Ffn.Block
public import proofs.«01_k».proof.Proof.Gen.Kernel2Ideal.Frame
public import Idealize.ShloMosaic.Lib.Pipeline.ValueKit
public import Idealize.ShloMosaic.Lib.Pipeline.ReadBack

@[expose] public section

set_option maxRecDepth 16384

noncomputable section

namespace Cert.Ffn

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ) (c : Dev nD) (t : Fin cfg0.N)

/-- A point's activation and the gradients of its gate and up projection, of the halved gradient `y`. -/
abbrev bAct : FVec Ideal S1024x256 .bf16 := k0_pay16 (iblk m c 2 t) (iblk m c 4 t) (iblk m c 5 t)
abbrev bDg (y : Vec Ideal S1024x1024 .bf16) : FVec Ideal S1024x256 .bf16 :=
  k0_pay17 (iblk m c 2 t) (iblk m c 4 t) (iblk m c 5 t) y (iblk m c 6 t)
abbrev bDu (y : Vec Ideal S1024x1024 .bf16) : FVec Ideal S1024x256 .bf16 :=
  k0_pay18 (iblk m c 2 t) (iblk m c 4 t) y (iblk m c 6 t)
/-- The gradient of the normalized rows after the point, of what it was before. -/
abbrev bDhn (y : Vec Ideal S1024x1024 .bf16) (s : Vec Ideal S1024x1024 .f32) : FVec Ideal S1024x1024 .f32 :=
  k0_pay1 (bDg m c t y) (bDu m c t y) s (iblk m c 4 t) (iblk m c 5 t)

/-- What the point before left. -/
abbrev prev := outsAt0 m c (t.val - 1) (Nat.lt_of_le_of_lt (Nat.sub_le _ _) t.isLt)

/-- The first point of a tile of rows. -/
theorem outs_A (h0 : t.val % 11 = 0) (h1 : ¬t.val % 11 = 10) : (outsAt0 m c t.val t.isLt).2
    = ((prev m c t).2.1, bAct m c t, bDg m c t (k0_pay8 (iblk m c 0 t)), bDu m c t (k0_pay8 (iblk m c 0 t)),
        k0_pay8 (iblk m c 0 t), bDhn m c t (k0_pay8 (iblk m c 0 t)) (k0_pay9 (F := Ideal))) := by
  rw [outsAt0_A m c t h0 h1]
  frame_out
  rfl

/-- A later point that is not the tile's last. -/
theorem outs_B (h0 : ¬t.val % 11 = 0) (h1 : ¬t.val % 11 = 10) : (outsAt0 m c t.val t.isLt).2
    = ((prev m c t).2.1, bAct m c t, bDg m c t (prev m c t).2.2.2.2.2.1, bDu m c t (prev m c t).2.2.2.2.2.1,
        (prev m c t).2.2.2.2.2.1, bDhn m c t (prev m c t).2.2.2.2.2.1 (prev m c t).2.2.2.2.2.2) := by
  rw [outsAt0_B m c t h0 h1]
  frame_out
  simp only [read_unread_whole]
  rfl

/-- The last point of a tile: the row gradient, and the gain's gradient from the rows. -/
abbrev bDhnL := bDhn m c t (prev m c t).2.2.2.2.2.1 (prev m c t).2.2.2.2.2.2

theorem outs_C (h0 : ¬t.val % 11 = 0) (h1 : t.val % 11 = 10) (h2 : t.val < 11) : outsAt0 m c t.val t.isLt
    = (k0_pay7 (iblk m c 1 t) (iblk m c 3 t) (bDhnL m c t) (iblk m c 0 t),
        k0_pay3 (k0_pay6 (iblk m c 1 t) (bDhnL m c t)) (k0_pay2 (F := Ideal)),
        bAct m c t, bDg m c t (prev m c t).2.2.2.2.2.1, bDu m c t (prev m c t).2.2.2.2.2.1,
        (prev m c t).2.2.2.2.2.1, bDhnL m c t) := by
  rw [outsAt0_C m c t h0 h1 h2]
  frame_out
  simp only [read_unread_whole]
  rfl

theorem outs_D (h0 : ¬t.val % 11 = 0) (h1 : t.val % 11 = 10) (h2 : ¬t.val < 11) : outsAt0 m c t.val t.isLt
    = (k0_pay7 (iblk m c 1 t) (iblk m c 3 t) (bDhnL m c t) (iblk m c 0 t),
        k0_pay3 (k0_pay6 (iblk m c 1 t) (bDhnL m c t)) (prev m c t).2.1,
        bAct m c t, bDg m c t (prev m c t).2.2.2.2.2.1, bDu m c t (prev m c t).2.2.2.2.2.1,
        (prev m c t).2.2.2.2.2.1, bDhnL m c t) := by
  rw [outsAt0_D m c t h0 h1 h2]
  frame_out
  simp only [read_unread_whole]
  rfl

end Cert.Ffn
end
-- ==== Proof.Ffn.Spec.lean ====
/- The results of the feed-forward block's backward over whole arrays, and sums taken block by block. -/
module

public import proofs.«01_k».proof.Proof.Ffn.Row

@[expose] public section

noncomputable section

namespace Cert.Ffn

open Idealize.ShloMosaic

/-- The columns of the gate and of the up projection. -/
def lo (k : Fin 2816) : Fin 5632 := ⟨k, by omega⟩
def hi (k : Fin 2816) : Fin 5632 := ⟨2816 + k, by omega⟩

section Arrays
variable (X : Fin 4096 → Fin 1024 → EReal) (G : Fin 1024 → EReal) (W : Fin 1024 → Fin 5632 → EReal)
  (D : Fin 2816 → Fin 1024 → EReal) (Y : Fin 4096 → Fin 1024 → EReal)

/-- Row `r`'s product with column `k` of the first weights, and the activation's gradient. -/
def pre (r : Fin 4096) (k : Fin 5632) : EReal := ∑ d, hn (X r) G d * W d k
def daS (r : Fin 4096) (k : Fin 2816) : EReal := da (Y r) (D k)
/-- The activation and the gradients of the gate and of the up projection. -/
def actS (r : Fin 4096) (k : Fin 2816) : EReal := actT (pre X G W r (lo k)) (pre X G W r (hi k))
def dgS (r : Fin 4096) (k : Fin 2816) : EReal := dgT (daS D Y r k) (pre X G W r (lo k)) (pre X G W r (hi k))
def duS (r : Fin 4096) (k : Fin 2816) : EReal := duT (daS D Y r k) (pre X G W r (lo k))
/-- The normalized rows' gradient. -/
def dhnS (r : Fin 4096) (a : Fin 1024) : EReal :=
  ∑ k, dgS X G W D Y r k * W a (lo k) + ∑ k, duS X G W D Y r k * W a (hi k)
/-- The gain's gradient, and the rows'. -/
def dgnS (a : Fin 1024) : EReal := ∑ r, X r a * rs (X r) * dhnS X G W D Y r a
def dxS (r : Fin 4096) (a : Fin 1024) : EReal := dx (X r) G (dhnS X G W D Y r) (Y r) a

end Arrays

/-- A sum over `a` blocks of `b`. -/
theorem sum_blocks (a b n : ℕ) (h : n = a * b) (f : Fin n → EReal) (hb : ∀ (i : Fin a) (j : Fin b), (i : ℕ) * b + j < n) :
    ∑ i : Fin a, ∑ j : Fin b, f ⟨i * b + j, hb i j⟩ = ∑ k, f k := by
  subst h
  rw [← Equiv.sum_comp finProdFinEquiv, Fintype.sum_prod_type]
  refine Finset.sum_congr rfl fun i _ => Finset.sum_congr rfl fun j _ => congrArg f (Fin.ext ?_)
  simp only [finProdFinEquiv_apply_val]
  rw [mul_comm, add_comm]

/-- A sum over two halves joined. -/
theorem sum_halves (a n : ℕ) (h : n = a + a) (f : Fin n → EReal) :
    ∑ k, f k = ∑ j : Fin a, f ⟨j, by omega⟩ + ∑ j : Fin a, f ⟨a + j, by omega⟩ := by
  subst h
  exact Fin.sum_univ_add f

end Cert.Ffn

end
-- ==== Proof.Ffn.Point.lean ====
/- The kernel's blocks at a grid point by the whole arrays: point `t` works on the rows of tile `t / 11` and the columns
   of block `t % 11`. -/
module

public import proofs.«01_k».proof.Proof.Ffn.Kern
public import proofs.«01_k».proof.Proof.Ffn.Spec
public import Idealize.ShloMosaic.Lib.StableHlo.ReadAt

@[expose] public section

set_option maxRecDepth 16384

noncomputable section

namespace Cert.Ffn

open Idealize.ShloMosaic Idealize.ShloMosaic.TcCoe Idealize.SL.Sem
open Idealize.ShloMosaic.Pipeline (Dat)
open Cert.Kernel2Ideal Cert.Kernel2Ideal.Gen

/-- A row of tile `i`, a column of block `j`. -/
def row (i : Fin 4) (r : Fin 1024) : Fin 4096 := ⟨i * 1024 + r, by omega⟩
def col (j : Fin 11) (q : Fin 256) : Fin 2816 := ⟨j * 256 + q, by omega⟩

variable (m : (ℓ : Loc nD τ sig) → Buf (Elt Ideal) ℓ) (c : Dev nD)

/-- The arguments on core `c`. -/
abbrev aX (r : Fin 4096) (d : Fin 1024) : EReal := (m ((c : Thread nD τ).loc main_arg0) : FVec Ideal S4096x1024 .f32) (ix2 r d)
abbrev aG (d : Fin 1024) : EReal := (m ((c : Thread nD τ).loc main_arg1) : FVec Ideal S1x1024 .f32) (ix2 0 d)
abbrev aW (d : Fin 1024) (k : Fin 5632) : EReal := (m ((c : Thread nD τ).loc main_arg2) : FVec Ideal S1024x5632 .bf16) (ix2 d k)
abbrev aD (k : Fin 2816) (d : Fin 1024) : EReal := (m ((c : Thread nD τ).loc main_arg3) : FVec Ideal S2816x1024 .bf16) (ix2 k d)
abbrev aY (r : Fin 4096) (d : Fin 1024) : EReal := (m ((c : Thread nD τ).loc main_arg4) : FVec Ideal S4096x1024 .f32) (ix2 r d)

theorem V_x (r : Fin 4096) (d : Fin 1024) : V m c main_arg0 (ix2 r d) = aX m c r d := by
  rw [V_main_arg0]
theorem V_g (d : Fin 1024) : V m c main_arg1 (ix2 0 d) = aG m c d := by
  rw [V_main_arg1]
theorem V_w (d : Fin 1024) (k : Fin 5632) : V m c main_arg2 (ix2 d k) = aW m c d k := by
  rw [V_main_arg2]
theorem V_d (k : Fin 2816) (d : Fin 1024) : V m c main_arg3 (ix2 k d) = aD m c k d := by
  rw [V_main_arg3]
theorem V_y (r : Fin 4096) (d : Fin 1024) : V m c main_arg4 (ix2 r d) = aY m c r d := by
  rw [V_main_arg4]
theorem V_h (r : Fin 4096) (d : Fin 1024) : V m c main_v12 (ix2 r d) = hn (aX m c r) (aG m c) d := by
  unfold V; after_reads_at; rfl

theorem idx0 : ∀ t : Fin cfg0.N, (t : ℕ) < 44 ∧ win0_0.index t = ![t.val / 11, 0] ∧ win0_1.index t = ![t.val / 11, 0]
    ∧ win0_2.index t = ![t.val / 11, 0] ∧ win0_3.index t = ![0, 0] ∧ win0_4.index t = ![0, t.val % 11]
    ∧ win0_5.index t = ![0, 11 + t.val % 11] ∧ win0_6.index t = ![t.val % 11, 0] ∧ win0_7.index t = ![t.val / 11, 0]
    ∧ win0_8.index t = ![0, 0] ∧ win0_9.index t = ![t.val / 11, t.val % 11] ∧ win0_10.index t = ![t.val / 11, t.val % 11]
    ∧ win0_11.index t = ![t.val / 11, t.val % 11] := by decide +kernel

/-- A point's tile of rows and block of columns. -/
def ti (t : Fin cfg0.N) : Fin 4 := ⟨t.val / 11, by have := (idx0 t).1; omega⟩
def tj (t : Fin cfg0.N) : Fin 11 := ⟨t.val % 11, by omega⟩

section Reads
variable (t : Fin cfg0.N)

theorem blk_y (r d : Fin 1024) : iblk m c 0 t (ix2 r d) = aY m c (row (ti t) r) d := by
  refine Eq.trans ?_ (V_y m c (row (ti t) r) d)
  obtain ⟨_, e, _⟩ := idx0 t
  blk_ext [iblk, V, e] <;> simp [ti, row]

theorem blk_x (r d : Fin 1024) : iblk m c 1 t (ix2 r d) = aX m c (row (ti t) r) d := by
  refine Eq.trans ?_ (V_x m c (row (ti t) r) d)
  obtain ⟨_, _, e, _⟩ := idx0 t
  blk_ext [iblk, V, e] <;> simp [ti, row]

theorem blk_h (r d : Fin 1024) : iblk m c 2 t (ix2 r d) = hn (aX m c (row (ti t) r)) (aG m c) d := by
  refine Eq.trans ?_ (V_h m c (row (ti t) r) d)
  obtain ⟨_, _, _, e, _⟩ := idx0 t
  blk_ext [iblk, V, e] <;> simp [ti, row]

theorem blk_g (d : Fin 1024) : iblk m c 3 t (ix2 0 d) = aG m c d := by
  refine Eq.trans ?_ (V_g m c d)
  obtain ⟨_, _, _, _, e, _⟩ := idx0 t
  blk_ext [iblk, V, e] <;> simp

theorem blk_wg (d : Fin 1024) (q : Fin 256) : iblk m c 4 t (ix2 d q) = aW m c d (lo (col (tj t) q)) := by
  refine Eq.trans ?_ (V_w m c d (lo (col (tj t) q)))
  obtain ⟨_, _, _, _, _, e, _⟩ := idx0 t
  blk_ext [iblk, V, e] <;> simp [tj, lo, col]

theorem blk_wu (d : Fin 1024) (q : Fin 256) : iblk m c 5 t (ix2 d q) = aW m c d (hi (col (tj t) q)) := by
  refine Eq.trans ?_ (V_w m c d (hi (col (tj t) q)))
  obtain ⟨_, _, _, _, _, _, e, _⟩ := idx0 t
  blk_ext [iblk, V, e] <;> simp [tj, hi, col] <;> omega

theorem blk_wd (q : Fin 256) (d : Fin 1024) : iblk m c 6 t (ix2 q d) = aD m c (col (tj t) q) d := by
  refine Eq.trans ?_ (V_d m c (col (tj t) q) d)
  obtain ⟨_, _, _, _, _, _, _, e, _⟩ := idx0 t
  blk_ext [iblk, V, e] <;> simp [tj, col]

theorem gate_at (r : Fin 1024) (q : Fin 256) : k0_pay11 (iblk m c 2 t) (iblk m c 4 t) (ix2 r q)
    = pre (aX m c) (aG m c) (aW m c) (row (ti t) r) (lo (col (tj t) q)) := by
  rw [pay11_at]
  simp only [blk_h, blk_wg]; rfl

theorem up_at (r : Fin 1024) (q : Fin 256) : k0_pay12 (iblk m c 2 t) (iblk m c 5 t) (ix2 r q)
    = pre (aX m c) (aG m c) (aW m c) (row (ti t) r) (hi (col (tj t) q)) := by
  rw [pay12_at]
  simp only [blk_h, blk_wu]; rfl

theorem act_at (r : Fin 1024) (q : Fin 256) : bAct m c t (ix2 r q)
    = actS (aX m c) (aG m c) (aW m c) (row (ti t) r) (col (tj t) q) := by
  unfold bAct
  rw [pay16_at, gate_at, up_at]; rfl

section Half
variable (y : Vec Ideal S1024x1024 .bf16) (hy : ∀ r d, y (ix2 r d) = cHalf * aY m c (row (ti t) r) d)
include hy

theorem da_at (r : Fin 1024) (q : Fin 256) : k0_pay13 y (iblk m c 6 t) (ix2 r q)
    = daS (aD m c) (aY m c) (row (ti t) r) (col (tj t) q) := by
  rw [pay13_at]
  simp only [hy, blk_wd]; rfl

theorem dg_at (r : Fin 1024) (q : Fin 256) : bDg m c t y (ix2 r q)
    = dgS (aX m c) (aG m c) (aW m c) (aD m c) (aY m c) (row (ti t) r) (col (tj t) q) := by
  unfold bDg
  rw [pay17_at, gate_at, up_at, da_at m c t y hy]; rfl

theorem du_at (r : Fin 1024) (q : Fin 256) : bDu m c t y (ix2 r q)
    = duS (aX m c) (aG m c) (aW m c) (aD m c) (aY m c) (row (ti t) r) (col (tj t) q) := by
  unfold bDu
  rw [pay18_at, gate_at, da_at m c t y hy]; rfl

end Half
end Reads

/-- A point's share of the normalized rows' gradient. -/
def part (i : Fin 4) (j : Fin 11) (r a : Fin 1024) : EReal :=
  ∑ q : Fin 256, dgS (aX m c) (aG m c) (aW m c) (aD m c) (aY m c) (row i r) (col j q) * aW m c a (lo (col j q))
  + ∑ q : Fin 256, duS (aX m c) (aG m c) (aW m c) (aD m c) (aY m c) (row i r) (col j q) * aW m c a (hi (col j q))

theorem dhn_at (t : Fin cfg0.N) (y : Vec Ideal S1024x1024 .bf16) (hy : ∀ r d, y (ix2 r d) = cHalf * aY m c (row (ti t) r) d)
    (s : Vec Ideal S1024x1024 .f32) (r a : Fin 1024) : bDhn m c t y s (ix2 r a) = s (ix2 r a) + part m c (ti t) (tj t) r a := by
  unfold bDhn
  rw [pay1_at, sum_halves 256 512 rfl]
  unfold part
  congr 2
  · refine Finset.sum_congr rfl fun q _ => ?_
    rw [dif_pos q.isLt, dif_pos q.isLt]
    rw [← dg_at m c t y hy, ← blk_wg]
  · refine Finset.sum_congr rfl fun q _ => ?_
    have h : ¬256 + (q : ℕ) < 256 := by omega
    rw [dif_neg h, dif_neg h]
    have e : (⟨256 + (q : ℕ) - 256, by omega⟩ : Fin 256) = q := by ext; simp
    simp only [e]
    rw [← du_at m c t y hy, ← blk_wu]

/-- The halved gradient and the normalized rows' gradient that a point leaves in scratch. -/
abbrev sy (n : ℕ) (h : n < cfg0.N) := (outsAt0 m c n h).2.2.2.2.2.1
abbrev sh (n : ℕ) (h : n < cfg0.N) := (outsAt0 m c n h).2.2.2.2.2.2

/-- Every point's four blocks of columns, by the halved gradient it leaves in scratch. -/
theorem outs_cols (t : Fin cfg0.N) : (outsAt0 m c t.val t.isLt).2.2.1 = bAct m c t
    ∧ (outsAt0 m c t.val t.isLt).2.2.2.1 = bDg m c t (sy m c t.val t.isLt)
    ∧ (outsAt0 m c t.val t.isLt).2.2.2.2.1 = bDu m c t (sy m c t.val t.isLt) := by
  unfold sy
  by_cases h0 : t.val % 11 = 0
  · rw [outs_A m c t h0 (by omega)]; exact ⟨rfl, rfl, rfl⟩
  · by_cases h1 : t.val % 11 = 10
    · by_cases h2 : t.val < 11
      · rw [outs_C m c t h0 h1 h2]; exact ⟨rfl, rfl, rfl⟩
      · rw [outs_D m c t h0 h1 h2]; exact ⟨rfl, rfl, rfl⟩
    · rw [outs_B m c t h0 h1]; exact ⟨rfl, rfl, rfl⟩

theorem sy_zero (t : Fin cfg0.N) (h0 : t.val % 11 = 0) : sy m c t.val t.isLt = k0_pay8 (iblk m c 0 t) := by
  unfold sy
  rw [outs_A m c t h0 (by omega)]

theorem sy_succ (t : Fin cfg0.N) (h0 : ¬t.val % 11 = 0) : sy m c t.val t.isLt = (prev m c t).2.2.2.2.2.1 := by
  unfold sy
  by_cases h1 : t.val % 11 = 10
  · by_cases h2 : t.val < 11
    · rw [outs_C m c t h0 h1 h2]
    · rw [outs_D m c t h0 h1 h2]
  · rw [outs_B m c t h0 h1]

theorem sh_zero (t : Fin cfg0.N) (h0 : t.val % 11 = 0) :
    sh m c t.val t.isLt = bDhn m c t (sy m c t.val t.isLt) (k0_pay9 (F := Ideal)) := by
  rw [sy_zero m c t h0]
  unfold sh
  rw [outs_A m c t h0 (by omega)]

theorem sh_succ (t : Fin cfg0.N) (h0 : ¬t.val % 11 = 0) :
    sh m c t.val t.isLt = bDhn m c t (sy m c t.val t.isLt) (prev m c t).2.2.2.2.2.2 := by
  rw [sy_succ m c t h0]
  unfold sh
  by_cases h1 : t.val % 11 = 10
  · by_cases h2 : t.val < 11
    · rw [outs_C m c t h0 h1 h2]
    · rw [outs_D m c t h0 h1 h2]
  · rw [outs_B m c t h0 h1]

/-- The scratch holds the tile's halved gradient after every point. -/
theorem sy_at (n : ℕ) (h : n < cfg0.N) (r d : Fin 1024) : sy m c n h (ix2 r d) = cHalf * aY m c (row (ti ⟨n, h⟩) r) d := by
  induction n with
  | zero =>
    rw [sy_zero m c ⟨0, h⟩ rfl, pay8_at, blk_y]
  | succ n ih =>
    by_cases h0 : (n + 1) % 11 = 0
    · rw [sy_zero m c ⟨n + 1, h⟩ h0, pay8_at, blk_y]
    · rw [sy_succ m c ⟨n + 1, h⟩ h0]
      refine (ih (by omega)).trans ?_
      congr 2
      have e : n / 11 = (n + 1) / 11 := by omega
      ext; simp only [row, ti, e]

theorem sh_zero_at (t : Fin cfg0.N) (h0 : t.val % 11 = 0) (r a : Fin 1024) :
    sh m c t.val t.isLt (ix2 r a) = 0 + part m c (ti t) (tj t) r a := by
  rw [sh_zero m c t h0, dhn_at m c t _ (sy_at m c t.val t.isLt), pay9_at]

theorem sh_succ_at (t : Fin cfg0.N) (h0 : ¬t.val % 11 = 0) (r a : Fin 1024) :
    sh m c t.val t.isLt (ix2 r a) = (prev m c t).2.2.2.2.2.2 (ix2 r a) + part m c (ti t) (tj t) r a := by
  rw [sh_succ m c t h0, dhn_at m c t _ (sy_at m c t.val t.isLt)]

/-- The same at an index, closed for what follows. -/
@[irreducible] def shAt (r a : Fin 1024) (n : ℕ) (h : n < cfg0.N) : EReal := sh m c n h (ix2 r a)

theorem shAt_eq (r a : Fin 1024) (n : ℕ) (h : n < cfg0.N) : shAt m c r a n h = sh m c n h (ix2 r a) := by
  unfold shAt; rfl

theorem shAt_zero (r a : Fin 1024) (t : Fin cfg0.N) (h0 : t.val % 11 = 0) :
    shAt m c r a t.val t.isLt = 0 + part m c (ti t) (tj t) r a := by
  rw [shAt_eq, sh_zero_at m c t h0]

theorem shAt_succ (r a : Fin 1024) (t : Fin cfg0.N) (h0 : ¬t.val % 11 = 0) : shAt m c r a t.val t.isLt
    = shAt m c r a (t.val - 1) (Nat.lt_of_le_of_lt (Nat.sub_le _ _) t.isLt) + part m c (ti t) (tj t) r a := by
  rw [shAt_eq, shAt_eq, sh_succ_at m c t h0]

/-- The shares of a tile's eleven points add up to the normalized rows' gradient. -/
theorem sum_part (i : Fin 4) (r a : Fin 1024) : ∑ j : Fin 11, part m c i j r a
    = dhnS (aX m c) (aG m c) (aW m c) (aD m c) (aY m c) (row i r) a := by
  unfold part dhnS
  rw [Finset.sum_add_distrib]
  congr 1
  · exact sum_blocks 11 256 2816 rfl (fun k => dgS (aX m c) (aG m c) (aW m c) (aD m c) (aY m c) (row i r) k * aW m c a (lo k))
      (fun i j => by omega)
  · exact sum_blocks 11 256 2816 rfl (fun k => duS (aX m c) (aG m c) (aW m c) (aD m c) (aY m c) (row i r) k * aW m c a (hi k))
      (fun i j => by omega)

/-- After a tile's last point the scratch holds the normalized rows' gradient. -/
theorem sh_at (t : Fin cfg0.N) (ht : t.val % 11 = 10) (r a : Fin 1024) : sh m c t.val t.isLt (ix2 r a)
    = dhnS (aX m c) (aG m c) (aW m c) (aD m c) (aY m c) (row (ti t) r) a := by
  have acc := Pipeline.eq_sum_fin_of_reset_step_of_flush (shAt m c r a) 11 0 (fun t => part m c (ti t) (tj t) r a)
    (shAt_zero m c r a) (shAt_succ m c r a) t ht
  rw [shAt_eq] at acc
  rw [acc, zero_add, ← sum_part m c (ti t) r a]
  refine Finset.sum_congr rfl fun s _ => ?_
  have hs := s.isLt
  congr 1 <;> (ext; simp only [ti, tj]; omega)

end Cert.Ffn

end
-- ==== Proof.Ffn.Arrays.lean ====
/- What the region leaves in its five result arrays: the results of `Spec`, tile by tile and block by block. -/
module

public import proofs.«01_k».proof.Proof.Ffn.Point

@[expose] public section

set_option maxRecDepth 16384

noncomputable section

namespace Cert.Ffn

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ) (c : Dev nD)

/-- The five results of the arguments on core `c`. -/
abbrev kDx := dxS (aX m c) (aG m c) (aW m c) (aD m c) (aY m c)
abbrev kDgn := dgnS (aX m c) (aG m c) (aW m c) (aD m c) (aY m c)
abbrev kAct := actS (aX m c) (aG m c) (aW m c)
abbrev kDg := dgS (aX m c) (aG m c) (aW m c) (aD m c) (aY m c)
abbrev kDu := duS (aX m c) (aG m c) (aW m c) (aD m c) (aY m c)

/-- A function of a row and a column as an array. -/
def arr {n0 n1 : ℕ} (f : Fin n0 → Fin n1 → EReal) : (⟨2, ![n0, n1]⟩ : Shape).Idx → EReal := fun i => f (i 0) (i 1)
theorem arr_at {n0 n1 : ℕ} (f : Fin n0 → Fin n1 → EReal) (a : Fin n0) (b : Fin n1) : arr f (ix2 a b) = f a b := rfl

theorem arr_act : (dats m 0 c).arrAt 9 cfg0.N = arr (kAct m c) := by
  refine (dats m 0 c).arrAt_eq_of_covers 9 _ (by decide +kernel) fun t hf y => ?_
  blk_simp
  rw [after0_9, (outs_cols m c t).1]
  obtain ⟨_, _, _, _, _, _, _, _, _, _, e9, _⟩ := idx0 t
  have key := act_at m c t (y 0) (y 1)
  rw [← eq_ix2 (n0 := 1024) (n1 := 256) y] at key
  refine key.trans ((arr_at (kAct m c) (row (ti t) (y 0)) (col (tj t) (y 1))).symm.trans (congrArg (arr (kAct m c)) ?_))
  blk_ext [e9] <;> simp [ti, tj, row, col]

theorem arr_dg : (dats m 0 c).arrAt 10 cfg0.N = arr (kDg m c) := by
  refine (dats m 0 c).arrAt_eq_of_covers 10 _ (by decide +kernel) fun t hf y => ?_
  blk_simp
  rw [after0_10, (outs_cols m c t).2.1]
  obtain ⟨_, _, _, _, _, _, _, _, _, _, _, e10, _⟩ := idx0 t
  have key := dg_at m c t _ (sy_at m c t.val t.isLt) (y 0) (y 1)
  rw [← eq_ix2 (n0 := 1024) (n1 := 256) y] at key
  refine key.trans ((arr_at (kDg m c) (row (ti t) (y 0)) (col (tj t) (y 1))).symm.trans (congrArg (arr (kDg m c)) ?_))
  blk_ext [e10] <;> simp [ti, tj, row, col]

theorem arr_du : (dats m 0 c).arrAt 11 cfg0.N = arr (kDu m c) := by
  refine (dats m 0 c).arrAt_eq_of_covers 11 _ (by decide +kernel) fun t hf y => ?_
  blk_simp
  rw [after0_11, (outs_cols m c t).2.2]
  obtain ⟨_, _, _, _, _, _, _, _, _, _, _, _, e11⟩ := idx0 t
  have key := du_at m c t _ (sy_at m c t.val t.isLt) (y 0) (y 1)
  rw [← eq_ix2 (n0 := 1024) (n1 := 256) y] at key
  refine key.trans ((arr_at (kDu m c) (row (ti t) (y 0)) (col (tj t) (y 1))).symm.trans (congrArg (arr (kDu m c)) ?_))
  blk_ext [e11] <;> simp [ti, tj, row, col]

/-- A tile's last point leaves the rows' gradient. -/
theorem outs_dx (t : Fin cfg0.N) (h1 : t.val % 11 = 10) : (outsAt0 m c t.val t.isLt).1
    = k0_pay7 (iblk m c 1 t) (iblk m c 3 t) (sh m c t.val t.isLt) (iblk m c 0 t) := by
  unfold sh
  by_cases h2 : t.val < 11
  · rw [outs_C m c t (by omega) h1 h2]
  · rw [outs_D m c t (by omega) h1 h2]

theorem dx_at (t : Fin cfg0.N) (h1 : t.val % 11 = 10) (r a : Fin 1024) : (outsAt0 m c t.val t.isLt).1 (ix2 r a)
    = kDx m c (row (ti t) r) a := by
  rw [outs_dx m c t h1, pay7_at]
  simp only [blk_x, blk_g, blk_y, sh_at m c t h1]; rfl

theorem arr_dx : (dats m 0 c).arrAt 7 cfg0.N = arr (kDx m c) := by
  refine (dats m 0 c).arrAt_eq_of_covers 7 _ (by decide +kernel) fun t hf y => ?_
  have hr := (flush0_7 t).mp hf
  blk_simp
  rw [after0_7]
  obtain ⟨_, _, _, _, _, _, _, _, e7, _⟩ := idx0 t
  have key := dx_at m c t hr (y 0) (y 1)
  rw [← eq_ix2 (n0 := 1024) (n1 := 1024) y] at key
  refine key.trans ((arr_at (kDx m c) (row (ti t) (y 0)) (y 1)).symm.trans (congrArg (arr (kDx m c)) ?_))
  blk_ext [e7] <;> simp [ti, row]

/-- A tile's share of the gain's gradient. -/
def tile (i : Fin 4) (a : Fin 1024) : EReal :=
  ∑ r : Fin 1024, aX m c (row i r) a * rs (aX m c (row i r)) * dhnS (aX m c) (aG m c) (aW m c) (aD m c) (aY m c) (row i r) a

theorem tile_at (t : Fin cfg0.N) (h1 : t.val % 11 = 10) (z : Fin 1) (a : Fin 1024) :
    k0_pay6 (iblk m c 1 t) (sh m c t.val t.isLt) (ix2 z a) = tile m c (ti t) a := by
  rw [pay6_at]
  simp only [blk_x, sh_at m c t h1]; rfl

/-- The gain's gradient as a point leaves it: begun at the first tile's end, added to at a tile's end, else carried. -/
@[irreducible] def gnAt (z : Fin 1) (a : Fin 1024) (n : ℕ) (h : n < cfg0.N) : EReal := (outsAt0 m c n h).2.1 (ix2 z a)

theorem gnAt_eq (z : Fin 1) (a : Fin 1024) (n : ℕ) (h : n < cfg0.N) : gnAt m c z a n h = (outsAt0 m c n h).2.1 (ix2 z a) := by
  unfold gnAt; rfl

theorem gnAt_first (z : Fin 1) (a : Fin 1024) (t : Fin cfg0.N) (h1 : t.val % 11 = 10) (h2 : t.val < 11) :
    gnAt m c z a t.val t.isLt = tile m c (ti t) a := by
  rw [gnAt_eq, ← tile_at m c t h1 z a]
  unfold sh
  rw [outs_C m c t (by omega) h1 h2]
  simp only
  rw [pay3_at, pay2_at, zero_add]

theorem gnAt_add (z : Fin 1) (a : Fin 1024) (t : Fin cfg0.N) (h1 : t.val % 11 = 10) (h2 : ¬t.val < 11) :
    gnAt m c z a t.val t.isLt = gnAt m c z a (t.val - 1) (Nat.lt_of_le_of_lt (Nat.sub_le _ _) t.isLt) + tile m c (ti t) a := by
  rw [gnAt_eq, gnAt_eq, ← tile_at m c t h1 z a]
  unfold sh
  rw [outs_D m c t (by omega) h1 h2]
  simp only
  rw [pay3_at]

theorem gnAt_keep (z : Fin 1) (a : Fin 1024) (t : Fin cfg0.N) (h1 : ¬t.val % 11 = 10) :
    gnAt m c z a t.val t.isLt = gnAt m c z a (t.val - 1) (Nat.lt_of_le_of_lt (Nat.sub_le _ _) t.isLt) := by
  rw [gnAt_eq, gnAt_eq]
  by_cases h0 : t.val % 11 = 0
  · rw [outs_A m c t h0 h1]
  · rw [outs_B m c t h0 h1]

/-- After `k + 1` tiles it is the sum of their shares. -/
theorem gnAt_sum (z : Fin 1) (a : Fin 1024) (n : ℕ) (h : n < cfg0.N) (hn : 10 ≤ n) : gnAt m c z a n h
    = ∑ i ∈ Finset.range ((n + 1) / 11), if hi : i < 4 then tile m c ⟨i, hi⟩ a else 0 := by
  have hN := (idx0 ⟨n, h⟩).1
  simp only at hN
  induction n with
  | zero => omega
  | succ n ih =>
    by_cases h1 : (n + 1) % 11 = 10
    · by_cases h2 : n + 1 < 11
      · rw [gnAt_first m c z a ⟨n + 1, h⟩ h1 h2]
        obtain rfl : n = 9 := by omega
        simp [ti]
      · rw [gnAt_add m c z a ⟨n + 1, h⟩ h1 h2]
        have e : (n + 1 + 1) / 11 = (n + 1) / 11 + 1 := by omega
        rw [e, Finset.sum_range_succ, dif_pos (by omega)]
        congr 1
        exact ih (by omega) (by omega) (by omega)
    · rw [gnAt_keep m c z a ⟨n + 1, h⟩ h1]
      have e : (n + 1 + 1) / 11 = (n + 1) / 11 := by omega
      rw [e]
      exact ih (by omega) (by omega) (by omega)

theorem sum_tile (a : Fin 1024) : ∑ i ∈ Finset.range 4, (if hi : i < 4 then tile m c ⟨i, hi⟩ a else 0) = kDgn m c a := by
  rw [Finset.sum_range]
  unfold tile kDgn dgnS
  refine Eq.trans ?_ (sum_blocks 4 1024 4096 rfl (fun r => aX m c r a * rs (aX m c r)
    * dhnS (aX m c) (aG m c) (aW m c) (aD m c) (aY m c) r a) (fun i j => by omega))
  refine Finset.sum_congr rfl fun i _ => ?_
  rw [dif_pos i.isLt]
  rfl

theorem arr_dgn : (dats m 0 c).arrAt 8 cfg0.N = arr (fun _ : Fin 1 => kDgn m c) := by
  refine (dats m 0 c).arrAt_eq_of_covers 8 _ (by decide +kernel) fun t hf y => ?_
  have hr := (flush0_8 t).mp hf
  have hN := (idx0 t).1
  blk_simp
  rw [after0_8]
  obtain ⟨_, _, _, _, _, _, _, _, _, e8, _⟩ := idx0 t
  have e : (t.val + 1) / 11 = 4 := by omega
  have key := ((gnAt_eq m c (y 0) (y 1) t.val t.isLt).symm.trans (gnAt_sum m c (y 0) (y 1) t.val t.isLt (by omega))).trans
    ((congrArg (fun n => ∑ i ∈ Finset.range n, if hi : i < 4 then tile m c ⟨i, hi⟩ (y 1) else 0) e).trans (sum_tile m c (y 1)))
  rw [← eq_ix2 (n0 := 1) (n1 := 1024) y] at key
  refine key.trans ((arr_at (fun _ : Fin 1 => kDgn m c) (y 0) (y 1)).symm.trans (congrArg (arr fun _ : Fin 1 => kDgn m c) ?_))
  blk_ext [e8] <;> simp

end Cert.Ffn

end
-- ==== Proof.Ffn.Ref.lean ====
/- The reference's stages, read at an index, as the functions of `Row` and `Spec`, the logistic function by the
   exponential. -/
module

public import proofs.«01_k».proof.Proof.Gen.Reference2Ideal.Read
public import proofs.«01_k».proof.Proof.Ffn.Spec

@[expose] public section

set_option maxRecDepth 16384

noncomputable section

namespace Cert.Ffn.Ref

open Idealize.ShloMosaic Idealize.ShloMosaic.TcCoe Idealize.SL.Sem
open Cert.Reference2Ideal Cert.Reference2Ideal.Read

/-! The operations on real elements. -/

theorem mulC {a b a' b' : EReal} (h : a = a') (h' : b = b') : (FloatOps.mulf (F := Ideal) (φ := .f32) a b : EReal) = a' * b' := by
  rw [h, h']; rfl
theorem addC {a b a' b' : EReal} (h : a = a') (h' : b = b') : (FloatOps.addf (F := Ideal) (φ := .f32) a b : EReal) = a' + b' := by
  rw [h, h']; rfl
theorem subC {a b a' b' : EReal} (h : a = a') (h' : b = b') : (FloatOps.subf (F := Ideal) (φ := .f32) a b : EReal) = a' - b' := by
  rw [h, h']; rfl
theorem divC {a b a' b' : EReal} (h : a = a') (h' : b = b') :
    (FloatOps.hostDivf (F := Ideal) (φ := .f32) a b : EReal) = Ideal.div a' b' := by rw [h, h']; rfl
theorem expC {a a' : EReal} (h : a = a') : (FloatOps.hostUnary (F := Ideal) (φ := .f32) .exp a : EReal) = Ideal.exp a' := by
  rw [h]; rfl
theorem rsqrtC {a a' : EReal} (h : a = a') : (FloatOps.hostUnary (F := Ideal) (φ := .f32) .rsqrt a : EReal) = Ideal.rsqrt a' := by
  rw [h]; rfl
theorem negC {a a' : EReal} (h : a = a') : (FloatOps.hostNegf (F := Ideal) (φ := .f32) a : EReal) = -a' := by
  rw [h]; rfl

variable (x0 : FVec Ideal S4096x1024 .f32) (x1 : FVec Ideal S1x1024 .f32) (x2 : FVec Ideal S1024x5632 .bf16)
  (x3 : FVec Ideal S2816x1024 .bf16) (x4 : FVec Ideal S4096x1024 .f32)

/-- The arguments by row and column. -/
abbrev rX (r : Fin 4096) (d : Fin 1024) : EReal := x0 (ix2 r d)
abbrev rG (d : Fin 1024) : EReal := x1 (ix2 0 d)
abbrev rW (d : Fin 1024) (k : Fin 5632) : EReal := x2 (ix2 d k)
abbrev rD (k : Fin 2816) (d : Fin 1024) : EReal := x3 (ix2 k d)
abbrev rY (r : Fin 4096) (d : Fin 1024) : EReal := x4 (ix2 r d)
/-- The gate, the up projection and the activation's gradient. -/
abbrev gt (r : Fin 4096) (k : Fin 2816) : EReal := pre (rX x0) (rG x1) (rW x2) r (lo k)
abbrev up (r : Fin 4096) (k : Fin 2816) : EReal := pre (rX x0) (rG x1) (rW x2) r (hi k)
abbrev ag (r : Fin 4096) (k : Fin 2816) : EReal := daS (rD x3) (rY x4) r k
/-- The gradients of the gate and the up projection, and of the normalized rows. -/
def dgR (r : Fin 4096) (k : Fin 2816) : EReal := dgE (ag x3 x4 r k) (gt x0 x1 x2 r k) (up x0 x1 x2 r k)
def duR (r : Fin 4096) (k : Fin 2816) : EReal := gt x0 x1 x2 r k * sgE (gt x0 x1 x2 r k) * ag x3 x4 r k
def dhR (r : Fin 4096) (a : Fin 1024) : EReal :=
  ∑ k, dgR x0 x1 x2 x3 x4 r k * rW x2 a (lo k) + ∑ k, duR x0 x1 x2 x3 x4 r k * rW x2 a (hi k)

/-! ## The normalization -/

theorem var_at (r : Fin 4096) (z : Fin 1) : val_main_v7 (F := Ideal) x0 (ix2 r z) = var (rX x0 r) := by
  pointwise [val_main_v7, val_main_v6, val_main_v5, val_main_v4, val_main_v3, val_main_v2, val_main_v1, val_main_cst_0,
    val_main_cst_1, val_main_cst_2]
  rfl

theorem rs_at (r : Fin 4096) (z : Fin 1) : val_main_v8 (F := Ideal) x0 (ix2 r z) = rs (rX x0 r) := by
  rw [val_main_v8_apply]
  exact rsqrtC (var_at x0 r z)

theorem rsb_at (r : Fin 4096) (d : Fin 1024) : val_main_v12 (F := Ideal) x0 (ix2 r d) = rs (rX x0 r) := by
  rw [val_main_v12_apply, show idx_main_v12 (ix2 r d) = ix2 r 0 from by funext b; match b with | ⟨0, _⟩ => rfl | ⟨1, _⟩ => rfl]
  exact rs_at x0 r 0

theorem xn_at (r : Fin 4096) (d : Fin 1024) : val_main_v13 (F := Ideal) x0 (ix2 r d) = rX x0 r d * rs (rX x0 r) := by
  rw [val_main_v13_apply]
  exact mulC rfl (rsb_at x0 r d)

theorem gb_at (r : Fin 4096) (d : Fin 1024) : val_main_v14 (F := Ideal) x1 (ix2 r d) = rG x1 d := by
  rw [val_main_v14_apply, show idx_main_v14 (ix2 r d) = ix2 0 d from by funext b; match b with | ⟨0, _⟩ => rfl | ⟨1, _⟩ => rfl]

theorem hn_at (r : Fin 4096) (d : Fin 1024) : val_main_v15 (F := Ideal) x0 x1 (ix2 r d) = hn (rX x0 r) (rG x1) d := by
  rw [val_main_v15_apply]
  exact mulC (xn_at x0 r d) (gb_at x1 r d)

theorem half_at (r : Fin 4096) (z : Fin 1) :
    val_main_v11 (F := Ideal) x0 (ix2 r z) = cMinus * Ideal.div (rs (rX x0 r)) (var (rX x0 r)) := by
  rw [val_main_v11_apply, val_main_v9_apply]
  refine mulC ?_ (divC (rs_at x0 r z) (var_at x0 r z))
  pointwise [val_main_v10, val_main_cst_3]
  rfl

attribute [local irreducible] hn rs var sgE daS pre

/-! ## The products and the activation -/

theorem pre_at (r : Fin 4096) (k : Fin 5632) : val_main_v17 (F := Ideal) x0 x1 x2 (ix2 r k) = pre (rX x0) (rG x1) (rW x2) r k := by
  rw [val_main_v17_apply]
  unfold pre
  refine Finset.sum_congr rfl fun d _ => congrArg₂ (· * ·) ?_ ?_
  · rw [show lidx_main_v17 (ix2 r k) d = ix2 r d from by funext b; match b with | ⟨0, _⟩ => rfl | ⟨1, _⟩ => rfl]
    exact hn_at x0 x1 r d
  · rw [show ridx_main_v17 (ix2 r k) d = ix2 d k from by funext b; match b with | ⟨0, _⟩ => rfl | ⟨1, _⟩ => rfl]
    rfl

theorem z_at (r : Fin 4096) (k : Fin 2816) : val_main_v0 (F := Ideal) (ix2 r k) = 0 := by
  pointwise [val_main_v0, val_main_cst]

theorem gt_at (r : Fin 4096) (k : Fin 2816) : val_main_v20 (F := Ideal) x0 x1 x2 (ix2 r k) = gt x0 x1 x2 r k := by
  rw [val_main_v20_apply, val_main_v18_apply, show idx_main_v18 (ix2 r k) = ix2 r (lo k) from by funext b; match b with | ⟨0, _⟩ => rfl | ⟨1, _⟩ => rfl]
  exact (addC (pre_at x0 x1 x2 r (lo k)) (z_at r k)).trans (add_zero _)

theorem up_at (r : Fin 4096) (k : Fin 2816) : val_main_v22 (F := Ideal) x0 x1 x2 (ix2 r k) = up x0 x1 x2 r k := by
  rw [val_main_v22_apply, val_main_v19_apply, show idx_main_v19 (ix2 r k) = ix2 r (hi k) from by funext b; match b with | ⟨0, _⟩ => rfl | ⟨1, _⟩ => rfl]
  exact (addC (pre_at x0 x1 x2 r (hi k)) (z_at r k)).trans (add_zero _)

theorem one_at (r : Fin 4096) (k : Fin 2816) : val_main_call0_v2 (F := Ideal) (ix2 r k) = 1 := by
  pointwise [val_main_call0_v2, val_main_call0_cst]
theorem one_at' (r : Fin 4096) (k : Fin 2816) : val_main_call0_v4 (F := Ideal) (ix2 r k) = 1 := by
  pointwise [val_main_call0_v4, val_main_call0_cst_0]
theorem one_at'' (r : Fin 4096) (k : Fin 2816) : val_main_call0_v6 (F := Ideal) (ix2 r k) = 1 := by
  pointwise [val_main_call0_v6, val_main_call0_cst_1]

theorem sg_at (r : Fin 4096) (k : Fin 2816) : val_main_v21_2 (F := Ideal) x0 x1 x2 (ix2 r k) = sgE (gt x0 x1 x2 r k) := by
  rw [val_main_v21_2_apply, val_main_call0_v3_apply, val_main_call0_v1_apply, val_main_call0_v0_apply]
  unfold sgE
  exact divC (one_at' r k) (addC (one_at r k) (expC (negC (gt_at x0 x1 x2 r k))))

theorem sp_at (r : Fin 4096) (k : Fin 2816) : val_main_v21_1 (F := Ideal) x0 x1 x2 (ix2 r k)
    = sgE (gt x0 x1 x2 r k) * (1 - sgE (gt x0 x1 x2 r k)) := by
  rw [val_main_v21_1_apply, val_main_call0_v7_apply]
  exact mulC (sg_at x0 x1 x2 r k) (subC (one_at'' r k) (sg_at x0 x1 x2 r k))

theorem silu_at (r : Fin 4096) (k : Fin 2816) : val_main_v21_0 (F := Ideal) x0 x1 x2 (ix2 r k)
    = gt x0 x1 x2 r k * sgE (gt x0 x1 x2 r k) := by
  rw [val_main_v21_0_apply]
  exact mulC (gt_at x0 x1 x2 r k) (sg_at x0 x1 x2 r k)

theorem act_at (r : Fin 4096) (k : Fin 2816) : val_main_v23 (F := Ideal) x0 x1 x2 (ix2 r k)
    = gt x0 x1 x2 r k * sgE (gt x0 x1 x2 r k) * up x0 x1 x2 r k := by
  rw [val_main_v23_apply]
  exact mulC (silu_at x0 x1 x2 r k) (up_at x0 x1 x2 r k)

/-! ## The gradients of the gate and the up projection -/

theorem hy_at (r : Fin 4096) (d : Fin 1024) : val_main_v31 (F := Ideal) x4 (ix2 r d) = cHalf * rY x4 r d := by
  pointwise [val_main_v31, val_main_v30, val_main_v29, val_main_cst_5]
  rfl

theorem ag_at (r : Fin 4096) (k : Fin 2816) : val_main_v32 (F := Ideal) x3 x4 (ix2 r k) = ag x3 x4 r k := by
  rw [val_main_v32_apply]
  unfold ag daS da
  refine Finset.sum_congr rfl fun d _ => congrArg₂ (· * ·) ?_ ?_
  · rw [show lidx_main_v32 (ix2 r k) d = ix2 r d from by funext b; match b with | ⟨0, _⟩ => rfl | ⟨1, _⟩ => rfl]
    exact hy_at x4 r d
  · rw [show ridx_main_v32 (ix2 r k) d = ix2 k d from by funext b; match b with | ⟨0, _⟩ => rfl | ⟨1, _⟩ => rfl]
    rfl

theorem du_at (r : Fin 4096) (k : Fin 2816) : val_main_v33 (F := Ideal) x0 x1 x2 x3 x4 (ix2 r k) = duR x0 x1 x2 x3 x4 r k := by
  rw [val_main_v33_apply]
  exact mulC (silu_at x0 x1 x2 r k) (ag_at x3 x4 r k)

theorem au_at (r : Fin 4096) (k : Fin 2816) : val_main_v34 (F := Ideal) x0 x1 x2 x3 x4 (ix2 r k)
    = ag x3 x4 r k * up x0 x1 x2 r k := by
  rw [val_main_v34_apply]
  exact mulC (ag_at x3 x4 r k) (up_at x0 x1 x2 r k)

theorem dg_at (r : Fin 4096) (k : Fin 2816) : val_main_v35 (F := Ideal) x0 x1 x2 x3 x4 (ix2 r k) = dgR x0 x1 x2 x3 x4 r k := by
  rw [val_main_v35_apply, val_main_call1_v1_apply, val_main_call1_v2_apply, val_main_call1_v0_apply]
  unfold dgR dgE
  exact addC (mulC (au_at x0 x1 x2 x3 x4 r k) (sg_at x0 x1 x2 r k))
    (mulC (mulC (gt_at x0 x1 x2 r k) (au_at x0 x1 x2 x3 x4 r k)) (sp_at x0 x1 x2 r k))

/-- The two gradients joined. -/
theorem cat_lo (r : Fin 4096) (k : Fin 2816) :
    val_main_v36 (F := Ideal) x0 x1 x2 x3 x4 (ix2 r (lo k)) = dgR x0 x1 x2 x3 x4 r k := by
  refine Eq.trans ?_ (dg_at x0 x1 x2 x3 x4 r k)
  unfold val_main_v36
  generalize val_main_v35 (F := Ideal) x0 x1 x2 x3 x4 = p
  generalize val_main_v33 (F := Ideal) x0 x1 x2 x3 x4 = q
  pointwise
  rw [dif_pos (show (lo k : ℕ) < 2816 from k.2)]
  rfl
theorem cat_hi (r : Fin 4096) (k : Fin 2816) :
    val_main_v36 (F := Ideal) x0 x1 x2 x3 x4 (ix2 r (hi k)) = duR x0 x1 x2 x3 x4 r k := by
  refine Eq.trans ?_ (du_at x0 x1 x2 x3 x4 r k)
  unfold val_main_v36
  generalize val_main_v35 (F := Ideal) x0 x1 x2 x3 x4 = p
  generalize val_main_v33 (F := Ideal) x0 x1 x2 x3 x4 = q
  pointwise
  rw [dif_neg (show ¬ (hi k : ℕ) < 2816 by simp [hi])]
  exact congrArg q (congrArg (ix2 r) (Fin.ext (by simp [hi])))

/-! ## The gradients of the normalized rows, of the gain and of the rows -/

theorem dh_at (r : Fin 4096) (a : Fin 1024) : val_main_v37 (F := Ideal) x0 x1 x2 x3 x4 (ix2 r a) = dhR x0 x1 x2 x3 x4 r a := by
  rw [val_main_v37_apply]
  have e : ∀ k : Fin 5632, val_main_v36 (F := Ideal) x0 x1 x2 x3 x4 (lidx_main_v37 (ix2 r a) k)
      * val_main_v16 (F := Ideal) x2 (ridx_main_v37 (ix2 r a) k)
      = val_main_v36 (F := Ideal) x0 x1 x2 x3 x4 (ix2 r k) * rW x2 a k := fun k => by
    rw [show lidx_main_v37 (ix2 r a) k = ix2 r k from by funext b; match b with | ⟨0, _⟩ => rfl | ⟨1, _⟩ => rfl,
      show ridx_main_v37 (ix2 r a) k = ix2 a k from by funext b; match b with | ⟨0, _⟩ => rfl | ⟨1, _⟩ => rfl]
    rfl
  rw [Finset.sum_congr rfl fun k _ => e k, sum_halves 2816 5632 rfl]
  unfold dhR
  refine congrArg₂ (· + ·) ?_ ?_
  · exact Finset.sum_congr rfl fun k _ => congrArg (· * rW x2 a (lo k)) (cat_lo x0 x1 x2 x3 x4 r k)
  · exact Finset.sum_congr rfl fun k _ => congrArg (· * rW x2 a (hi k)) (cat_hi x0 x1 x2 x3 x4 r k)

attribute [local irreducible] dhR

theorem dgn_at (z : Fin 1) (a : Fin 1024) : val_main_v40 (F := Ideal) x0 x1 x2 x3 x4 (ix2 z a)
    = ∑ r, rX x0 r a * rs (rX x0 r) * dhR x0 x1 x2 x3 x4 r a := by
  refine Eq.trans (b := ∑ r, val_main_v38 (F := Ideal) x0 x1 x2 x3 x4 (ix2 r a)) ?_ (Finset.sum_congr rfl fun r _ => ?_)
  · unfold val_main_v40 val_main_v39 val_main_cst_6
    generalize val_main_v38 (F := Ideal) x0 x1 x2 x3 x4 = p
    pointwise
  · rw [val_main_v38_apply]
    exact mulC (xn_at x0 r a) (dh_at x0 x1 x2 x3 x4 r a)

/-- The gradient before the normalization's factor. -/
theorem hg_at (r : Fin 4096) (a : Fin 1024) : val_main_v42 (F := Ideal) x0 x1 x2 x3 x4 (ix2 r a)
    = dhR x0 x1 x2 x3 x4 r a * rG x1 a := by
  rw [val_main_v42_apply, val_main_v41_apply, show idx_main_v41 (ix2 r a) = ix2 0 a from by funext b; match b with | ⟨0, _⟩ => rfl | ⟨1, _⟩ => rfl]
  exact mulC (dh_at x0 x1 x2 x3 x4 r a) rfl

theorem s_at (r : Fin 4096) (z : Fin 1) : val_main_v45 (F := Ideal) x0 x1 x2 x3 x4 (ix2 r z)
    = ∑ d, rX x0 r d * (dhR x0 x1 x2 x3 x4 r d * rG x1 d) := by
  refine Eq.trans (b := ∑ d, val_main_v43 (F := Ideal) x0 x1 x2 x3 x4 (ix2 r d)) ?_ (Finset.sum_congr rfl fun d _ => ?_)
  · unfold val_main_v45 val_main_v44 val_main_cst_7
    generalize val_main_v43 (F := Ideal) x0 x1 x2 x3 x4 = p
    pointwise
  · rw [val_main_v43_apply]
    exact mulC rfl (hg_at x0 x1 x2 x3 x4 r d)

theorem w_at (r : Fin 4096) (z : Fin 1) : val_main_v51 (F := Ideal) x0 x1 x2 x3 x4 (ix2 r z)
    = wsum (rX x0 r) (rG x1) (dhR x0 x1 x2 x3 x4 r) := by
  rw [val_main_v51_apply, val_main_v49_apply]
  unfold wsum
  refine divC (mulC (s_at x0 x1 x2 x3 x4 r z) (half_at x0 r z)) ?_
  pointwise [val_main_v50, val_main_cst_8]
  rfl

theorem wb_at (r : Fin 4096) (a : Fin 1024) : val_main_v53 (F := Ideal) x0 x1 x2 x3 x4 (ix2 r a)
    = wsum (rX x0 r) (rG x1) (dhR x0 x1 x2 x3 x4 r) := by
  refine Eq.trans ?_ (w_at x0 x1 x2 x3 x4 r 0)
  unfold val_main_v53 val_main_v52 val_main_cst_9
  generalize val_main_v51 (F := Ideal) x0 x1 x2 x3 x4 = p
  pointwise
  simp only [zero_add, Fin.sum_univ_one]

theorem dx_at (r : Fin 4096) (a : Fin 1024) : val_main_v57 (F := Ideal) x0 x1 x2 x3 x4 (ix2 r a)
    = dx (rX x0 r) (rG x1) (dhR x0 x1 x2 x3 x4 r) (rY x4 r) a := by
  rw [val_main_v57_apply, val_main_v55_apply, val_main_v48_apply, val_main_v47_apply, val_main_v54_apply, val_main_v56_apply,
    val_main_v46_apply, show idx_main_v46 (ix2 r a) = ix2 r 0 from by funext b; match b with | ⟨0, _⟩ => rfl | ⟨1, _⟩ => rfl]
  refine (addC (addC (addC rfl (mulC (hg_at x0 x1 x2 x3 x4 r a) (rs_at x0 r 0))) (mulC rfl (wb_at x0 x1 x2 x3 x4 r a)))
    (mulC (wb_at x0 x1 x2 x3 x4 r a) rfl)).trans ?_
  unfold dx
  rw [add_assoc, add_assoc, add_assoc]

end Cert.Ffn.Ref

end
-- ==== Proof.Ffn.Real.lean ====
/- At real gates, projections and gradients the two forms of the logistic function, and of the gate's gradient, agree;
   and they are real where the gain, the weights and the incoming gradient are, whatever the input. -/
module

public import proofs.«01_k».proof.Proof.Ffn.Spec

@[expose] public section

noncomputable section

namespace Cert.Ffn

open Idealize.ShloMosaic

/-- An extended real that is a real number. -/
def IsReal (a : EReal) : Prop := ∃ r : ℝ, a = (r : EReal)

theorem IsReal.mul {a b : EReal} : IsReal a → IsReal b → IsReal (a * b) := by
  rintro ⟨x, rfl⟩ ⟨y, rfl⟩; exact ⟨x * y, (EReal.coe_mul x y).symm⟩
theorem IsReal.add {a b : EReal} : IsReal a → IsReal b → IsReal (a + b) := by
  rintro ⟨x, rfl⟩ ⟨y, rfl⟩; exact ⟨x + y, (EReal.coe_add x y).symm⟩
theorem IsReal.sum {ι : Type} (s : Finset ι) (f : ι → EReal) (h : ∀ i ∈ s, IsReal (f i)) : IsReal (∑ i ∈ s, f i) := by
  classical
  induction s using Finset.induction_on with
  | empty => exact ⟨0, by simp⟩
  | insert i s hi ih =>
    rw [Finset.sum_insert hi]
    exact (h i (Finset.mem_insert_self i s)).add (ih fun j hj => h j (Finset.mem_insert_of_mem hj))

theorem coe_sum' {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem half_val : cHalf = ((1 / 2 : ℝ) : EReal) := by
  unfold cHalf
  simp [Ideal.ofBits, Ideal.ieee, -EReal.coe_mul] <;> try norm_num
theorem len_val : cLen = ((1024 : ℝ) : EReal) := by
  unfold cLen
  simp [Ideal.ofBits, Ideal.ieee, -EReal.coe_mul] <;> try norm_num
theorem eps_val : ∃ e : ℝ, 0 < e ∧ cEps = (e : EReal) := by
  unfold cEps
  simp only [Ideal.ofBits, Ideal.ieee]
  simp [-EReal.coe_mul]

/-! ## The normalized row -/

theorem sq_nonneg' (a : EReal) : 0 ≤ a * a := by
  induction a with
  | bot => simp
  | top => simp
  | coe r => exact_mod_cast mul_self_nonneg r

/-- A row's normalizing factor times an element is real, also where the row has an infinity: the factor is zero there. -/
theorem isReal_norm (x : Fin 1024 → EReal) (d : Fin 1024) : IsReal (x d * rs x) := by
  obtain ⟨e, he, hv⟩ := eps_val
  by_cases hx : ∀ k, IsReal (x k)
  · choose y hy using hx
    have hs : ∑ k, x k * x k = ((∑ k, y k * y k : ℝ) : EReal) := by
      rw [coe_sum']
      exact Finset.sum_congr rfl fun k _ => by rw [hy k, EReal.coe_mul]
    have hpos : 0 ≤ ∑ k, y k * y k := Finset.sum_nonneg fun k _ => mul_self_nonneg (y k)
    have hvar : var x = (((∑ k, y k * y k) * (1 / 1024) + e : ℝ) : EReal) := by
      unfold var
      rw [hs, len_val, hv, Ideal.div_coe (by norm_num), ← EReal.coe_mul, ← EReal.coe_add]
    have hp : 0 < (∑ k, y k * y k) * (1 / 1024) + e := by positivity
    unfold rs
    rw [hvar, Ideal.rsqrt_coe, if_neg (not_lt.mpr hp.le), if_neg hp.ne', hy d]
    exact IsReal.mul ⟨_, rfl⟩ ⟨_, rfl⟩
  · push Not at hx
    obtain ⟨k, hk⟩ := hx
    have htop : x k * x k = ⊤ := by
      generalize x k = a at hk
      induction a with
      | bot => simp
      | top => simp
      | coe r => exact (hk ⟨r, rfl⟩).elim
    have hs : ∑ k, x k * x k = ⊤ := top_unique (htop ▸ Finset.single_le_sum (f := fun k => x k * x k)
      (fun j _ => sq_nonneg' (x j)) (Finset.mem_univ k))
    have hvar : var x = ⊤ := by
      unfold var
      rw [hs, len_val, hv, Ideal.div_coe (by norm_num), EReal.top_mul_coe_of_pos (by norm_num), EReal.top_add_coe]
    unfold rs
    rw [hvar]
    rw [show Ideal.rsqrt ⊤ = 0 from rfl, mul_zero]
    exact ⟨0, rfl⟩

theorem isReal_hn (x g : Fin 1024 → EReal) (hg : ∀ d, IsReal (g d)) (d : Fin 1024) : IsReal (hn x g d) :=
  (isReal_norm x d).mul (hg d)

/-! ## The logistic function and the gate's gradient -/

/-- Half the hyperbolic tangent of half the argument, and a half, is the logistic function. -/
theorem sg_eq {g : EReal} (h : IsReal g) : ∃ s : ℝ, sgT g = (s : EReal) ∧ sgE g = (s : EReal) := by
  obtain ⟨r, rfl⟩ := h
  have hp : 0 < 1 + Real.exp (-r) := by positivity
  refine ⟨1 / (1 + Real.exp (-r)), ?_, ?_⟩
  · unfold sgT
    rw [half_val, ← EReal.coe_mul, Ideal.tanh_coe, ← EReal.coe_mul, ← EReal.coe_add]
    refine congrArg _ ?_
    rw [Real.tanh_eq_sinh_div_cosh, Real.sinh_eq, Real.cosh_eq]
    have e : Real.exp (-r) = Real.exp (-(1 / 2 * r)) * Real.exp (-(1 / 2 * r)) := by rw [← Real.exp_add]; ring_nf
    have e1 : Real.exp (1 / 2 * r) * Real.exp (-(1 / 2 * r)) = 1 := by rw [← Real.exp_add]; simp
    rw [e]
    generalize Real.exp (-(1 / 2 * r)) = b at *
    generalize ha : Real.exp (1 / 2 * r) = a at *
    have hb : b ≠ 0 := right_ne_zero_of_mul (e1.trans_ne one_ne_zero)
    obtain rfl : a = 1 / b := by field_simp; exact e1
    have : b * b + 1 ≠ 0 := ne_of_gt (by nlinarith [mul_self_nonneg b])
    have : 1 / b + b ≠ 0 := by
      intro h0
      field_simp at h0
      nlinarith [sq_nonneg b]
    field_simp
    ring
  · unfold sgE
    rw [← EReal.coe_neg, Ideal.exp_coe, show (1 : EReal) = ((1 : ℝ) : EReal) from rfl, ← EReal.coe_add,
      Ideal.div_coe hp.ne', ← EReal.coe_mul, one_mul]

theorem act_eq {g u : EReal} (h : IsReal g) : actT g u = g * sgE g * u := by
  obtain ⟨s, ht, he⟩ := sg_eq h
  rw [actT, ht, he]
theorem du_eq {a g : EReal} (h : IsReal g) : duT a g = g * sgE g * a := by
  obtain ⟨s, ht, he⟩ := sg_eq h
  rw [duT, ht, he, mul_comm]
theorem dg_eq {a g u : EReal} (ha : IsReal a) (hg : IsReal g) (hu : IsReal u) : dgT a g u = dgE a g u := by
  obtain ⟨s, ht, he⟩ := sg_eq hg
  obtain ⟨x, rfl⟩ := ha
  obtain ⟨y, rfl⟩ := hg
  obtain ⟨z, rfl⟩ := hu
  rw [dgT, dgE, ht, he, show (1 : EReal) = ((1 : ℝ) : EReal) from rfl]
  simp only [← EReal.coe_mul, ← EReal.coe_add, ← EReal.coe_sub]
  refine congrArg _ ?_
  ring

section Arrays
variable (X : Fin 4096 → Fin 1024 → EReal) (G : Fin 1024 → EReal) (W : Fin 1024 → Fin 5632 → EReal)
  (D : Fin 2816 → Fin 1024 → EReal) (Y : Fin 4096 → Fin 1024 → EReal)

theorem isReal_pre (hG : ∀ d, IsReal (G d)) (hW : ∀ d k, IsReal (W d k)) (r : Fin 4096) (k : Fin 5632) :
    IsReal (pre X G W r k) := IsReal.sum _ _ fun d _ => (isReal_hn (X r) G hG d).mul (hW d k)
theorem isReal_da (hD : ∀ k d, IsReal (D k d)) (hY : ∀ r d, IsReal (Y r d)) (r : Fin 4096) (k : Fin 2816) :
    IsReal (daS D Y r k) := by
  unfold daS da
  exact IsReal.sum _ _ fun d _ => (IsReal.mul ⟨_, half_val⟩ (hY r d)).mul (hD k d)
end Arrays

end Cert.Ffn

end
-- ==== Proof.Ffn.Pre.lean ====
/- What the precondition says: the gain, the two weights and the incoming gradient are real. -/
module

public import proofs.«01_k».proof.Pre_finite_inputs
public import proofs.«01_k».proof.Proof.Ffn.Real
public import Idealize.ShloMosaic.Lib.ReduceAll

@[expose] public section

set_option maxRecDepth 16384

noncomputable section

namespace Cert.Ffn

open Idealize.ShloMosaic
open Cert.Pre_finite_inputs

/-- The facts of the precondition's shapes. -/
theorem preFacts : Cert.Pre_finite_inputs.Facts where
  bcast_S_S1x1024 := by decide
  reducesTo_S1x1024_S_d0_1 := by decide
  h_S_ := by decide
  bitsLt_bf16_f32 := by decide
  bcast_S_S1024x5632 := by decide
  reducesTo_S1024x5632_S_d0_1 := by decide
  bcast_S_S2816x1024 := by decide
  reducesTo_S2816x1024_S_d0_1 := by decide
  bcast_S_S4096x1024 := by decide
  reducesTo_S4096x1024_S_d0_1 := by decide

/-- An element whose absolute value is below infinity is real. -/
theorem isReal_of_lt {a : EReal} (h : Ideal.cmp .olt (max a (-a)) (Ideal.ofBits .f32 0x7F800000#32) = 1#1) : IsReal a := by
  have e : Ideal.ofBits .f32 0x7F800000#32 = ⊤ := by simp [Ideal.ofBits, Ideal.ieee]
  rw [e] at h
  have hlt : max a (-a) < ⊤ := by
    by_contra hn
    rw [Ideal.cmp] at h
    simp [hn] at h
  induction a with
  | bot => simp at hlt
  | top => simp at hlt
  | coe r => exact ⟨r, rfl⟩

theorem real_of_all {s : Shape} (hb : S_.BroadcastsInDim s (![] : Fin 0 → Fin s.rank)) {axes : List (Fin s.rank)}
    (hr : s.ReducesTo axes S_) (hu : 0 < S_.numel) (a : FVec Ideal s .f32)
    (h : Host.reduce IntOp.andi (cmpf .olt (Host.absf a) (broadcastInDim s ![] hb (constant (F := Ideal) S_ .f32 0x7F800000#32)))
      (constantI S_ 1 1#1) hr hu (fun i => i.elim0) = 1#1) (i : s.Idx) : IsReal (a i) := by
  haveI : Subsingleton S_.Idx := ⟨fun p q => funext fun k => k.elim0⟩
  exact isReal_of_lt (Host.reduce_andi_all _ _ hr hu _ h i)

/-- The precondition, read: every element of the gain, of the two weights and of the incoming gradient is real. -/
theorem pre_real [hF : Cert.Pre_finite_inputs.Facts] (x0 : FVec Ideal S4096x1024 .f32) (x1 : FVec Ideal S1x1024 .f32)
    (x2 : FVec Ideal S1024x5632 .bf16) (x3 : FVec Ideal S2816x1024 .bf16) (x4 : FVec Ideal S4096x1024 .f32)
    (h : fn (F := Ideal) x0 x1 x2 x3 x4 = fun _ => 1#1) :
    (∀ i, IsReal (x1 i)) ∧ (∀ i, IsReal (x2 i)) ∧ (∀ i, IsReal (x3 i)) ∧ ∀ i, IsReal (x4 i) := by
  have h' := congrFun h (fun i => i.elim0)
  dsimp only [fn, fn_part1] at h'
  obtain ⟨h', h4⟩ := IntOp.andi_eq_one.1 h'
  obtain ⟨h', h3⟩ := IntOp.andi_eq_one.1 h'
  obtain ⟨h1, h2⟩ := IntOp.andi_eq_one.1 h'
  exact ⟨real_of_all _ _ _ x1 h1, real_of_all _ _ _ x2 h2, real_of_all _ _ _ x3 h3, real_of_all _ _ _ x4 h4⟩

end Cert.Ffn

end
-- ==== Proof.Ffn.Equal.lean ====
/- The kernel's program of the feed-forward block's backward and its reference leave the same five results, where the
   gain, the weights and the incoming gradient are finite. -/
module

public import proofs.«01_k».proof.Defs
public import proofs.«01_k».proof.Proof.Ffn.Arrays
public import proofs.«01_k».proof.Proof.Ffn.Ref
public import proofs.«01_k».proof.Proof.Ffn.Pre
public import proofs.«01_k».proof.Proof.Gen.Reference2Ideal.Run
public import Idealize.ShloMosaic.Lib.Claim

@[expose] public section

set_option maxRecDepth 16384

noncomputable section

namespace Cert.Ffn

open Idealize.ShloMosaic Idealize.ShloMosaic.TcCoe Idealize.SL.Sem

/-- An array of two axes is that of a function where every element is. -/
theorem eq_arr {n0 n1 : ℕ} {f : (⟨2, ![n0, n1]⟩ : Shape).Idx → EReal} {g : Fin n0 → Fin n1 → EReal}
    (h : ∀ a b, f (ix2 a b) = g a b) : f = arr g :=
  funext fun i => by
    have e : i = ix2 (i 0) (i 1) := by
      funext c
      match c with
      | ⟨0, _⟩ => rfl
      | ⟨1, _⟩ => rfl
    rw [e]; exact h _ _

section Final
open Cert.Kernel2Ideal Cert.Kernel2Ideal.Gen
variable (m : (ℓ : Loc nD τ sig) → Buf (Elt Ideal) ℓ) (g : Dev nD → PrngReg)

/-- What the kernel's program leaves in its five results. -/
theorem kernel_run : θ_run defs (onTc (τ := τ) (main (F := Ideal))) ⟨m, fun _ => 0, g⟩ fun r => ∀ c : Dev nD,
    r.2.mem ((c.tc : Thread nD τ).loc main_v13_0) = arr (kDx m c)
    ∧ r.2.mem ((c.tc : Thread nD τ).loc main_v13_1) = arr (fun _ : Fin 1 => kDgn m c)
    ∧ r.2.mem ((c.tc : Thread nD τ).loc main_v13_2) = arr (kAct m c)
    ∧ r.2.mem ((c.tc : Thread nD τ).loc main_v13_3) = arr (kDg m c)
    ∧ r.2.mem ((c.tc : Thread nD τ).loc main_v13_4) = arr (kDu m c) :=
  (θ_run defs _ _).mono (fun _ h c => ⟨(h.out_eq c 7).trans (arr_dx m c), (h.out_eq c 8).trans (arr_dgn m c),
    (h.out_eq c 9).trans (arr_act m c), (h.out_eq c 10).trans (arr_dg m c), (h.out_eq c 11).trans (arr_du m c)⟩) (run_main m g)
end Final

section Ref
open Cert.Reference2Ideal Cert.Reference2Ideal.Read
variable (m : (ℓ : Loc nD τ sig) → Buf (Elt Ideal) ℓ) (g : Dev nD → PrngReg)

/-- What the reference leaves in its five results: its stages over the arguments. -/
theorem reference_run : θ_run defs (onTc (τ := τ) (main (F := Ideal))) ⟨m, fun _ => 0, g⟩ fun r => ∀ c : Dev nD,
    r.2.mem ((c.tc : Thread nD τ).loc main_v57) = val_main_v57 (F := Ideal) (m (c.tc.loc main_arg0)) (m (c.tc.loc main_arg1)) (m (c.tc.loc main_arg2)) (m (c.tc.loc main_arg3)) (m (c.tc.loc main_arg4))
    ∧ r.2.mem ((c.tc : Thread nD τ).loc main_v40) = val_main_v40 (F := Ideal) (m (c.tc.loc main_arg0)) (m (c.tc.loc main_arg1)) (m (c.tc.loc main_arg2)) (m (c.tc.loc main_arg3)) (m (c.tc.loc main_arg4))
    ∧ r.2.mem ((c.tc : Thread nD τ).loc main_v58) = val_main_v58 (F := Ideal) (m (c.tc.loc main_arg0)) (m (c.tc.loc main_arg1)) (m (c.tc.loc main_arg2))
    ∧ r.2.mem ((c.tc : Thread nD τ).loc main_v59) = val_main_v59 (F := Ideal) (m (c.tc.loc main_arg0)) (m (c.tc.loc main_arg1)) (m (c.tc.loc main_arg2)) (m (c.tc.loc main_arg3)) (m (c.tc.loc main_arg4))
    ∧ r.2.mem ((c.tc : Thread nD τ).loc main_v60) = val_main_v60 (F := Ideal) (m (c.tc.loc main_arg0)) (m (c.tc.loc main_arg1)) (m (c.tc.loc main_arg2)) (m (c.tc.loc main_arg3)) (m (c.tc.loc main_arg4))
    ∧ r.2.mem (c.tc.loc main_arg0) = m (c.tc.loc main_arg0) ∧ r.2.mem (c.tc.loc main_arg1) = m (c.tc.loc main_arg1)
    ∧ r.2.mem (c.tc.loc main_arg2) = m (c.tc.loc main_arg2) ∧ r.2.mem (c.tc.loc main_arg3) = m (c.tc.loc main_arg3)
    ∧ r.2.mem (c.tc.loc main_arg4) = m (c.tc.loc main_arg4) :=
  (θ_run defs _ _).mono (fun _ h c => by
    obtain ⟨h0, h1, h2, h3, h4, h5⟩ := h c
    exact ⟨h0.trans (val_main_v57_eq m c), h1.trans (val_main_v40_eq m c),
      h2.trans (val_main_v58_eq _ _ _), h3.trans (val_main_v59_eq m c),
      h4.trans (val_main_v60_eq _ _ _ _ _), h5⟩)
    (Cert.Reference2Ideal.Value.run m g)
end Ref

section Agree
open Cert.Reference2Ideal Cert.Reference2Ideal.Read Cert.Ffn.Ref
variable (x0 : FVec Ideal S4096x1024 .f32) (x1 : FVec Ideal S1x1024 .f32) (x2 : FVec Ideal S1024x5632 .bf16)
  (x3 : FVec Ideal S2816x1024 .bf16) (x4 : FVec Ideal S4096x1024 .f32)
  (h1 : ∀ i, IsReal (x1 i)) (h2 : ∀ i, IsReal (x2 i)) (h3 : ∀ i, IsReal (x3 i)) (h4 : ∀ i, IsReal (x4 i))
include h1 h2

/-- The reference's gradients are those of `Spec`, at real gates, projections and gradients. -/
theorem real_gt (r : Fin 4096) (k : Fin 2816) : IsReal (gt x0 x1 x2 r k) :=
  isReal_pre _ _ _ (fun _ => h1 _) (fun _ _ => h2 _) r (lo k)
theorem real_up (r : Fin 4096) (k : Fin 2816) : IsReal (up x0 x1 x2 r k) :=
  isReal_pre _ _ _ (fun _ => h1 _) (fun _ _ => h2 _) r (hi k)

theorem duR_eq (r : Fin 4096) (k : Fin 2816) :
    duR x0 x1 x2 x3 x4 r k = duS (rX x0) (rG x1) (rW x2) (rD x3) (rY x4) r k :=
  (du_eq (real_gt x0 x1 x2 h1 h2 r k)).symm

theorem act_arr : val_main_v58 (F := Ideal) x0 x1 x2 = arr (actS (rX x0) (rG x1) (rW x2)) :=
  eq_arr fun r k => (Ref.act_at x0 x1 x2 r k).trans (act_eq (real_gt x0 x1 x2 h1 h2 r k)).symm
theorem du_arr : val_main_v60 (F := Ideal) x0 x1 x2 x3 x4 = arr (duS (rX x0) (rG x1) (rW x2) (rD x3) (rY x4)) :=
  eq_arr fun r k => (Ref.du_at x0 x1 x2 x3 x4 r k).trans (duR_eq x0 x1 x2 x3 x4 h1 h2 r k)

include h3 h4

theorem dgR_eq (r : Fin 4096) (k : Fin 2816) :
    dgR x0 x1 x2 x3 x4 r k = dgS (rX x0) (rG x1) (rW x2) (rD x3) (rY x4) r k :=
  (dg_eq (isReal_da _ _ (fun _ _ => h3 _) (fun _ _ => h4 _) r k) (real_gt x0 x1 x2 h1 h2 r k) (real_up x0 x1 x2 h1 h2 r k)).symm
theorem dhR_eq (r : Fin 4096) : dhR x0 x1 x2 x3 x4 r = dhnS (rX x0) (rG x1) (rW x2) (rD x3) (rY x4) r :=
  funext fun a => by
    unfold dhR dhnS
    refine congrArg₂ (· + ·) (Finset.sum_congr rfl fun k _ => ?_) (Finset.sum_congr rfl fun k _ => ?_)
    · rw [dgR_eq x0 x1 x2 x3 x4 h1 h2 h3 h4 r k]
    · rw [duR_eq x0 x1 x2 x3 x4 h1 h2 r k]

theorem dg_arr : val_main_v59 (F := Ideal) x0 x1 x2 x3 x4 = arr (dgS (rX x0) (rG x1) (rW x2) (rD x3) (rY x4)) :=
  eq_arr fun r k => (Ref.dg_at x0 x1 x2 x3 x4 r k).trans (dgR_eq x0 x1 x2 x3 x4 h1 h2 h3 h4 r k)
theorem dgn_arr : val_main_v40 (F := Ideal) x0 x1 x2 x3 x4
    = arr (fun _ : Fin 1 => dgnS (rX x0) (rG x1) (rW x2) (rD x3) (rY x4)) :=
  eq_arr fun z a => by
    rw [Ref.dgn_at]
    unfold dgnS
    refine Finset.sum_congr rfl fun r _ => ?_
    rw [dhR_eq x0 x1 x2 x3 x4 h1 h2 h3 h4 r]
theorem dx_arr : val_main_v57 (F := Ideal) x0 x1 x2 x3 x4 = arr (dxS (rX x0) (rG x1) (rW x2) (rD x3) (rY x4)) :=
  eq_arr fun r a => by
    rw [Ref.dx_at, dhR_eq x0 x1 x2 x3 x4 h1 h2 h3 h4 r]
    rfl
end Agree

/-- The kernel's five results are the reference's, where the gain, the weights and the incoming gradient are finite. -/
theorem algebraic : @Cert.algebraic_Kernel2Ideal_Reference2Ideal_pre_finite_inputs Cert.Kernel2Ideal.Gen.facts
    Cert.Reference2Ideal.Gen.facts preFacts := by
  haveI := preFacts
  pair_intro
  · run_from (kernel_run m g) & (Cert.Kernel2Ideal.Gen.unchanged m g)
  · run_from (reference_run m' g')
    all_goals obtain ⟨h1, h2, h3, h4⟩ := pre_real _ _ _ _ _ (hpre c)
    · exact dx_arr _ _ _ _ _ h1 h2 h3 h4
    · exact dgn_arr _ _ _ _ _ h1 h2 h3 h4
    · exact act_arr _ _ _ h1 h2
    · exact dg_arr _ _ _ _ _ h1 h2 h3 h4
    · exact du_arr _ _ _ _ _ h1 h2

end Cert.Ffn

end
-- ==== Proof.Dw.Down.lean ====
/- The gradient of the feed-forward block's down projection: what the kernel's program leaves in its result, the product
   of the activation's columns with the incoming gradient's, halved after the sum over the four tiles of rows. -/
module

public import proofs.«01_k».proof.Proof.Ffn.Spec
public import proofs.«01_k».proof.Proof.Gen.Kernel3Ideal.Value
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Dw.Down

open Idealize.ShloMosaic Idealize.ShloMosaic.TcCoe Idealize.SL.Sem
open Idealize.ShloMosaic.Pipeline (Dat)
open Cert.Kernel3Ideal Cert.Kernel3Ideal.Gen
open Cert.Ffn (cHalf sum_blocks)

/-! ## The body at an index -/

theorem pay1_at (a : Fin 1408) (b : Fin 1024) : k0_pay1 (F := Ideal) (ix2 a b) = 0 := by
  pointwise [k0_pay1]

theorem pay2_at (s : Vec Ideal S1408x1024 .f32) (u : Vec Ideal S1024x1408 .bf16) (v : Vec Ideal S1024x1024 .f32)
    (a : Fin 1408) (b : Fin 1024) :
    k0_pay2 s u v (ix2 a b) = s (ix2 a b) + ∑ r : Fin 1024, u (ix2 r a) * v (ix2 r b) := by
  pointwise [k0_pay2]

theorem pay3_at (s : Vec Ideal S1408x1024 .f32) (a : Fin 1408) (b : Fin 1024) :
    k0_pay3 s (ix2 a b) = s (ix2 a b) * cHalf := by
  pointwise [k0_pay3]
  rfl

/-! ## The points -/

section Points
variable (m : (ℓ : Loc nD τ sig) → Buf (Elt Ideal) ℓ) (c : Dev nD) (t : Fin cfg0.N)

/-- What the point before left in scratch. -/
abbrev prev := (outsAt0 m c (t.val - 1) (Nat.lt_of_le_of_lt (Nat.sub_le _ _) t.isLt)).2

/-- The first point of a block of columns. -/
theorem outs_A (h0 : t.val % 4 = 0) (h1 : ¬t.val % 4 = 3) : (outsAt0 m c t.val t.isLt).2
    = k0_pay2 (k0_pay1 (F := Ideal)) (iblk m c 0 t) (iblk m c 1 t) := by
  rw [outsAt0_A m c t h0 h1]
  frame_out

/-- A later point that is not the last. -/
theorem outs_B (h0 : ¬t.val % 4 = 0) (h1 : ¬t.val % 4 = 3) : (outsAt0 m c t.val t.isLt).2
    = k0_pay2 (prev m c t) (iblk m c 0 t) (iblk m c 1 t) := by
  rw [outsAt0_B m c t h0 h1]
  frame_out
  simp only [read_unread_whole]

/-- The last point: the result's block too. -/
theorem outs_C (h0 : ¬t.val % 4 = 0) (h1 : t.val % 4 = 3) : outsAt0 m c t.val t.isLt
    = (k0_pay3 (k0_pay2 (prev m c t) (iblk m c 0 t) (iblk m c 1 t)),
        k0_pay2 (prev m c t) (iblk m c 0 t) (iblk m c 1 t)) := by
  rw [outsAt0_C m c t h0 h1]
  frame_out
  simp only [read_unread_whole]

end Points

/-! ## The blocks by the whole arrays -/

/-- A row of tile `i`, a column of block `j`. -/
def row (i : Fin 4) (r : Fin 1024) : Fin 4096 := ⟨i * 1024 + r, by omega⟩
def col (j : Fin 2) (q : Fin 1408) : Fin 2816 := ⟨j * 1408 + q, by omega⟩

section Reads
variable (m : (ℓ : Loc nD τ sig) → Buf (Elt Ideal) ℓ) (c : Dev nD)

/-- The arguments on core `c`. -/
abbrev aA (r : Fin 4096) (k : Fin 2816) : EReal := (m ((c : Thread nD τ).loc main_arg0) : FVec Ideal S4096x2816 .bf16) (ix2 r k)
abbrev aY (r : Fin 4096) (d : Fin 1024) : EReal := (m ((c : Thread nD τ).loc main_arg1) : FVec Ideal S4096x1024 .f32) (ix2 r d)

theorem V_a (r : Fin 4096) (k : Fin 2816) : V m c main_arg0 (ix2 r k) = aA m c r k := by
  rw [V_main_arg0]
theorem V_y (r : Fin 4096) (d : Fin 1024) : V m c main_arg1 (ix2 r d) = aY m c r d := by
  rw [V_main_arg1]

theorem idx0 : ∀ t : Fin cfg0.N, (t : ℕ) < 8 ∧ win0_0.index t = ![t.val % 4, t.val / 4] ∧ win0_1.index t = ![t.val % 4, 0]
    ∧ win0_2.index t = ![t.val / 4, 0] := by decide +kernel

/-- A point's tile of rows and block of columns. -/
def ti (t : Fin cfg0.N) : Fin 4 := ⟨t.val % 4, by omega⟩
def tj (t : Fin cfg0.N) : Fin 2 := ⟨t.val / 4, by have := (idx0 t).1; omega⟩

variable (t : Fin cfg0.N)

theorem blk_a (r : Fin 1024) (q : Fin 1408) : iblk m c 0 t (ix2 r q) = aA m c (row (ti t) r) (col (tj t) q) := by
  refine Eq.trans ?_ (V_a m c (row (ti t) r) (col (tj t) q))
  obtain ⟨_, e, _⟩ := idx0 t
  blk_ext [iblk, V, e] <;> simp [ti, tj, row, col]

theorem blk_y (r d : Fin 1024) : iblk m c 1 t (ix2 r d) = aY m c (row (ti t) r) d := by
  refine Eq.trans ?_ (V_y m c (row (ti t) r) d)
  obtain ⟨_, _, e, _⟩ := idx0 t
  blk_ext [iblk, V, e] <;> simp [ti, row]

/-- A tile's share of the product. -/
def part (i : Fin 4) (j : Fin 2) (q : Fin 1408) (d : Fin 1024) : EReal :=
  ∑ r : Fin 1024, aA m c (row i r) (col j q) * aY m c (row i r) d

theorem step_at (s : Vec Ideal S1408x1024 .f32) (q : Fin 1408) (d : Fin 1024) :
    k0_pay2 s (iblk m c 0 t) (iblk m c 1 t) (ix2 q d) = s (ix2 q d) + part m c (ti t) (tj t) q d := by
  rw [pay2_at]
  simp only [blk_a, blk_y]
  rfl

/-- The scratch after a point, at an index. -/
@[irreducible] def accAt (q : Fin 1408) (d : Fin 1024) (n : ℕ) (h : n < cfg0.N) : EReal := (outsAt0 m c n h).2 (ix2 q d)

theorem accAt_eq (q : Fin 1408) (d : Fin 1024) (n : ℕ) (h : n < cfg0.N) :
    accAt m c q d n h = (outsAt0 m c n h).2 (ix2 q d) := by
  unfold accAt; rfl

theorem acc_zero (q : Fin 1408) (d : Fin 1024) (t : Fin cfg0.N) (h0 : t.val % 4 = 0) :
    accAt m c q d t.val t.isLt = 0 + part m c (ti t) (tj t) q d := by
  rw [accAt_eq, outs_A m c t h0 (by omega), step_at, pay1_at]

theorem acc_succ (q : Fin 1408) (d : Fin 1024) (t : Fin cfg0.N) (h0 : ¬t.val % 4 = 0) : accAt m c q d t.val t.isLt
    = accAt m c q d (t.val - 1) (Nat.lt_of_le_of_lt (Nat.sub_le _ _) t.isLt) + part m c (ti t) (tj t) q d := by
  rw [accAt_eq, accAt_eq]
  by_cases h1 : t.val % 4 = 3
  · rw [outs_C m c t h0 h1]; exact step_at m c t _ q d
  · rw [outs_B m c t h0 h1, step_at]

/-- The down projection's gradient. -/
def dwd (k : Fin 2816) (d : Fin 1024) : EReal := (∑ r, aA m c r k * aY m c r d) * cHalf

theorem acc_last (t : Fin cfg0.N) (ht : t.val % 4 = 3) (q : Fin 1408) (d : Fin 1024) :
    (outsAt0 m c t.val t.isLt).2 (ix2 q d) = ∑ r, aA m c r (col (tj t) q) * aY m c r d := by
  have acc := Pipeline.eq_sum_fin_of_reset_step_of_flush (accAt m c q d) 4 0 (fun t => part m c (ti t) (tj t) q d)
    (acc_zero m c q d) (acc_succ m c q d) t ht
  rw [accAt_eq] at acc
  rw [acc, zero_add]
  refine Eq.trans ?_ (sum_blocks 4 1024 4096 rfl (fun r => aA m c r (col (tj t) q) * aY m c r d) (fun i j => by omega))
  refine Finset.sum_congr rfl fun s _ => ?_
  have hs := s.isLt
  refine Eq.trans (b := part m c s (tj t) q d) ?_ rfl
  congr 1 <;> (ext; simp only [ti, tj]; omega)

theorem out_at (t : Fin cfg0.N) (ht : t.val % 4 = 3) (q : Fin 1408) (d : Fin 1024) :
    (outsAt0 m c t.val t.isLt).1 (ix2 q d) = dwd m c (col (tj t) q) d := by
  have e : (outsAt0 m c t.val t.isLt).1 = k0_pay3 (outsAt0 m c t.val t.isLt).2 := by
    rw [outs_C m c t (by omega) ht]
  rw [e, pay3_at, acc_last m c t ht q d]
  rfl

/-- A function of a row and a column as an array. -/
def arr (f : Fin 2816 → Fin 1024 → EReal) : S2816x1024.Idx → EReal := fun i => f (i 0) (i 1)
theorem arr_at (f : Fin 2816 → Fin 1024 → EReal) (a : Fin 2816) (b : Fin 1024) : arr f (ix2 a b) = f a b := rfl

/-- The result's array after the run. -/
theorem arr_out : (dats m 0 c).arrAt 2 cfg0.N = arr (dwd m c) := by
  refine (dats m 0 c).arrAt_eq_of_covers 2 _ (by decide +kernel) fun t hf y => ?_
  have ht : t.val % 4 = 3 := (flush0_2 t).mp hf
  blk_simp
  rw [after0_2]
  obtain ⟨_, _, _, e2⟩ := idx0 t
  have key := out_at m c t ht (y 0) (y 1)
  rw [← eq_ix2 (n0 := 1408) (n1 := 1024) y] at key
  refine key.trans ((arr_at (dwd m c) (col (tj t) (y 0)) (y 1)).symm.trans (congrArg (arr (dwd m c)) ?_))
  blk_ext [e2] <;> simp [tj, col]

/-- What the kernel's program leaves in its result. -/
theorem kernel_run (g : Dev nD → PrngReg) : θ_run defs (onTc (τ := τ) (main (F := Ideal))) ⟨m, fun _ => 0, g⟩ fun r =>
    ∀ c : Dev nD, r.2.mem ((c.tc : Thread nD τ).loc main_v0) = arr (dwd m c) :=
  (θ_run defs _ _).mono (fun _ h c => (h.out_eq c 2).trans (arr_out m c)) (run_main m g)

end Reads

end Cert.Dw.Down

end
-- ==== Proof.Dw.DownEqual.lean ====
/- The gradient of the down projection: the reference halves the incoming gradient before the sum, the kernel after it. -/
module

public import proofs.«01_k».proof.Defs
public import proofs.«01_k».proof.Proof.Dw.Down
public import proofs.«01_k».proof.Proof.Ffn.Ref
public import proofs.«01_k».proof.Proof.Gen.Reference3Ideal.Run
public import proofs.«01_k».proof.Proof.Gen.Reference3Ideal.Read
public import Idealize.ShloMosaic.Lib.Claim

@[expose] public section

set_option maxRecDepth 16384

noncomputable section

namespace Cert.Dw.Down

open Idealize.ShloMosaic Idealize.ShloMosaic.TcCoe Idealize.SL.Sem
open Cert.Ffn (cHalf)
open Cert.Ffn.Ref (mulC)

theorem half_eq : cHalf = (((1 : ℝ) / 2 : ℝ) : EReal) := by
  unfold cHalf
  simp [Ideal.ofBits, Ideal.ieee, -EReal.coe_mul] <;> try norm_num

/-- Halving goes through a sum of extended reals. -/
theorem half_sum {n : ℕ} (f : Fin n → EReal) : (∑ i, f i) * cHalf = ∑ i, cHalf * f i := by
  rw [half_eq, mul_comm]
  refine Finset.induction_on (Finset.univ : Finset (Fin n)) (by simp) fun a s ha ih => ?_
  rw [Finset.sum_insert ha, Finset.sum_insert ha, ← ih]
  exact EReal.left_distrib_of_nonneg_of_ne_top (EReal.coe_nonneg.2 (by norm_num)) (EReal.coe_ne_top _) _ _

section Ref
open Cert.Reference3Ideal Cert.Reference3Ideal.Read
variable (x0 : FVec Ideal S4096x2816 .bf16) (x1 : FVec Ideal S4096x1024 .f32)

theorem half_at (r : Fin 4096) (d : Fin 1024) : val_main_v6 (F := Ideal) x1 (ix2 r d) = cHalf * x1 (ix2 r d) := by
  pointwise [val_main_v6, val_main_v5, val_main_cst_1]
  rfl

theorem prod_at (d : Fin 1024) (k : Fin 2816) : val_main_v7 (F := Ideal) x0 x1 (ix2 d k)
    = ∑ r : Fin 4096, cHalf * x1 (ix2 r d) * x0 (ix2 r k) := by
  rw [val_main_v7_apply]
  refine Finset.sum_congr rfl fun r _ => congrArg₂ (· * ·) ?_ ?_
  · rw [show lidx_main_v7 (ix2 d k) r = ix2 r d from by funext b; match b with | ⟨0, _⟩ => rfl | ⟨1, _⟩ => rfl]
    exact half_at x1 r d
  · rw [show ridx_main_v7 (ix2 d k) r = ix2 r k from by funext b; match b with | ⟨0, _⟩ => rfl | ⟨1, _⟩ => rfl]
    rfl

theorem ref_at (k : Fin 2816) (d : Fin 1024) : val_main_v9 (F := Ideal) x0 x1 (ix2 k d)
    = (∑ r : Fin 4096, x0 (ix2 r k) * x1 (ix2 r d)) * cHalf := by
  rw [val_main_v9_apply, val_main_v8_apply, show idx_main_v8 (ix2 k d) = ix2 d k from by funext b; match b with | ⟨0, _⟩ => rfl | ⟨1, _⟩ => rfl]
  refine (prod_at x0 x1 d k).trans ?_
  rw [half_sum]
  refine Finset.sum_congr rfl fun r _ => ?_
  rw [mul_assoc, mul_comm (x1 _)]

theorem ref_arr : val_main_v9 (F := Ideal) x0 x1
    = arr fun k d => (∑ r : Fin 4096, x0 (ix2 r k) * x1 (ix2 r d)) * cHalf :=
  funext fun i => by
    have e : i = ix2 (i 0) (i 1) := by
      funext c
      match c with
      | ⟨0, _⟩ => rfl
      | ⟨1, _⟩ => rfl
    rw [e]; exact ref_at x0 x1 _ _

/-- What the reference leaves in its result. -/
theorem reference_run (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem ((c.tc : Thread nD τ).loc main_v9) = val_main_v9 (F := Ideal) (m (c.tc.loc main_arg0)) (m (c.tc.loc main_arg1))
    ∧ r.2.mem (c.tc.loc main_arg0) = m (c.tc.loc main_arg0) ∧ r.2.mem (c.tc.loc main_arg1) = m (c.tc.loc main_arg1) :=
  (θ_run defs _ _).mono (fun _ h c => by
    obtain ⟨h0, h1⟩ := h c
    exact ⟨h0.trans (val_main_v9_eq _ _), h1⟩)
    (Cert.Reference3Ideal.Value.run m g)
end Ref

/-- The two results are one array. -/
theorem algebraic : @Cert.algebraic_Kernel3Ideal_Reference3Ideal Cert.Kernel3Ideal.Gen.facts
    Cert.Reference3Ideal.Gen.facts := by
  pair_intro
  · run_from (kernel_run m g) & (Cert.Kernel3Ideal.Gen.unchanged m g)
  · run_from (reference_run m' g')
    exact ref_arr _ _

end Cert.Dw.Down

end
-- ==== Proof.Dw.Gate.lean ====
/- The gradient of half of the feed-forward block's first projection: what the kernel's program leaves in its result, the
   product of the normalized rows' columns with the gate's or the up projection's gradient's, over the four tiles of rows. -/
module

public import proofs.«01_k».proof.Proof.Ffn.Spec
public import proofs.«01_k».proof.Proof.Gen.Kernel4Ideal.Value
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Dw.Gate

open Idealize.ShloMosaic Idealize.ShloMosaic.TcCoe Idealize.SL.Sem
open Idealize.ShloMosaic.Pipeline (Dat)
open Cert.Kernel4Ideal Cert.Kernel4Ideal.Gen
open Cert.Ffn (hn sum_blocks)

/-! ## The body at an index -/

theorem pay1_at (a : Fin 1024) (b : Fin 1408) : k0_pay1 (F := Ideal) (ix2 a b) = 0 := by
  pointwise [k0_pay1]

theorem pay2_at (s : Vec Ideal S1024x1408 .f32) (u : Vec Ideal S1024x1024 .bf16) (v : Vec Ideal S1024x1408 .bf16)
    (a : Fin 1024) (b : Fin 1408) :
    k0_pay2 s u v (ix2 a b) = s (ix2 a b) + ∑ r : Fin 1024, u (ix2 r a) * v (ix2 r b) := by
  pointwise [k0_pay2]

theorem pay3_at (s : Vec Ideal S1024x1408 .f32) (a : Fin 1024) (b : Fin 1408) :
    k0_pay3 s (ix2 a b) = s (ix2 a b) := by
  pointwise [k0_pay3]

/-! ## The points -/

section Points
variable (m : (ℓ : Loc nD τ sig) → Buf (Elt Ideal) ℓ) (c : Dev nD) (t : Fin cfg0.N)

/-- What the point before left in scratch. -/
abbrev prev := (outsAt0 m c (t.val - 1) (Nat.lt_of_le_of_lt (Nat.sub_le _ _) t.isLt)).2

/-- The first point of a block of columns. -/
theorem outs_A (h0 : t.val % 4 = 0) (h1 : ¬t.val % 4 = 3) : (outsAt0 m c t.val t.isLt).2
    = k0_pay2 (k0_pay1 (F := Ideal)) (iblk m c 0 t) (iblk m c 1 t) := by
  rw [outsAt0_A m c t h0 h1]
  frame_out

/-- A later point that is not the last. -/
theorem outs_B (h0 : ¬t.val % 4 = 0) (h1 : ¬t.val % 4 = 3) : (outsAt0 m c t.val t.isLt).2
    = k0_pay2 (prev m c t) (iblk m c 0 t) (iblk m c 1 t) := by
  rw [outsAt0_B m c t h0 h1]
  frame_out
  simp only [read_unread_whole]

/-- The last point: the result's block too. -/
theorem outs_C (h0 : ¬t.val % 4 = 0) (h1 : t.val % 4 = 3) : outsAt0 m c t.val t.isLt
    = (k0_pay3 (k0_pay2 (prev m c t) (iblk m c 0 t) (iblk m c 1 t)),
        k0_pay2 (prev m c t) (iblk m c 0 t) (iblk m c 1 t)) := by
  rw [outsAt0_C m c t h0 h1]
  frame_out
  simp only [read_unread_whole]

end Points

/-! ## The blocks by the whole arrays -/

/-- A row of tile `i`, a column of block `j`. -/
def row (i : Fin 4) (r : Fin 1024) : Fin 4096 := ⟨i * 1024 + r, by omega⟩
def col (j : Fin 2) (q : Fin 1408) : Fin 2816 := ⟨j * 1408 + q, by omega⟩

section Reads
variable (m : (ℓ : Loc nD τ sig) → Buf (Elt Ideal) ℓ) (c : Dev nD)

/-- The arguments on core `c`. -/
abbrev aX (r : Fin 4096) (d : Fin 1024) : EReal := (m ((c : Thread nD τ).loc main_arg0) : FVec Ideal S4096x1024 .f32) (ix2 r d)
abbrev aG (d : Fin 1024) : EReal := (m ((c : Thread nD τ).loc main_arg1) : FVec Ideal S1x1024 .f32) (ix2 0 d)
abbrev aD (r : Fin 4096) (k : Fin 2816) : EReal := (m ((c : Thread nD τ).loc main_arg2) : FVec Ideal S4096x2816 .bf16) (ix2 r k)

theorem V_h (r : Fin 4096) (d : Fin 1024) : V m c main_v12 (ix2 r d) = hn (aX m c r) (aG m c) d := by
  unfold V; after_reads_at; rfl
theorem V_d (r : Fin 4096) (k : Fin 2816) : V m c main_arg2 (ix2 r k) = aD m c r k := by
  rw [V_main_arg2]

theorem idx0 : ∀ t : Fin cfg0.N, (t : ℕ) < 8 ∧ win0_0.index t = ![t.val % 4, 0] ∧ win0_1.index t = ![t.val % 4, t.val / 4]
    ∧ win0_2.index t = ![0, t.val / 4] := by decide +kernel

/-- A point's tile of rows and block of columns. -/
def ti (t : Fin cfg0.N) : Fin 4 := ⟨t.val % 4, by omega⟩
def tj (t : Fin cfg0.N) : Fin 2 := ⟨t.val / 4, by have := (idx0 t).1; omega⟩

variable (t : Fin cfg0.N)

theorem blk_h (r d : Fin 1024) : iblk m c 0 t (ix2 r d) = hn (aX m c (row (ti t) r)) (aG m c) d := by
  refine Eq.trans ?_ (V_h m c (row (ti t) r) d)
  obtain ⟨_, e, _⟩ := idx0 t
  blk_ext [iblk, V, e] <;> simp [ti, row]

theorem blk_d (r : Fin 1024) (q : Fin 1408) : iblk m c 1 t (ix2 r q) = aD m c (row (ti t) r) (col (tj t) q) := by
  refine Eq.trans ?_ (V_d m c (row (ti t) r) (col (tj t) q))
  obtain ⟨_, _, e, _⟩ := idx0 t
  blk_ext [iblk, V, e] <;> simp [ti, tj, row, col]

/-- A tile's share of the product. -/
def part (i : Fin 4) (j : Fin 2) (d : Fin 1024) (q : Fin 1408) : EReal :=
  ∑ r : Fin 1024, hn (aX m c (row i r)) (aG m c) d * aD m c (row i r) (col j q)

theorem step_at (s : Vec Ideal S1024x1408 .f32) (d : Fin 1024) (q : Fin 1408) :
    k0_pay2 s (iblk m c 0 t) (iblk m c 1 t) (ix2 d q) = s (ix2 d q) + part m c (ti t) (tj t) d q := by
  rw [pay2_at]
  simp only [blk_h, blk_d]
  rfl

/-- The scratch after a point, at an index. -/
@[irreducible] def accAt (d : Fin 1024) (q : Fin 1408) (n : ℕ) (h : n < cfg0.N) : EReal := (outsAt0 m c n h).2 (ix2 d q)

theorem accAt_eq (d : Fin 1024) (q : Fin 1408) (n : ℕ) (h : n < cfg0.N) :
    accAt m c d q n h = (outsAt0 m c n h).2 (ix2 d q) := by
  unfold accAt; rfl

theorem acc_zero (d : Fin 1024) (q : Fin 1408) (t : Fin cfg0.N) (h0 : t.val % 4 = 0) :
    accAt m c d q t.val t.isLt = 0 + part m c (ti t) (tj t) d q := by
  rw [accAt_eq, outs_A m c t h0 (by omega), step_at, pay1_at]

theorem acc_succ (d : Fin 1024) (q : Fin 1408) (t : Fin cfg0.N) (h0 : ¬t.val % 4 = 0) : accAt m c d q t.val t.isLt
    = accAt m c d q (t.val - 1) (Nat.lt_of_le_of_lt (Nat.sub_le _ _) t.isLt) + part m c (ti t) (tj t) d q := by
  rw [accAt_eq, accAt_eq]
  by_cases h1 : t.val % 4 = 3
  · rw [outs_C m c t h0 h1]; exact step_at m c t _ d q
  · rw [outs_B m c t h0 h1, step_at]

/-- The gradient of a half of the projection. -/
def dwg (d : Fin 1024) (k : Fin 2816) : EReal := ∑ r, hn (aX m c r) (aG m c) d * aD m c r k

theorem acc_last (t : Fin cfg0.N) (ht : t.val % 4 = 3) (d : Fin 1024) (q : Fin 1408) :
    (outsAt0 m c t.val t.isLt).2 (ix2 d q) = ∑ r, hn (aX m c r) (aG m c) d * aD m c r (col (tj t) q) := by
  have acc := Pipeline.eq_sum_fin_of_reset_step_of_flush (accAt m c d q) 4 0 (fun t => part m c (ti t) (tj t) d q)
    (acc_zero m c d q) (acc_succ m c d q) t ht
  rw [accAt_eq] at acc
  rw [acc, zero_add]
  refine Eq.trans ?_ (sum_blocks 4 1024 4096 rfl (fun r => hn (aX m c r) (aG m c) d * aD m c r (col (tj t) q)) (fun i j => by omega))
  refine Finset.sum_congr rfl fun s _ => ?_
  have hs := s.isLt
  refine Eq.trans (b := part m c s (tj t) d q) ?_ rfl
  congr 1 <;> (ext; simp only [ti, tj]; omega)

theorem out_at (t : Fin cfg0.N) (ht : t.val % 4 = 3) (d : Fin 1024) (q : Fin 1408) :
    (outsAt0 m c t.val t.isLt).1 (ix2 d q) = dwg m c d (col (tj t) q) := by
  have e : (outsAt0 m c t.val t.isLt).1 = k0_pay3 (outsAt0 m c t.val t.isLt).2 := by
    rw [outs_C m c t (by omega) ht]
  rw [e, pay3_at, acc_last m c t ht d q]
  rfl

/-- A function of a row and a column as an array. -/
def arr (f : Fin 1024 → Fin 2816 → EReal) : S1024x2816.Idx → EReal := fun i => f (i 0) (i 1)
theorem arr_at (f : Fin 1024 → Fin 2816 → EReal) (a : Fin 1024) (b : Fin 2816) : arr f (ix2 a b) = f a b := rfl

/-- The result's array after the run. -/
theorem arr_out : (dats m 0 c).arrAt 2 cfg0.N = arr (dwg m c) := by
  refine (dats m 0 c).arrAt_eq_of_covers 2 _ (by decide +kernel) fun t hf y => ?_
  have ht : t.val % 4 = 3 := (flush0_2 t).mp hf
  blk_simp
  rw [after0_2]
  obtain ⟨_, _, _, e2⟩ := idx0 t
  have key := out_at m c t ht (y 0) (y 1)
  rw [← eq_ix2 (n0 := 1024) (n1 := 1408) y] at key
  refine key.trans ((arr_at (dwg m c) (y 0) (col (tj t) (y 1))).symm.trans (congrArg (arr (dwg m c)) ?_))
  blk_ext [e2] <;> simp [tj, col]

/-- What the kernel's program leaves in its result. -/
theorem kernel_run (g : Dev nD → PrngReg) : θ_run defs (onTc (τ := τ) (main (F := Ideal))) ⟨m, fun _ => 0, g⟩ fun r =>
    ∀ c : Dev nD, r.2.mem ((c.tc : Thread nD τ).loc main_v13) = arr (dwg m c) :=
  (θ_run defs _ _).mono (fun _ h c => (h.out_eq c 2).trans (arr_out m c)) (run_main m g)

end Reads

end Cert.Dw.Gate

end
-- ==== Proof.Dw.GateEqual.lean ====
/- The gradient of half of the first projection: the reference's product, transposed, is the kernel's. -/
module

public import proofs.«01_k».proof.Defs
public import proofs.«01_k».proof.Proof.Dw.Gate
public import proofs.«01_k».proof.Proof.Ffn.Ref
public import proofs.«01_k».proof.Proof.Gen.Reference4Ideal.Run
public import proofs.«01_k».proof.Proof.Gen.Reference4Ideal.Read
public import Idealize.ShloMosaic.Lib.Claim

@[expose] public section

set_option maxRecDepth 16384

noncomputable section

namespace Cert.Dw.Gate

open Idealize.ShloMosaic Idealize.ShloMosaic.TcCoe Idealize.SL.Sem
open Cert.Ffn (hn rs var)
open Cert.Ffn.Ref (mulC rsqrtC)

section Ref
open Cert.Reference4Ideal Cert.Reference4Ideal.Read
variable (x0 : FVec Ideal S4096x1024 .f32) (x1 : FVec Ideal S1x1024 .f32) (x2 : FVec Ideal S4096x2816 .bf16)

/-- The arguments by row and column. -/
abbrev rX (r : Fin 4096) (d : Fin 1024) : EReal := x0 (ix2 r d)
abbrev rG (d : Fin 1024) : EReal := x1 (ix2 0 d)

theorem var_at (r : Fin 4096) (z : Fin 1) : val_main_v7 (F := Ideal) x0 (ix2 r z) = var (rX x0 r) := by
  pointwise [val_main_v7, val_main_v6, val_main_v5, val_main_v4, val_main_v3, val_main_v2, val_main_v1, val_main_cst_0,
    val_main_cst_1, val_main_cst_2]
  rfl

theorem rs_at (r : Fin 4096) (z : Fin 1) : val_main_v8 (F := Ideal) x0 (ix2 r z) = rs (rX x0 r) := by
  rw [val_main_v8_apply]
  exact rsqrtC (var_at x0 r z)

theorem rsb_at (r : Fin 4096) (d : Fin 1024) : val_main_v9 (F := Ideal) x0 (ix2 r d) = rs (rX x0 r) := by
  rw [val_main_v9_apply, show idx_main_v9 (ix2 r d) = ix2 r 0 from by funext b; match b with | ⟨0, _⟩ => rfl | ⟨1, _⟩ => rfl]
  exact rs_at x0 r 0

theorem xn_at (r : Fin 4096) (d : Fin 1024) : val_main_v10 (F := Ideal) x0 (ix2 r d) = rX x0 r d * rs (rX x0 r) := by
  rw [val_main_v10_apply]
  exact mulC rfl (rsb_at x0 r d)

theorem gb_at (r : Fin 4096) (d : Fin 1024) : val_main_v11 (F := Ideal) x1 (ix2 r d) = rG x1 d := by
  rw [val_main_v11_apply, show idx_main_v11 (ix2 r d) = ix2 0 d from by funext b; match b with | ⟨0, _⟩ => rfl | ⟨1, _⟩ => rfl]

theorem hn_at (r : Fin 4096) (d : Fin 1024) : val_main_v12 (F := Ideal) x0 x1 (ix2 r d) = hn (rX x0 r) (rG x1) d := by
  rw [val_main_v12_apply]
  exact mulC (xn_at x0 r d) (gb_at x1 r d)

attribute [local irreducible] hn rs var

theorem prod_at (k : Fin 2816) (d : Fin 1024) : val_main_v15 (F := Ideal) x0 x1 x2 (ix2 k d)
    = ∑ r : Fin 4096, x2 (ix2 r k) * hn (rX x0 r) (rG x1) d := by
  rw [val_main_v15_apply]
  refine Finset.sum_congr rfl fun r _ => congrArg₂ (· * ·) ?_ ?_
  · rw [show lidx_main_v15 (ix2 k d) r = ix2 r k from by funext b; match b with | ⟨0, _⟩ => rfl | ⟨1, _⟩ => rfl]
    rfl
  · rw [show ridx_main_v15 (ix2 k d) r = ix2 r d from by funext b; match b with | ⟨0, _⟩ => rfl | ⟨1, _⟩ => rfl]
    exact hn_at x0 x1 r d

theorem ref_at (d : Fin 1024) (k : Fin 2816) : val_main_v17 (F := Ideal) x0 x1 x2 (ix2 d k)
    = ∑ r : Fin 4096, hn (rX x0 r) (rG x1) d * x2 (ix2 r k) := by
  rw [val_main_v17_apply, val_main_v16_apply, show idx_main_v16 (ix2 d k) = ix2 k d from by funext b; match b with | ⟨0, _⟩ => rfl | ⟨1, _⟩ => rfl]
  refine (prod_at x0 x1 x2 k d).trans (Finset.sum_congr rfl fun r _ => mul_comm _ _)

theorem ref_arr : val_main_v17 (F := Ideal) x0 x1 x2
    = arr fun d k => ∑ r : Fin 4096, hn (rX x0 r) (rG x1) d * x2 (ix2 r k) :=
  funext fun i => by
    have e : i = ix2 (i 0) (i 1) := by
      funext c
      match c with
      | ⟨0, _⟩ => rfl
      | ⟨1, _⟩ => rfl
    rw [e]; exact ref_at x0 x1 x2 _ _

/-- What the reference leaves in its result. -/
theorem reference_run (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem ((c.tc : Thread nD τ).loc main_v17)
      = val_main_v17 (F := Ideal) (m (c.tc.loc main_arg0)) (m (c.tc.loc main_arg1)) (m (c.tc.loc main_arg2))
    ∧ r.2.mem (c.tc.loc main_arg0) = m (c.tc.loc main_arg0) ∧ r.2.mem (c.tc.loc main_arg1) = m (c.tc.loc main_arg1)
    ∧ r.2.mem (c.tc.loc main_arg2) = m (c.tc.loc main_arg2) :=
  (θ_run defs _ _).mono (fun _ h c => by
    obtain ⟨h0, h1⟩ := h c
    exact ⟨h0.trans (val_main_v17_eq _ _ _), h1⟩)
    (Cert.Reference4Ideal.Value.run m g)
end Ref

/-- The two results are one array. -/
theorem algebraic : @Cert.algebraic_Kernel4Ideal_Reference4Ideal Cert.Kernel4Ideal.Gen.facts
    Cert.Reference4Ideal.Gen.facts := by
  pair_intro
  · run_from (kernel_run m g) & (Cert.Kernel4Ideal.Gen.unchanged m g)
  · run_from (reference_run m' g')
    exact ref_arr _ _ _

end Cert.Dw.Gate

end
-- ==== Proof.Fwd.Skel.lean ====
/- The body of the forward call of the feed-forward block as a sequence of loads and stores over named values: the
   normalised rows (`k0_pay1`), the zero the accumulator starts from (`k0_pay2`), the accumulator after one more
   block of columns (`k0_pay3`), the result of a row tile (`k0_pay4`). -/
module

public import proofs.«01_k».proof.Proof.Gen.Kernel5Ideal

@[expose] public section

set_option synthInstance.maxSize 4096

noncomputable section

namespace Cert.FfnFwd

open Cert.Kernel5Ideal Cert.Kernel5Ideal.Gen

open Idealize.ShloMosaic Idealize.SL.Sem

variable {F : FTy → Type} [FloatOps F]
/-! ## `cc0_ffn_fwd` -/

noncomputable def k0_pay1 (v29 : Vec F S1024x1024 .f32) (v30 : Vec F S1x1024 .f32) : FVec F S1024x1024 .bf16 :=
  have v31 : FVec F S1024x1024 .f32 := mulf v29 v29
  have v32 : FVec F S1024 .f32 := multiReduction .add [1] S1024 v31 0x00000000#32 reduces_S1024x1024_S1024 (.inl rfl) rfl
  have v33 : FVec F S1024x1 .f32 := shapeCast S1024x1 v32 shapeCasts_S1024_S1024x1
  have cst_25 : F .f32 := Scalar.ofBits .f32 0x44800000#32
  have v34 : FVec F S1024x1 .f32 := broadcast S1024x1 cst_25
  have v35 : FVec F S1024x1 .f32 := divf v33 v34
  have cst_26 : F .f32 := Scalar.ofBits .f32 0x358637BD#32
  have v36 : FVec F S1024x1 .f32 := broadcast S1024x1 cst_26
  have v37 : FVec F S1024x1 .f32 := addf v35 v36
  have v38 : FVec F S1024x1 .f32 := rsqrt v37
  have v39 : FVec F S1024x1024 .f32 := broadcastTo S1024x1024 v38 broadcasts_S1024x1_S1024x1024
  have v40 : FVec F S1024x1024 .f32 := mulf v29 v39
  have v41 : FVec F S1024x1024 .f32 := broadcastTo S1024x1024 v30 broadcasts_S1x1024_S1024x1024
  have v42 : FVec F S1024x1024 .f32 := mulf v40 v41
  have v43 : FVec F S1024x1024 .bf16 := truncf .bf16 v42 bitsLt_bf16_f32
  have v46 : FVec F S1024x1024 .bf16 := shapeCast S1024x1024 v43 shapeCasts_S1024x1024_S1024x1024
  v46

noncomputable def k0_pay2 : FVec F S1024x1024 .f32 :=
  have cst_33 : F .f32 := Scalar.ofBits .f32 0x00000000#32
  have v49 : FVec F S1024x1024 .f32 := broadcast S1024x1024 cst_33
  have v52 : FVec F S1024x1024 .f32 := shapeCast S1024x1024 v49 shapeCasts_S1024x1024_S1024x1024
  v52

noncomputable def k0_pay3 (v3 : Vec F S1024x1024 .bf16) (v4 : Vec F S1024x256 .bf16) (v6 : Vec F S1024x1024 .bf16) (v7 : Vec F S1024x256 .bf16) (v9 : Vec F S1024x1024 .f32) (v19 : Vec F S256x1024 .bf16) : FVec F S1024x1024 .f32 :=
  have cst : FVec F S1024x256 .f32 := constant S1024x256 .f32 0x00000000#32
  have v5 : FVec F S1024x256 .f32 := matmul dot_S1024x1024_S1024x256_S1024x256_1_0_0_1_n_n none v3 v4 cst
  have cst_8 : FVec F S1024x256 .f32 := constant S1024x256 .f32 0x00000000#32
  have v8 : FVec F S1024x256 .f32 := matmul dot_S1024x1024_S1024x256_S1024x256_1_0_0_1_n_n none v6 v7 cst_8
  have cst_11 : F .f32 := Scalar.ofBits .f32 0x3F000000#32
  have v10 : FVec F S1024x256 .f32 := broadcast S1024x256 cst_11
  have v11 : FVec F S1024x256 .f32 := mulf v10 v5
  have v12 : FVec F S1024x256 .f32 := tanh v11
  have cst_12 : F .f32 := Scalar.ofBits .f32 0x3F000000#32
  have v13 : FVec F S1024x256 .f32 := broadcast S1024x256 cst_12
  have v14 : FVec F S1024x256 .f32 := mulf v13 v12
  have cst_13 : F .f32 := Scalar.ofBits .f32 0x3F000000#32
  have v15 : FVec F S1024x256 .f32 := broadcast S1024x256 cst_13
  have v16 : FVec F S1024x256 .f32 := addf v14 v15
  have v17 : FVec F S1024x256 .f32 := mulf v5 v16
  have v18 : FVec F S1024x256 .f32 := mulf v17 v8
  have v20 : FVec F S1024x256 .bf16 := truncf .bf16 v18 bitsLt_bf16_f32
  have cst_16 : FVec F S1024x1024 .f32 := constant S1024x1024 .f32 0x00000000#32
  have v21 : FVec F S1024x1024 .f32 := matmul dot_S1024x256_S256x1024_S1024x1024_1_0_0_1_n_n none v20 v19 cst_16
  have v22 : FVec F S1024x1024 .f32 := addf v9 v21
  have v25 : FVec F S1024x1024 .f32 := shapeCast S1024x1024 v22 shapeCasts_S1024x1024_S1024x1024
  v25

noncomputable def k0_pay4 (v29 : Vec F S1024x1024 .f32) (v30 : Vec F S1024x1024 .f32) : FVec F S1024x1024 .f32 :=
  have cst_24 : F .f32 := Scalar.ofBits .f32 0x3F000000#32
  have v31 : FVec F S1024x1024 .f32 := broadcast S1024x1024 cst_24
  have v32 : FVec F S1024x1024 .f32 := mulf v31 v30
  have v33 : FVec F S1024x1024 .f32 := addf v29 v32
  v33

/-- `cc0_ffn_fwd` as a skeleton of memory operations over payloads. -/
noncomputable def cc0_ffn_fwd_skel (i : grid0.Coords) (arg2 : Memref sig .tc .vmem S1024x1024 .f32) (harg2 : arg2.IsWhole) (arg3 : Memref sig .tc .vmem S1x1024 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S256x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .f32) (harg10 : arg10.IsWhole) :
    Prog (TpuEff nD τ sig (Elt F) Λ₀ .tc) PUnit := do
  if k0_h1 : k0_cond1 i = 1#1 then do
    let v29 : Vec F S1024x1024 .f32 ← Prog.lift (.load arg2 (Rect.unit (s := S1024x1024) ![0, 0] S1024x1024.size inb_S1024x1024_S1024x1024_0_0).toLoadRect (View.loadsAt_vmem h_S1024x1024))
    let v30 : Vec F S1x1024 .f32 ← Prog.lift (.load arg3 (Rect.unit (s := S1x1024) ![0, 0] S1x1024.size inb_S1x1024_S1x1024_0_0).toLoadRect (View.loadsAt_vmem h_S1x1024))
    let v44 : Vec F S1024x1024 .bf16 ← Prog.lift (.load arg9 (Rect.unit (s := S1024x1024) ![0, 0] S1024x1024.size inb_S1024x1024_S1024x1024_0_0).toLoadRect (View.loadsAt_vmem h_S1024x1024))
    Prog.lift (.store arg9 (Rect.unit (s := S1024x1024) ![0, 0] S1024x1024.size inb_S1024x1024_S1024x1024_0_0) (k0_pay1 v29 v30) Finset.univ (View.stores_vmem h_S1024x1024 (harg9.storeExact_slice rfl _ packedbf16_S1024x1024_S1024x1024_0_0) (fun _ => rfl)) (.inl rfl))
    let v47 : Vec F S1024x1024 .bf16 ← Prog.lift (.load arg9 (Rect.unit (s := S1024x1024) ![0, 0] S1024x1024.size inb_S1024x1024_S1024x1024_0_0).toLoadRect (View.loadsAt_vmem h_S1024x1024))
    let v48 : Vec F S1024x1024 .bf16 ← Prog.lift (.load arg8 (Rect.unit (s := S1024x1024) ![0, 0] S1024x1024.size inb_S1024x1024_S1024x1024_0_0).toLoadRect (View.loadsAt_vmem h_S1024x1024))
    Prog.lift (.store arg8 (Rect.unit (s := S1024x1024) ![0, 0] S1024x1024.size inb_S1024x1024_S1024x1024_0_0) v47 Finset.univ (View.stores_vmem h_S1024x1024 (harg8.storeExact_slice rfl _ packedbf16_S1024x1024_S1024x1024_0_0) (fun _ => rfl)) (.inl rfl))
    let v50 : Vec F S1024x1024 .f32 ← Prog.lift (.load arg10 (Rect.unit (s := S1024x1024) ![0, 0] S1024x1024.size inb_S1024x1024_S1024x1024_0_0).toLoadRect (View.loadsAt_vmem h_S1024x1024))
    Prog.lift (.store arg10 (Rect.unit (s := S1024x1024) ![0, 0] S1024x1024.size inb_S1024x1024_S1024x1024_0_0) (k0_pay2 (F := F)) Finset.univ (View.stores_vmem_bits_univ h_S1024x1024 rfl) (.inl rfl))
    pure ⟨⟩
  else do
    pure ⟨⟩
  let v3 : Vec F S1024x1024 .bf16 ← Prog.lift (.load arg9 (Rect.unit (s := S1024x1024) ![0, 0] S1024x1024.size inb_S1024x1024_S1024x1024_0_0).toLoadRect (View.loadsAt_vmem h_S1024x1024))
  let v4 : Vec F S1024x256 .bf16 ← Prog.lift (.load arg4 (Rect.unit (s := S1024x256) ![0, 0] S1024x256.size inb_S1024x256_S1024x256_0_0).toLoadRect (View.loadsAt_vmem h_S1024x256))
  let v6 : Vec F S1024x1024 .bf16 ← Prog.lift (.load arg9 (Rect.unit (s := S1024x1024) ![0, 0] S1024x1024.size inb_S1024x1024_S1024x1024_0_0).toLoadRect (View.loadsAt_vmem h_S1024x1024))
  let v7 : Vec F S1024x256 .bf16 ← Prog.lift (.load arg5 (Rect.unit (s := S1024x256) ![0, 0] S1024x256.size inb_S1024x256_S1024x256_0_0).toLoadRect (View.loadsAt_vmem h_S1024x256))
  let v9 : Vec F S1024x1024 .f32 ← Prog.lift (.load arg10 (Rect.unit (s := S1024x1024) ![0, 0] S1024x1024.size inb_S1024x1024_S1024x1024_0_0).toLoadRect (View.loadsAt_vmem h_S1024x1024))
  let v19 : Vec F S256x1024 .bf16 ← Prog.lift (.load arg6 (Rect.unit (s := S256x1024) ![0, 0] S256x1024.size inb_S256x1024_S256x1024_0_0).toLoadRect (View.loadsAt_vmem h_S256x1024))
  let v23 : Vec F S1024x1024 .f32 ← Prog.lift (.load arg10 (Rect.unit (s := S1024x1024) ![0, 0] S1024x1024.size inb_S1024x1024_S1024x1024_0_0).toLoadRect (View.loadsAt_vmem h_S1024x1024))
  Prog.lift (.store arg10 (Rect.unit (s := S1024x1024) ![0, 0] S1024x1024.size inb_S1024x1024_S1024x1024_0_0) (k0_pay3 v3 v4 v6 v7 v9 v19) Finset.univ (View.stores_vmem_bits_univ h_S1024x1024 rfl) (.inl rfl))
  if k0_h2 : k0_cond2 i = 1#1 then do
    let v29 : Vec F S1024x1024 .f32 ← Prog.lift (.load arg2 (Rect.unit (s := S1024x1024) ![0, 0] S1024x1024.size inb_S1024x1024_S1024x1024_0_0).toLoadRect (View.loadsAt_vmem h_S1024x1024))
    let v30 : Vec F S1024x1024 .f32 ← Prog.lift (.load arg10 (Rect.unit (s := S1024x1024) ![0, 0] S1024x1024.size inb_S1024x1024_S1024x1024_0_0).toLoadRect (View.loadsAt_vmem h_S1024x1024))
    let v34 : Vec F S1024x1024 .f32 ← Prog.lift (.load arg7 (Rect.unit (s := S1024x1024) ![0, 0] S1024x1024.size inb_S1024x1024_S1024x1024_0_0).toLoadRect (View.loadsAt_vmem h_S1024x1024))
    Prog.lift (.store arg7 (Rect.unit (s := S1024x1024) ![0, 0] S1024x1024.size inb_S1024x1024_S1024x1024_0_0) (k0_pay4 v29 v30) Finset.univ (View.stores_vmem_bits_univ h_S1024x1024 rfl) (.inl rfl))
    pure ⟨⟩
  else do
    pure ⟨⟩
  pure ⟨⟩

set_option maxRecDepth 65536 in
/-- `cc0_ffn_fwd` is its skeleton: by definitional unfolding. -/
theorem cc0_ffn_fwd_eq_skeleton : cc0_ffn_fwd (F := F) = cc0_ffn_fwd_skel (F := F) := rfl

end Cert.FfnFwd

end
-- ==== Proof.Fwd.Points.lean ====
/- What the three cases of the body share: when its two conditions hold, where an output's block is not stored, and the
   buffers the body is called with. -/
module

public import proofs.«01_k».proof.Proof.Gen.Kernel5Ideal.Frame
public import proofs.«01_k».proof.Proof.Fwd.Skel
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.FfnFwd

open Cert.Kernel5Ideal Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 11) — by arithmetic of the point. -/
theorem hcond0_0 : ∀ t : Fin cfg0.N, cond0_0 (grid0.coords t) ↔ t.val % 11 = 0 :=
  (fun t => by
    have ht : t.val < 44 := Nat.lt_of_lt_of_eq t.isLt N_0
    have e0 : (grid0.coords t 0).val = t.val / 11 % 4 := Pipeline.Grid.coords_val t 0 (by decide) rfl
    have e1 : (grid0.coords t 1).val = t.val / 1 % 11 := Pipeline.Grid.coords_val t 1 (by decide) rfl
    simp only [cond0_0, k0_cond1, e0, e1]
    word_cmp
   : ∀ t : Fin grid0.N, cond0_0 (grid0.coords t) ↔ t.val % 11 = 0)

/-- The condition of the body's `scf.if` 1 (`k0_h2`), from the grid coordinates (the skeleton's scalar
    chain substituted). -/
abbrev cond0_1 (i : grid0.Coords) : Prop := k0_cond2 i = 1#1
/-- It holds at the points ≡ 10 (mod 11) — by arithmetic of the point. -/
theorem hcond0_1 : ∀ t : Fin cfg0.N, cond0_1 (grid0.coords t) ↔ t.val % 11 = 10 :=
  (fun t => by
    have ht : t.val < 44 := Nat.lt_of_lt_of_eq t.isLt N_0
    have e0 : (grid0.coords t 0).val = t.val / 11 % 4 := Pipeline.Grid.coords_val t 0 (by decide) rfl
    have e1 : (grid0.coords t 1).val = t.val / 1 % 11 := Pipeline.Grid.coords_val t 1 (by decide) rfl
    simp only [cond0_1, k0_cond2, e0, e1]
    word_cmp
   : ∀ t : Fin grid0.N, cond0_1 (grid0.coords t) ↔ t.val % 11 = 10)

/-! ## Where the windows are idle (the configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- At the points of case A the configuration (`Cfg.idle`) calls output 5 idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → (cfg0.win 5).flush t = false := by decide +kernel
/-- At the points of case B the configuration (`Cfg.idle`) calls output 5 idle: the case stores nothing into it. -/
theorem idleAt0_5_B : ∀ t : Fin cfg0.N, ¬cond0_0 (grid0.coords t) → ¬cond0_1 (grid0.coords t) → cfg0.idle 5 (grid0.coords t) = true := by decide +kernel
/-- At the points of case B the pipeline does not write output 5's block back. -/
theorem noFlush0_5_B : ∀ t : Fin cfg0.N, ¬cond0_0 (grid0.coords t) → ¬cond0_1 (grid0.coords t) → (cfg0.win 5).flush t = false := by decide +kernel
/-- At the points of case C the configuration (`Cfg.idle`) calls output 5 live: the case stores into it. -/
theorem liveAt0_5_C : ∀ t : Fin cfg0.N, ¬cond0_0 (grid0.coords t) → cond0_1 (grid0.coords t) → cfg0.idle 5 (grid0.coords t) = false := by decide +kernel
/-- At the points of case A the configuration (`Cfg.idle`) calls output 6 live: the case stores into it. -/
theorem liveAt0_6_A : ∀ t : Fin cfg0.N, cond0_0 (grid0.coords t) → ¬cond0_1 (grid0.coords t) → cfg0.idle 6 (grid0.coords t) = false := by decide +kernel
/-- At the points of case B the configuration (`Cfg.idle`) calls output 6 idle: the case stores nothing into it. -/
theorem idleAt0_6_B : ∀ t : Fin cfg0.N, ¬cond0_0 (grid0.coords t) → ¬cond0_1 (grid0.coords t) → cfg0.idle 6 (grid0.coords t) = true := by decide +kernel
/-- At the points of case B the pipeline does not write output 6's block back. -/
theorem noFlush0_6_B : ∀ t : Fin cfg0.N, ¬cond0_0 (grid0.coords t) → ¬cond0_1 (grid0.coords t) → (cfg0.win 6).flush t = false := by decide +kernel
/-- At the last block of columns the normalised rows are not stored again, -/
theorem idleAt0_6_C : ∀ t : Fin cfg0.N, ¬cond0_0 (grid0.coords t) → cond0_1 (grid0.coords t) → cfg0.idle 6 (grid0.coords t) = true := by decide +kernel
/-- and their block is written back. -/
theorem flush0_6_C : ∀ t : Fin cfg0.N, ¬cond0_0 (grid0.coords t) → cond0_1 (grid0.coords t) → (cfg0.win 6).flush t = true := by decide +kernel
/-- No point fetches into the buffer of an output. -/
theorem noFetch0_6 : ∀ t : Fin cfg0.N, (cfg0.win 6).fetch t = false := by decide +kernel
/-- Only the last block of columns writes the normalised rows back, -/
theorem noFlush0_6 : ∀ t : Fin cfg0.N, ¬t.val % 11 = 10 → (cfg0.win 6).flush t = false := by decide +kernel
/-- and only the first stores them. -/
theorem idle0_6 : ∀ t : Fin cfg0.N, ¬t.val % 11 = 0 → cfg0.idle 6 (grid0.coords t) = true := by decide +kernel
theorem live0_6 : ∀ t : Fin cfg0.N, t.val % 11 = 0 → cfg0.idle 6 (grid0.coords t) = false := by decide +kernel

/-! ## The kernel body on any staging memrefs: a subtype the run finds -/

/-- One staging buffer of output window 5, through which its contents are stated (`View.read_writes_of_cover`: the
    choice does not matter). -/
abbrev VO0_5 : View sig .tc .vmem S1024x1024 .f32 := (Memref.whole cc0_stg5_0 : Memref sig .tc .vmem S1024x1024 .f32).view
/-- One staging buffer of output window 6, through which its contents are stated (`View.read_writes_of_cover`: the
    choice does not matter). -/
abbrev VO0_6 : View sig .tc .vmem S1024x1024 .bf16 := (Memref.whole cc0_stg6_0 : Memref sig .tc .vmem S1024x1024 .bf16).view
/-- Each window's current staging memref at point `t`, spelled as the pipeline passes it (`bodyAt0`), and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S1024x1024 .bf16 := Memref.whole cc0_scratch0
abbrev scM0_1 : Memref sig .tc .vmem S1024x1024 .f32 := Memref.whole cc0_scratch1
/-- The scratch `arg9` the kernel carries between points, as a view: what it holds is stated through it. -/
abbrev VS0_0 : View sig .tc .vmem S1024x1024 .bf16 := scM0_0.view
/-- The scratch `arg10` the kernel carries between points, as a view: what it holds is stated through it. -/
abbrev VS0_1 : View sig .tc .vmem S1024x1024 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.FfnFwd

end
-- ==== Proof.Fwd.RunA.lean ====
/- The body at a grid point of case A: from the buffers' contents to the pieces its stores leave in them. -/
module

public import proofs.«01_k».proof.Proof.Fwd.Points

@[expose] public section

set_option maxRecDepth 16384

noncomputable section

namespace Cert.FfnFwd

open Cert.Kernel5Ideal Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each output's staging memref, as pieces (last first) IN CASE A (`scf.if` 0 taken, `scf.if` 1 not taken: points 0, 11, 22, 33), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S256x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .f32) (harg10 : arg10.IsWhole) (hc0 : cond0_0 i) (hc1 : ¬cond0_1 i)
    (x0 : Vec F S1024x1024 .f32) (x1 : Vec F S1x1024 .f32) (x2 : Vec F S1024x256 .bf16) (x3 : Vec F S1024x256 .bf16) (x4 : Vec F S256x1024 .bf16) :
    Σ' (L5 : List (View.Piece (Elt F) S1024x1024 .f32)), Σ' (L6 : List (View.Piece (Elt F) S1024x1024 .bf16)), Σ' (LS0 : List (View.Piece (Elt F) S1024x1024 .bf16)), { LS1 : List (View.Piece (Elt F) S1024x1024 .f32) //
      ∀ (xi5 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0_ffn_fwd i arg2 harg2 arg3 harg3 arg4 harg4 arg5 harg5 arg6 harg6 arg7 harg7 arg8 harg8 arg9 harg9 arg10 harg10) K } := by
  refine ⟨[], ?_, ?_, ?_, fun xi5 E K => ?run⟩
  case run =>
    simp only [cc0_ffn_fwd_eq_skeleton]; unfold cc0_ffn_fwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    iexists _; iexact HS1

end Cert.FfnFwd

end
-- ==== Proof.Fwd.RunB.lean ====
/- The body at a grid point of case B: from the buffers' contents to the pieces its stores leave in them. -/
module

public import proofs.«01_k».proof.Proof.Fwd.Points

@[expose] public section

set_option maxRecDepth 16384

noncomputable section

namespace Cert.FfnFwd

open Cert.Kernel5Ideal Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each output's staging memref, as pieces (last first) IN CASE B (`scf.if` 0 not taken, `scf.if` 1 not taken: points 1, 2, … 42: 36 of 44), WITH the
    proof that on whole staging memrefs — the inputs' at their contents, the outputs it leaves idle (5, 6: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S256x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .f32) (harg10 : arg10.IsWhole) (hc0 : ¬cond0_0 i) (hc1 : ¬cond0_1 i)
    (x0 : Vec F S1024x1024 .f32) (x1 : Vec F S1x1024 .f32) (x2 : Vec F S1024x256 .bf16) (x3 : Vec F S1024x256 .bf16) (x4 : Vec F S256x1024 .bf16) (xs0 : Vec F S1024x1024 .bf16) (xs1 : Vec F S1024x1024 .f32) :
    Σ' (L5 : List (View.Piece (Elt F) S1024x1024 .f32)), Σ' (L6 : List (View.Piece (Elt F) S1024x1024 .bf16)), Σ' (LS0 : List (View.Piece (Elt F) S1024x1024 .bf16)), { LS1 : List (View.Piece (Elt F) S1024x1024 .f32) //
      ∀ (xi5 : Vec F S1024x1024 .f32) (xi6 : Vec F S1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xs0 ∗ (∃ f, arg10.view.loc (c : Thread nD τ) ↦[arg10.view.set]{fullShare} arg10.view.writes (Elt F) f LS1)) -∗ K ⟨⟩))
          ⊢ wp frame (wpE (defs₀ (F := F)) Variants.none c none) E (cc0_ffn_fwd i arg2 harg2 arg3 harg3 arg4 harg4 arg5 harg5 arg6 harg6 arg7 harg7 arg8 harg8 arg9 harg9 arg10 harg10) K } := by
  refine ⟨[], [], [], ?_, fun xi5 xi6 E K => ?run⟩
  case run =>
    simp only [cc0_ffn_fwd_eq_skeleton]; unfold cc0_ffn_fwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    iexists _; iexact HS1

end Cert.FfnFwd

end
-- ==== Proof.Fwd.RunC.lean ====
/- The body at a grid point of case C: from the buffers' contents to the pieces its stores leave in them. -/
module

public import proofs.«01_k».proof.Proof.Fwd.Points

@[expose] public section

set_option maxRecDepth 16384

noncomputable section

namespace Cert.FfnFwd

open Cert.Kernel5Ideal Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each output's staging memref, as pieces (last first) IN CASE C (`scf.if` 0 not taken, `scf.if` 1 taken: points 10, 21, 32, 43), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S256x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .f32) (harg10 : arg10.IsWhole) (hc0 : ¬cond0_0 i) (hc1 : cond0_1 i)
    (x0 : Vec F S1024x1024 .f32) (x1 : Vec F S1x1024 .f32) (x2 : Vec F S1024x256 .bf16) (x3 : Vec F S1024x256 .bf16) (x4 : Vec F S256x1024 .bf16) (xs0 : Vec F S1024x1024 .bf16) (xs1 : Vec F S1024x1024 .f32) :
    Σ' (L5 : List (View.Piece (Elt F) S1024x1024 .f32)), Σ' (L6 : List (View.Piece (Elt F) S1024x1024 .bf16)), Σ' (LS0 : List (View.Piece (Elt F) S1024x1024 .bf16)), { LS1 : List (View.Piece (Elt F) S1024x1024 .f32) //
      ∀ (xi6 : Vec F S1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ owns (c : Thread nD τ) arg9 fullShare xs0 ∗ (∃ f, arg10.view.loc (c : Thread nD τ) ↦[arg10.view.set]{fullShare} arg10.view.writes (Elt F) f LS1)) -∗ K ⟨⟩))
          ⊢ wp frame (wpE (defs₀ (F := F)) Variants.none c none) E (cc0_ffn_fwd i arg2 harg2 arg3 harg3 arg4 harg4 arg5 harg5 arg6 harg6 arg7 harg7 arg8 harg8 arg9 harg9 arg10 harg10) K } := by
  refine ⟨?_, [], [], ?_, fun xi6 E K => ?run⟩
  case run =>
    simp only [cc0_ffn_fwd_eq_skeleton]; unfold cc0_ffn_fwd_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hfs0; obtain rfl := harg10.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    isplitl [HS0]
    · iexists _; isplitr; · ipureintro; exact harg9.read_unread _
      iexact HS0
    iexists _; iexact HS1

end Cert.FfnFwd

end
-- ==== Proof.Fwd.Frame.lean ====
/- What the buffers hold after each grid point of the forward call, and the run of the whole call. The normalised rows
   are stored at the first block of columns and written back after the last: in between their buffer is untouched, and
   holds what the point before found (`before0_6`). -/
module

public import proofs.«01_k».proof.Proof.Fwd.RunA
public import proofs.«01_k».proof.Proof.Fwd.RunB
public import proofs.«01_k».proof.Proof.Fwd.RunC
public import Idealize.ShloMosaic.Lib.Claim

@[expose] public section

set_option maxRecDepth 16384

noncomputable section

namespace Cert.FfnFwd

open Cert.Kernel5Ideal Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 5 (the window is idle at its points and not written back there):
    no pieces — a placeholder (junk read back) that nothing consults, since at these points the window is neither
    written back nor read at the next point (Lib/Pipeline.lean "Idle points"). -/
def out0_A_5 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S256x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .f32) (harg10 : arg10.IsWhole) (hc0 : cond0_0 i) (hc1 : ¬cond0_1 i)
    (x0 : Vec F S1024x1024 .f32) (x1 : Vec F S1x1024 .f32) (x2 : Vec F S1024x256 .bf16) (x3 : Vec F S1024x256 .bf16) (x4 : Vec F S256x1024 .bf16) : Vec F S1024x1024 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 hc0 hc1 x0 x1 x2 x3 x4).1)

/-- Case A's pieces for output 6 tile its block (1 store of `S1024x1024`, checked by the kernel's evaluation: Lib/Ring.lean `Piece.tiledL`, linear in the pieces, through a loop's `@[irreducible]` trip theorem too), so they cover it. -/
theorem cover0_A_6 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S256x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .f32) (harg10 : arg10.IsWhole) (hc0 : cond0_0 i) (hc1 : ¬cond0_1 i)
    (x0 : Vec F S1024x1024 .f32) (x1 : Vec F S1x1024 .f32) (x2 : Vec F S1024x256 .bf16) (x3 : Vec F S1024x256 .bf16) (x4 : Vec F S256x1024 .bf16) (y : S1024x1024.Idx) :
    ∃ pc ∈ (kernelRun0_A c i arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).2.1 S1024x1024.size (by sl_kernel_rfl) y

/-- What case A leaves in output 6's staging buffer: its pieces read back over junk. -/
def out0_A_6 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S256x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .f32) (harg10 : arg10.IsWhole) (hc0 : cond0_0 i) (hc1 : ¬cond0_1 i)
    (x0 : Vec F S1024x1024 .f32) (x1 : Vec F S1x1024 .f32) (x2 : Vec F S1024x256 .bf16) (x3 : Vec F S1024x256 .bf16) (x4 : Vec F S256x1024 .bf16) : Vec F S1024x1024 .bf16 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 hc1 x0 x1 x2 x3 x4).2.1)

/-- Case A's pieces for scratch `arg9`, which the kernel carries between points, cover it: 1 piece of `S1024x1024` tiling it (Lib/Ring.lean `Piece.tiledL`). -/
theorem scover0_A_0 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S256x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .f32) (harg10 : arg10.IsWhole) (hc0 : cond0_0 i) (hc1 : ¬cond0_1 i)
    (x0 : Vec F S1024x1024 .f32) (x1 : Vec F S1x1024 .f32) (x2 : Vec F S1024x256 .bf16) (x3 : Vec F S1024x256 .bf16) (x4 : Vec F S256x1024 .bf16) (y : S1024x1024.Idx) :
    ∃ pc ∈ (kernelRun0_A c i arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).2.2.1 S1024x1024.size (by sl_kernel_rfl) y

/-- What case A leaves in scratch `arg9`: its pieces read back over junk. -/
def sout0_A_0 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S256x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .f32) (harg10 : arg10.IsWhole) (hc0 : cond0_0 i) (hc1 : ¬cond0_1 i)
    (x0 : Vec F S1024x1024 .f32) (x1 : Vec F S1x1024 .f32) (x2 : Vec F S1024x256 .bf16) (x3 : Vec F S1024x256 .bf16) (x4 : Vec F S256x1024 .bf16) : Vec F S1024x1024 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4).2.2.1)

/-- Case A's pieces for scratch `arg10`, which the kernel carries between points, cover it: 2 pieces of `S1024x1024` tiling it (Lib/Ring.lean `Piece.tiledL`). -/
theorem scover0_A_1 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S256x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .f32) (harg10 : arg10.IsWhole) (hc0 : cond0_0 i) (hc1 : ¬cond0_1 i)
    (x0 : Vec F S1024x1024 .f32) (x1 : Vec F S1x1024 .f32) (x2 : Vec F S1024x256 .bf16) (x3 : Vec F S1024x256 .bf16) (x4 : Vec F S256x1024 .bf16) (y : S1024x1024.Idx) :
    ∃ pc ∈ (kernelRun0_A c i arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).2.2.2.1 S1024x1024.size (by sl_kernel_rfl) y

/-- What case A leaves in scratch `arg10`: its pieces read back over junk. -/
def sout0_A_1 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S256x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .f32) (harg10 : arg10.IsWhole) (hc0 : cond0_0 i) (hc1 : ¬cond0_1 i)
    (x0 : Vec F S1024x1024 .f32) (x1 : Vec F S1x1024 .f32) (x2 : Vec F S1024x256 .bf16) (x3 : Vec F S1024x256 .bf16) (x4 : Vec F S256x1024 .bf16) : Vec F S1024x1024 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 x0 x1 x2 x3 x4).2.2.2.1)

/-- Case B stores nothing into output 5 (the window is idle at its points and not written back there):
    no pieces — a placeholder (junk read back) that nothing consults, since at these points the window is neither
    written back nor read at the next point (Lib/Pipeline.lean "Idle points"). -/
def out0_B_5 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S256x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .f32) (harg10 : arg10.IsWhole) (hc0 : ¬cond0_0 i) (hc1 : ¬cond0_1 i)
    (x0 : Vec F S1024x1024 .f32) (x1 : Vec F S1x1024 .f32) (x2 : Vec F S1024x256 .bf16) (x3 : Vec F S1024x256 .bf16) (x4 : Vec F S256x1024 .bf16) (xs0 : Vec F S1024x1024 .bf16) (xs1 : Vec F S1024x1024 .f32) : Vec F S1024x1024 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 hc0 hc1 x0 x1 x2 x3 x4 xs0 xs1).1)

/-- Case B stores nothing into scratch `arg9`: it holds what the point before left. -/
def sout0_B_0 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S256x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .f32) (harg10 : arg10.IsWhole) (hc0 : ¬cond0_0 i) (hc1 : ¬cond0_1 i)
    (x0 : Vec F S1024x1024 .f32) (x1 : Vec F S1x1024 .f32) (x2 : Vec F S1024x256 .bf16) (x3 : Vec F S1024x256 .bf16) (x4 : Vec F S256x1024 .bf16) (xs0 : Vec F S1024x1024 .bf16) (xs1 : Vec F S1024x1024 .f32) : Vec F S1024x1024 .bf16 := xs0

/-- Case B's pieces for scratch `arg10`, which the kernel carries between points, cover it: 1 piece of `S1024x1024` tiling it (Lib/Ring.lean `Piece.tiledL`). -/
theorem scover0_B_1 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S256x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .f32) (harg10 : arg10.IsWhole) (hc0 : ¬cond0_0 i) (hc1 : ¬cond0_1 i)
    (x0 : Vec F S1024x1024 .f32) (x1 : Vec F S1x1024 .f32) (x2 : Vec F S1024x256 .bf16) (x3 : Vec F S1024x256 .bf16) (x4 : Vec F S256x1024 .bf16) (xs0 : Vec F S1024x1024 .bf16) (xs1 : Vec F S1024x1024 .f32) (y : S1024x1024.Idx) :
    ∃ pc ∈ (kernelRun0_B c i arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 xs0 xs1).2.2.2.1 S1024x1024.size (by sl_kernel_rfl) y

/-- What case B leaves in scratch `arg10`: its pieces read back over junk. -/
def sout0_B_1 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S256x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .f32) (harg10 : arg10.IsWhole) (hc0 : ¬cond0_0 i) (hc1 : ¬cond0_1 i)
    (x0 : Vec F S1024x1024 .f32) (x1 : Vec F S1x1024 .f32) (x2 : Vec F S1024x256 .bf16) (x3 : Vec F S1024x256 .bf16) (x4 : Vec F S256x1024 .bf16) (xs0 : Vec F S1024x1024 .bf16) (xs1 : Vec F S1024x1024 .f32) : Vec F S1024x1024 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 hc0 hc1 x0 x1 x2 x3 x4 xs0 xs1).2.2.2.1)

/-- Case C's pieces for output 5 tile its block (1 store of `S1024x1024`, checked by the kernel's evaluation: Lib/Ring.lean `Piece.tiledL`, linear in the pieces, through a loop's `@[irreducible]` trip theorem too), so they cover it. -/
theorem cover0_C_5 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S256x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .f32) (harg10 : arg10.IsWhole) (hc0 : ¬cond0_0 i) (hc1 : cond0_1 i)
    (x0 : Vec F S1024x1024 .f32) (x1 : Vec F S1x1024 .f32) (x2 : Vec F S1024x256 .bf16) (x3 : Vec F S1024x256 .bf16) (x4 : Vec F S256x1024 .bf16) (xs0 : Vec F S1024x1024 .bf16) (xs1 : Vec F S1024x1024 .f32) (y : S1024x1024.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xs0 xs1).1 S1024x1024.size (by sl_kernel_rfl) y

/-- What case C leaves in output 5's staging buffer: its pieces read back over junk. -/
def out0_C_5 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S256x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .f32) (harg10 : arg10.IsWhole) (hc0 : ¬cond0_0 i) (hc1 : cond0_1 i)
    (x0 : Vec F S1024x1024 .f32) (x1 : Vec F S1x1024 .f32) (x2 : Vec F S1024x256 .bf16) (x3 : Vec F S1024x256 .bf16) (x4 : Vec F S256x1024 .bf16) (xs0 : Vec F S1024x1024 .bf16) (xs1 : Vec F S1024x1024 .f32) : Vec F S1024x1024 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 hc0 hc1 x0 x1 x2 x3 x4 xs0 xs1).1)

/-- Case C stores nothing into scratch `arg9`: it holds what the point before left. -/
def sout0_C_0 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S256x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .f32) (harg10 : arg10.IsWhole) (hc0 : ¬cond0_0 i) (hc1 : cond0_1 i)
    (x0 : Vec F S1024x1024 .f32) (x1 : Vec F S1x1024 .f32) (x2 : Vec F S1024x256 .bf16) (x3 : Vec F S1024x256 .bf16) (x4 : Vec F S256x1024 .bf16) (xs0 : Vec F S1024x1024 .bf16) (xs1 : Vec F S1024x1024 .f32) : Vec F S1024x1024 .bf16 := xs0

/-- Case C's pieces for scratch `arg10`, which the kernel carries between points, cover it: 1 piece of `S1024x1024` tiling it (Lib/Ring.lean `Piece.tiledL`). -/
theorem scover0_C_1 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S256x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .f32) (harg10 : arg10.IsWhole) (hc0 : ¬cond0_0 i) (hc1 : cond0_1 i)
    (x0 : Vec F S1024x1024 .f32) (x1 : Vec F S1x1024 .f32) (x2 : Vec F S1024x256 .bf16) (x3 : Vec F S1024x256 .bf16) (x4 : Vec F S256x1024 .bf16) (xs0 : Vec F S1024x1024 .bf16) (xs1 : Vec F S1024x1024 .f32) (y : S1024x1024.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xs0 xs1).2.2.2.1 S1024x1024.size (by sl_kernel_rfl) y

/-- What case C leaves in scratch `arg10`: its pieces read back over junk. -/
def sout0_C_1 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S256x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .f32) (harg10 : arg10.IsWhole) (hc0 : ¬cond0_0 i) (hc1 : cond0_1 i)
    (x0 : Vec F S1024x1024 .f32) (x1 : Vec F S1x1024 .f32) (x2 : Vec F S1024x256 .bf16) (x3 : Vec F S1024x256 .bf16) (x4 : Vec F S256x1024 .bf16) (xs0 : Vec F S1024x1024 .bf16) (xs1 : Vec F S1024x1024 .f32) : Vec F S1024x1024 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 hc0 hc1 x0 x1 x2 x3 x4 xs0 xs1).2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x1024 .f32 × Vec F S1024x1024 .bf16 × Vec F S1024x1024 .bf16 × Vec F S1024x1024 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 11 = 0 then
      if h1 : (n + 1) % 11 = 10 then
        False.elim (by have hN : n + 1 < 44 := lt_of_lt_of_eq hn (show cfg0.N = 44 from N_0); omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 11 = 10 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, (outsAt0 c n (Nat.lt_of_succ_lt hn)).2.1, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, (outsAt0 c n (Nat.lt_of_succ_lt hn)).2.1, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 11 = 0) (h1 : ¬t.val % 11 = 10) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 11 = 0) (h1 : ¬t.val % 11 = 10) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, (outsAt0 m c (t.val - 1) (Nat.lt_of_le_of_lt (Nat.sub_le _ _) t.isLt)).2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 11 = 0) (h1 : t.val % 11 = 10) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, (outsAt0 m c (t.val - 1) (Nat.lt_of_le_of_lt (Nat.sub_le _ _) t.isLt)).2.1, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- After the first block of columns the buffer of the normalised rows holds what that block's point stored. -/
theorem before0_6 (c : Dev nD) : ∀ (n : ℕ) (hn : n < cfg0.N) (d), ¬n % 11 = 0 →
    (dats m 0 c).before 6 ⟨n, hn⟩ d = (outsAt0 m c (n - 1) (Nat.lt_of_le_of_lt (Nat.sub_le _ _) hn)).2.1 := by
  intro n
  induction n with
  | zero => intro hn d h; exact absurd (Nat.zero_mod _) h
  | succ n ih =>
    intro hn d h
    have hn' : n < cfg0.N := Nat.lt_of_succ_lt hn
    have h10 : ¬n % 11 = 10 := by omega
    rw [(dats m 0 c).before_of_pos 6 ⟨n + 1, hn⟩ (Nat.succ_ne_zero n) (noFetch0_6 _) d]
    show (if (cfg0.win 6).flush ⟨n, hn'⟩ then d else (dats m 0 c).left 6 ⟨n, hn'⟩ d) = (outsAt0 m c n hn').2.1
    rw [noFlush0_6 ⟨n, hn'⟩ h10, if_neg Bool.false_ne_true]
    unfold Dat.left
    by_cases h0 : n % 11 = 0
    · rw [live0_6 ⟨n, hn'⟩ h0]
      exact after0_6 m c ⟨n, hn'⟩
    · rw [idle0_6 ⟨n, hn'⟩ h0]
      refine (ih hn' d h0).trans ?_
      rw [outsAt0_B m c ⟨n, hn'⟩ h0 h10]

theorem before0_6_at (c : Dev nD) (t : Fin cfg0.N) (d) (h : ¬t.val % 11 = 0) :
    (dats m 0 c).before 6 t d = (outsAt0 m c (t.val - 1) (Nat.lt_of_le_of_lt (Nat.sub_le _ _) t.isLt)).2.1 :=
  before0_6 m c t.val t.isLt d h

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 44 := lt_of_lt_of_eq t.isLt (show cfg0.N = 44 from N_0)
  by_cases h0 : t.val % 11 = 0
  · by_cases h1 : t.val % 11 = 10
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      rw [show (dats m 0 c).leavesExact 6 t = owns (c : Thread nD τ) (ms0_6 t) fullShare ((dats m 0 c).after 6 t) from by
      unfold Dat.leavesExact; rw [liveAt0_6_A t ((hcond0_0 t).mpr h0) (fun h => h1 ((hcond0_1 t).mp h))], after0_6]
      by_cases hz : t.val = 0
      · rw [PhiS_castSucc m c t, PhiS_zero m c _ _ hz, PhiA0_eq]
        rw [outsAt0_A m c t h0 h1]
        unfold out0_A_6 sout0_A_0 sout0_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        iintro ⟨H0, H1, H2, H3, H4, H5, ⟨%e6, H6⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        unfold owns; iexists _; isplitr
        swap; · iexact H6
        ipureintro; exact View.read_writes_of_cover _ _ _ _ _ (cover0_A_6 c _ _ _ _ _ _ _ _ _ _ _ _ _ _ _ _ _ _ _ _ _ _ _ _ _ _)
      · rw [PhiS_castSucc m c t, PhiS_pos m c _ _ hz]
        rw [outsAt0_A m c t h0 h1]
        unfold out0_A_6 sout0_A_0 sout0_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexists _; iexact HS0
        isplitl [HS1]; · iexists _; iexact HS1
        iintro ⟨H0, H1, H2, H3, H4, H5, ⟨%e6, H6⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        unfold owns; iexists _; isplitr
        swap; · iexact H6
        ipureintro; exact View.read_writes_of_cover _ _ _ _ _ (cover0_A_6 c _ _ _ _ _ _ _ _ _ _ _ _ _ _ _ _ _ _ _ _ _ _ _ _ _ _)
  · by_cases h1 : t.val % 11 = 10
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5_C t (fun h => h0 ((hcond0_0 t).mp h)) ((hcond0_1 t).mpr h1)], after0_5]
      rw [show (dats m 0 c).leavesExact 6 t = owns (c : Thread nD τ) (ms0_6 t) fullShare ((dats m 0 c).after 6 t) from by
      unfold Dat.leavesExact; rw [idleAt0_6_C t (fun h => h0 ((hcond0_0 t).mp h)) ((hcond0_1 t).mpr h1), flush0_6_C t (fun h => h0 ((hcond0_0 t).mp h)) ((hcond0_1 t).mpr h1)], after0_6]
      by_cases hz : t.val = 0
      · exfalso; have hN : t.val < 44 := lt_of_lt_of_eq t.isLt (show cfg0.N = 44 from N_0); omega
      · rw [PhiS_castSucc m c t, PhiS_pos m c _ _ hz]
        rw [outsAt0_C m c t h0 h1]
        simp only [fun d => before0_6_at m c t d h0]
        unfold out0_C_5 sout0_C_0 sout0_C_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _).2.2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [HS0]; · iexact HS0
        isplitl [HS1]; · iexact HS1
        iintro ⟨H0, H1, H2, H3, H4, ⟨%e5, H5⟩, H6, HS0, ⟨%es1, HS1⟩⟩
        isplitl [HS0 HS1 Hg]
        · isplitl [HS0 HS1]
          · isplitl [HS0]
            · iexact HS0
            unfold owns; iexists _; isplitr
            swap; · iexact HS1
            ipureintro; exact View.read_writes_of_cover _ _ _ _ _ (scover0_C_1 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_C_5 c _ _ _ _ _ _ _ _ _ _ _ _ _ _ _ _ _ _ _ _ _ _ _ _ _ _ _ _)
        iexact H6
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      by_cases hz : t.val = 0
      · exfalso; have hN : t.val < 44 := lt_of_lt_of_eq t.isLt (show cfg0.N = 44 from N_0); omega
      · rw [PhiS_castSucc m c t, PhiS_pos m c _ _ hz]
        rw [outsAt0_B m c t h0 h1]
        unfold sout0_B_0 sout0_B_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, HS0, ⟨%es1, HS1⟩⟩
        isplitl [HS0 HS1 Hg]
        · isplitl [HS0 HS1]
          · isplitl [HS0]
            · iexact HS0
            unfold owns; iexists _; isplitr
            swap; · iexact HS1
            ipureintro; exact View.read_writes_of_cover _ _ _ _ _ (scover0_B_1 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 44 := N_0; omega)

/-! ## The run and the frame -/

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The call ends, with its arguments unchanged and every counter at zero, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.FfnFwd

end
-- ==== Proof.Fwd.Same.lean ====
/- The forward call's frame over machine floats: the two programs are one text, so the run of `Frame`, which holds over
   any float values, is the kernel's too. -/
module

public import proofs.«01_k».proof.Defs
public import proofs.«01_k».proof.Proof.Fwd.Frame
public import proofs.«01_k».proof.Proof.Gen.Kernel5.Frame

@[expose] public section

noncomputable section

namespace Cert.FfnFwd

open Idealize.ShloMosaic Idealize.SL.Sem

attribute [local instance] Cert.Kernel5.Gen.facts Cert.Kernel5Ideal.Gen.facts

/-- The two programs call one body. -/
theorem defs₀_same : Cert.Kernel5.defs₀ (F := Bits) = Cert.Kernel5Ideal.defs₀ (F := Bits) := by
  unfold Cert.Kernel5.defs₀ Cert.Kernel5Ideal.defs₀
  refine congrArg Defs.onTc ?_
  funext l a
  match l with
  | ⟨0, _⟩ => rfl
  | ⟨n + 1, h⟩ => exact absurd h (by omega)

theorem defs_same : Cert.Kernel5.defs (F := Bits) = Cert.Kernel5Ideal.defs (F := Bits) := by
  unfold Cert.Kernel5.defs Cert.Kernel5Ideal.defs
  exact congrArg (Pipeline.defs (Cert.Kernel5Ideal.pcfgs (F := Bits))) defs₀_same

/-- The kernel ends, with its arguments unchanged. -/
theorem frame_kernel : @Cert.quiescent_Kernel5 Cert.Kernel5.Gen.facts := fun m ρ _ => by
  have h := Cert.FfnFwd.frame (F := Bits) m ρ
  rw [← defs_same] at h
  exact h

end Cert.FfnFwd

end
-- ==== Proof.Fwd.Block.lean ====
/- The forward call's payloads read at an index, by the formulas of the rows. -/
module

public import proofs.«01_k».proof.Proof.Fwd.Skel
public import proofs.«01_k».proof.Proof.Ffn.Spec
public import proofs.«01_k».proof.Proof.Ffn.Real

@[expose] public section

set_option maxRecDepth 16384

noncomputable section

namespace Cert.FfnFwd

open Idealize.ShloMosaic Cert.Kernel5Ideal Cert.Kernel5Ideal.Gen
open Cert.Ffn (hn rs var cHalf cLen cEps actT sgT sgE)

/-- The normalized rows. -/
theorem pay1_at (x : Vec Ideal S1024x1024 .f32) (g : Vec Ideal S1x1024 .f32) (r d : Fin 1024) :
    k0_pay1 x g (ix2 r d) = hn (fun e => x (ix2 r e)) (fun e => g (ix2 0 e)) d := by
  unfold hn rs var
  pointwise [k0_pay1]
  rfl

theorem pay2_at (r d : Fin 1024) : k0_pay2 (F := Ideal) (ix2 r d) = 0 := by
  pointwise [k0_pay2]

/-- The accumulator after one more block of columns. -/
theorem pay3_at (h : Vec Ideal S1024x1024 .bf16) (wg wu : Vec Ideal S1024x256 .bf16) (acc : Vec Ideal S1024x1024 .f32)
    (wd : Vec Ideal S256x1024 .bf16) (r a : Fin 1024) : k0_pay3 h wg h wu acc wd (ix2 r a) = acc (ix2 r a)
    + ∑ q : Fin 256, actT (∑ d : Fin 1024, h (ix2 r d) * wg (ix2 d q)) (∑ d : Fin 1024, h (ix2 r d) * wu (ix2 d q))
        * wd (ix2 q a) := by
  unfold actT sgT
  pointwise [k0_pay3]
  rfl

theorem pay4_at (x acc : Vec Ideal S1024x1024 .f32) (r a : Fin 1024) :
    k0_pay4 x acc (ix2 r a) = x (ix2 r a) + cHalf * acc (ix2 r a) := by
  pointwise [k0_pay4]
  rfl

/-- The two forms of the logistic function agree at the infinities too. -/
theorem sg_top : sgT ⊤ = 1 ∧ sgE ⊤ = 1 := by
  constructor
  · unfold sgT
    rw [Cert.Ffn.half_val, EReal.coe_mul_top_of_pos (by norm_num), Ideal.tanh_top, mul_one, ← EReal.coe_add,
      show ((1 : ℝ) / 2 + 1 / 2) = 1 by norm_num]
    rfl
  · unfold sgE
    rw [EReal.neg_top, Ideal.exp_bot, add_zero, show (1 : EReal) = ((1 : ℝ) : EReal) from rfl, Ideal.div_coe (by norm_num)]
    rw [← EReal.coe_mul]; norm_num

theorem sg_bot : sgT ⊥ = 0 ∧ sgE ⊥ = 0 := by
  constructor
  · unfold sgT
    rw [Cert.Ffn.half_val, EReal.coe_mul_bot_of_pos (by norm_num), Ideal.tanh_bot, mul_neg, mul_one, ← EReal.coe_neg,
      ← EReal.coe_add, show (-((1 : ℝ) / 2) + 1 / 2) = 0 by norm_num]
    rfl
  · unfold sgE
    rw [EReal.neg_bot, Ideal.exp_top, EReal.add_top_of_ne_bot (by exact EReal.coe_ne_bot 1), Ideal.div,
      if_neg EReal.top_ne_zero, EReal.inv_top, mul_zero]

theorem sg_all (g : EReal) : sgT g = sgE g := by
  induction g with
  | bot => rw [sg_bot.1, sg_bot.2]
  | top => rw [sg_top.1, sg_top.2]
  | coe r => obtain ⟨s, h, h'⟩ := Cert.Ffn.sg_eq ⟨r, rfl⟩; rw [h, h']

end Cert.FfnFwd

end
-- ==== Proof.Fwd.Kern.lean ====
/- What the forward call's body leaves in each output and scratch block at a grid point. -/
module

public import proofs.«01_k».proof.Proof.Fwd.Frame
public import Idealize.ShloMosaic.Lib.Pipeline.ValueKit
public import Idealize.ShloMosaic.Lib.Pipeline.ReadBack

@[expose] public section

set_option maxRecDepth 16384

noncomputable section

namespace Cert.FfnFwd

open Idealize.ShloMosaic Idealize.ShloMosaic.TcCoe Idealize.SL.Sem
open Idealize.ShloMosaic.Pipeline (Dat)
open Cert.Kernel5Ideal Cert.Kernel5Ideal.Gen

variable (m : (ℓ : Loc nD τ sig) → Buf (Elt Ideal) ℓ) (c : Dev nD) (t : Fin cfg0.N)

/-- What the point before left. -/
abbrev prev := outsAt0 m c (t.val - 1) (Nat.lt_of_le_of_lt (Nat.sub_le _ _) t.isLt)

/-- A tile's normalized rows, and the accumulator after the point, of the rows and of what it was before. -/
abbrev bH : FVec Ideal S1024x1024 .bf16 := k0_pay1 (iblk m c 0 t) (iblk m c 1 t)
abbrev bAcc (h : Vec Ideal S1024x1024 .bf16) (s : Vec Ideal S1024x1024 .f32) : FVec Ideal S1024x1024 .f32 :=
  k0_pay3 h (iblk m c 2 t) h (iblk m c 3 t) s (iblk m c 4 t)

/-- The first point of a tile of rows. -/
theorem outs_A (h0 : t.val % 11 = 0) (h1 : ¬t.val % 11 = 10) : (outsAt0 m c t.val t.isLt).2
    = (bH m c t, bH m c t, bAcc m c t (bH m c t) (k0_pay2 (F := Ideal))) := by
  rw [outsAt0_A m c t h0 h1]
  frame_out
  try simp only [read_unread_whole]
  try rfl

/-- A later point that is not the tile's last. -/
theorem outs_B (h0 : ¬t.val % 11 = 0) (h1 : ¬t.val % 11 = 10) : (outsAt0 m c t.val t.isLt).2
    = ((prev m c t).2.1, (prev m c t).2.2.1, bAcc m c t (prev m c t).2.2.1 (prev m c t).2.2.2) := by
  rw [outsAt0_B m c t h0 h1]
  frame_out
  try simp only [read_unread_whole]
  try rfl

/-- The last point of a tile: the rows' result. -/
theorem outs_C (h0 : ¬t.val % 11 = 0) (h1 : t.val % 11 = 10) : outsAt0 m c t.val t.isLt
    = (k0_pay4 (iblk m c 0 t) (bAcc m c t (prev m c t).2.2.1 (prev m c t).2.2.2),
        (prev m c t).2.1, (prev m c t).2.2.1, bAcc m c t (prev m c t).2.2.1 (prev m c t).2.2.2) := by
  rw [outsAt0_C m c t h0 h1]
  frame_out
  try simp only [read_unread_whole]
  try rfl

end Cert.FfnFwd

end
-- ==== Proof.Fwd.Arrays.lean ====
/- The forward call's blocks by the whole arrays, and what the call leaves in its two result arrays: point `t` works on
   the rows of tile `t / 11` and the columns of block `t % 11`. -/
module

public import proofs.«01_k».proof.Proof.Fwd.Block
public import proofs.«01_k».proof.Proof.Fwd.Kern
public import proofs.«01_k».proof.Proof.Ffn.Arrays

@[expose] public section

set_option maxRecDepth 16384

noncomputable section

namespace Cert.FfnFwd

open Idealize.ShloMosaic Idealize.ShloMosaic.TcCoe Idealize.SL.Sem
open Idealize.ShloMosaic.Pipeline (Dat)
open Cert.Kernel5Ideal Cert.Kernel5Ideal.Gen
open Cert.Ffn (hn cHalf actS actT pre lo hi row col sum_blocks arr arr_at)

variable (m : (ℓ : Loc nD τ sig) → Buf (Elt Ideal) ℓ) (c : Dev nD)

/-- The arguments on core `c`. -/
abbrev aX (r : Fin 4096) (d : Fin 1024) : EReal := (m ((c : Thread nD τ).loc main_arg0) : FVec Ideal S4096x1024 .f32) (ix2 r d)
abbrev aG (d : Fin 1024) : EReal := (m ((c : Thread nD τ).loc main_arg1) : FVec Ideal S1x1024 .f32) (ix2 0 d)
abbrev aW (d : Fin 1024) (k : Fin 5632) : EReal := (m ((c : Thread nD τ).loc main_arg2) : FVec Ideal S1024x5632 .bf16) (ix2 d k)
abbrev aD (k : Fin 2816) (d : Fin 1024) : EReal := (m ((c : Thread nD τ).loc main_arg3) : FVec Ideal S2816x1024 .bf16) (ix2 k d)

theorem idx0 : ∀ t : Fin cfg0.N, (t : ℕ) < 44 ∧ win0_0.index t = ![t.val / 11, 0] ∧ win0_1.index t = ![0, 0]
    ∧ win0_2.index t = ![0, t.val % 11] ∧ win0_3.index t = ![0, 11 + t.val % 11] ∧ win0_4.index t = ![t.val % 11, 0]
    ∧ win0_5.index t = ![t.val / 11, 0] ∧ win0_6.index t = ![t.val / 11, 0] := by decide +kernel

/-- A point's tile of rows and block of columns. -/
def ti (t : Fin cfg0.N) : Fin 4 := ⟨t.val / 11, by have := (idx0 t).1; omega⟩
def tj (t : Fin cfg0.N) : Fin 11 := ⟨t.val % 11, by omega⟩

section Reads
variable (t : Fin cfg0.N)

theorem blk_x (r d : Fin 1024) : iblk m c 0 t (ix2 r d) = aX m c (row (ti t) r) d := by
  refine Eq.trans ?_ (show V m c main_arg0 (ix2 (row (ti t) r) d) = _ from rfl)
  obtain ⟨_, e, _⟩ := idx0 t
  blk_ext [iblk, V, e] <;> simp [ti, row]

theorem blk_g (d : Fin 1024) : iblk m c 1 t (ix2 0 d) = aG m c d := by
  refine Eq.trans ?_ (show V m c main_arg1 (ix2 0 d) = _ from rfl)
  obtain ⟨_, _, e, _⟩ := idx0 t
  blk_ext [iblk, V, e] <;> simp

theorem blk_wg (d : Fin 1024) (q : Fin 256) : iblk m c 2 t (ix2 d q) = aW m c d (lo (col (tj t) q)) := by
  refine Eq.trans ?_ (show V m c main_arg2 (ix2 d (lo (col (tj t) q))) = _ from rfl)
  obtain ⟨_, _, _, e, _⟩ := idx0 t
  blk_ext [iblk, V, e] <;> simp [tj, lo, col]

theorem blk_wu (d : Fin 1024) (q : Fin 256) : iblk m c 3 t (ix2 d q) = aW m c d (hi (col (tj t) q)) := by
  refine Eq.trans ?_ (show V m c main_arg2 (ix2 d (hi (col (tj t) q))) = _ from rfl)
  obtain ⟨_, _, _, _, e, _⟩ := idx0 t
  blk_ext [iblk, V, e] <;> simp [tj, hi, col] <;> omega

theorem blk_wd (q : Fin 256) (d : Fin 1024) : iblk m c 4 t (ix2 q d) = aD m c (col (tj t) q) d := by
  refine Eq.trans ?_ (show V m c main_arg3 (ix2 (col (tj t) q) d) = _ from rfl)
  obtain ⟨_, _, _, _, _, e, _⟩ := idx0 t
  blk_ext [iblk, V, e] <;> simp [tj, col]

theorem bH_at (r d : Fin 1024) : bH m c t (ix2 r d) = hn (aX m c (row (ti t) r)) (aG m c) d := by
  unfold bH
  rw [pay1_at]
  simp only [blk_x, blk_g]
end Reads

/-- A point's share of the down projection. -/
def part (i : Fin 4) (j : Fin 11) (r a : Fin 1024) : EReal :=
  ∑ q : Fin 256, actS (aX m c) (aG m c) (aW m c) (row i r) (col j q) * aD m c (col j q) a

theorem acc_at (t : Fin cfg0.N) (h : Vec Ideal S1024x1024 .bf16)
    (hh : ∀ r d, h (ix2 r d) = hn (aX m c (row (ti t) r)) (aG m c) d)
    (s : Vec Ideal S1024x1024 .f32) (r a : Fin 1024) : bAcc m c t h s (ix2 r a) = s (ix2 r a) + part m c (ti t) (tj t) r a := by
  unfold bAcc
  rw [pay3_at]
  simp only [hh, blk_wg, blk_wu, blk_wd]
  rfl

/-- The stored rows, the rows in scratch and the accumulator that a point leaves. -/
abbrev oh (n : ℕ) (h : n < cfg0.N) := (outsAt0 m c n h).2.1
abbrev sh (n : ℕ) (h : n < cfg0.N) := (outsAt0 m c n h).2.2.1
abbrev sa (n : ℕ) (h : n < cfg0.N) := (outsAt0 m c n h).2.2.2

theorem rows_zero (t : Fin cfg0.N) (h0 : t.val % 11 = 0) :
    oh m c t.val t.isLt = bH m c t ∧ sh m c t.val t.isLt = bH m c t := by
  unfold oh sh
  rw [outs_A m c t h0 (by omega)]
  exact ⟨rfl, rfl⟩

theorem rows_succ (t : Fin cfg0.N) (h0 : ¬t.val % 11 = 0) :
    oh m c t.val t.isLt = (prev m c t).2.1 ∧ sh m c t.val t.isLt = (prev m c t).2.2.1 := by
  unfold oh sh
  by_cases h1 : t.val % 11 = 10
  · rw [outs_C m c t h0 h1]; exact ⟨rfl, rfl⟩
  · rw [outs_B m c t h0 h1]; exact ⟨rfl, rfl⟩

/-- Both hold the tile's normalized rows after every point. -/
theorem rows_at (n : ℕ) (h : n < cfg0.N) (r d : Fin 1024) :
    oh m c n h (ix2 r d) = hn (aX m c (row (ti ⟨n, h⟩) r)) (aG m c) d
    ∧ sh m c n h (ix2 r d) = hn (aX m c (row (ti ⟨n, h⟩) r)) (aG m c) d := by
  induction n with
  | zero =>
    rw [(rows_zero m c ⟨0, h⟩ rfl).1, (rows_zero m c ⟨0, h⟩ rfl).2]
    exact ⟨bH_at m c _ r d, bH_at m c _ r d⟩
  | succ n ih =>
    by_cases h0 : (n + 1) % 11 = 0
    · rw [(rows_zero m c ⟨n + 1, h⟩ h0).1, (rows_zero m c ⟨n + 1, h⟩ h0).2]
      exact ⟨bH_at m c _ r d, bH_at m c _ r d⟩
    · rw [(rows_succ m c ⟨n + 1, h⟩ h0).1, (rows_succ m c ⟨n + 1, h⟩ h0).2]
      have e : ti ⟨n + 1, h⟩ = ti ⟨n, by omega⟩ := by
        ext; simp only [ti]; omega
      rw [e]
      exact ih (by omega)

theorem sa_zero_at (t : Fin cfg0.N) (h0 : t.val % 11 = 0) (r a : Fin 1024) :
    sa m c t.val t.isLt (ix2 r a) = 0 + part m c (ti t) (tj t) r a := by
  unfold sa
  rw [outs_A m c t h0 (by omega)]
  refine (acc_at m c t _ (bH_at m c t) _ r a).trans ?_
  rw [pay2_at]

theorem sa_succ_at (t : Fin cfg0.N) (h0 : ¬t.val % 11 = 0) (r a : Fin 1024) :
    sa m c t.val t.isLt (ix2 r a) = (prev m c t).2.2.2 (ix2 r a) + part m c (ti t) (tj t) r a := by
  have hh : ∀ r d, (prev m c t).2.2.1 (ix2 r d) = hn (aX m c (row (ti t) r)) (aG m c) d := fun r d => by
    rw [← (rows_succ m c t h0).2]
    exact (rows_at m c t.val t.isLt r d).2
  unfold sa
  by_cases h1 : t.val % 11 = 10
  · rw [outs_C m c t h0 h1]
    exact acc_at m c t _ hh _ r a
  · rw [outs_B m c t h0 h1]
    exact acc_at m c t _ hh _ r a

/-- The accumulator at an index, closed for what follows. -/
@[irreducible] def saAt (r a : Fin 1024) (n : ℕ) (h : n < cfg0.N) : EReal := sa m c n h (ix2 r a)

theorem saAt_eq (r a : Fin 1024) (n : ℕ) (h : n < cfg0.N) : saAt m c r a n h = sa m c n h (ix2 r a) := by
  unfold saAt; rfl

theorem saAt_zero (r a : Fin 1024) (t : Fin cfg0.N) (h0 : t.val % 11 = 0) :
    saAt m c r a t.val t.isLt = 0 + part m c (ti t) (tj t) r a := by
  rw [saAt_eq, sa_zero_at m c t h0]

theorem saAt_succ (r a : Fin 1024) (t : Fin cfg0.N) (h0 : ¬t.val % 11 = 0) : saAt m c r a t.val t.isLt
    = saAt m c r a (t.val - 1) (Nat.lt_of_le_of_lt (Nat.sub_le _ _) t.isLt) + part m c (ti t) (tj t) r a := by
  rw [saAt_eq, saAt_eq, sa_succ_at m c t h0]

/-- The row's down projection. -/
def downS (r : Fin 4096) (a : Fin 1024) : EReal := ∑ k, actS (aX m c) (aG m c) (aW m c) r k * aD m c k a

theorem sum_part (i : Fin 4) (r a : Fin 1024) : ∑ j : Fin 11, part m c i j r a = downS m c (row i r) a := by
  unfold part downS
  exact sum_blocks 11 256 2816 rfl (fun k => actS (aX m c) (aG m c) (aW m c) (row i r) k * aD m c k a) (fun i j => by omega)

/-- After a tile's last point the accumulator holds the down projection. -/
theorem sa_at (t : Fin cfg0.N) (ht : t.val % 11 = 10) (r a : Fin 1024) : sa m c t.val t.isLt (ix2 r a)
    = downS m c (row (ti t) r) a := by
  have acc := Pipeline.eq_sum_fin_of_reset_step_of_flush (saAt m c r a) 11 0 (fun t => part m c (ti t) (tj t) r a)
    (saAt_zero m c r a) (saAt_succ m c r a) t ht
  rw [saAt_eq] at acc
  rw [acc, zero_add, ← sum_part m c (ti t) r a]
  refine Finset.sum_congr rfl fun s _ => ?_
  have hs := s.isLt
  congr 1 <;> (ext; simp only [ti, tj]; omega)

/-- The two results of the arguments on core `c`. -/
def kOut (r : Fin 4096) (a : Fin 1024) : EReal := aX m c r a + cHalf * downS m c r a
def kHn (r : Fin 4096) (d : Fin 1024) : EReal := hn (aX m c r) (aG m c) d

theorem out_at (t : Fin cfg0.N) (h1 : t.val % 11 = 10) (r a : Fin 1024) : (outsAt0 m c t.val t.isLt).1 (ix2 r a)
    = kOut m c (row (ti t) r) a := by
  have e : (outsAt0 m c t.val t.isLt).1 = k0_pay4 (iblk m c 0 t) (sa m c t.val t.isLt) := by
    unfold sa
    rw [outs_C m c t (by omega) h1]
  rw [e, pay4_at, sa_at m c t h1, blk_x]
  rfl

theorem arr_out : (dats m 0 c).arrAt 5 cfg0.N = arr (kOut m c) := by
  refine (dats m 0 c).arrAt_eq_of_covers 5 _ (by decide +kernel) fun t hf y => ?_
  have hr := (flush0_5 t).mp hf
  blk_simp
  rw [after0_5]
  obtain ⟨_, _, _, _, _, _, e, _⟩ := idx0 t
  have key := out_at m c t hr (y 0) (y 1)
  rw [← eq_ix2 (n0 := 1024) (n1 := 1024) y] at key
  refine key.trans ((arr_at (kOut m c) (row (ti t) (y 0)) (y 1)).symm.trans (congrArg (arr (kOut m c)) ?_))
  blk_ext [e] <;> simp [ti, row]

theorem arr_hn : (dats m 0 c).arrAt 6 cfg0.N = arr (kHn m c) := by
  refine (dats m 0 c).arrAt_eq_of_covers 6 _ (by decide +kernel) fun t hf y => ?_
  blk_simp
  rw [after0_6]
  obtain ⟨_, _, _, _, _, _, _, e⟩ := idx0 t
  have key := (rows_at m c t.val t.isLt (y 0) (y 1)).1
  rw [← eq_ix2 (n0 := 1024) (n1 := 1024) y] at key
  refine key.trans ((arr_at (kHn m c) (row (ti t) (y 0)) (y 1)).symm.trans (congrArg (arr (kHn m c)) ?_))
  blk_ext [e] <;> simp [ti, row]

end Cert.FfnFwd

end
-- ==== Proof.Fwd.Ref.lean ====
/- The forward reference's stages read at an index, as the functions of the rows, the logistic function by the
   exponential. -/
module

public import proofs.«01_k».proof.Proof.Gen.Reference5Ideal.Run
public import proofs.«01_k».proof.Proof.Gen.Reference5Ideal.Read
public import proofs.«01_k».proof.Proof.Ffn.Ref
public import proofs.«01_k».proof.Proof.Fwd.Block

@[expose] public section

set_option maxRecDepth 16384

noncomputable section

namespace Cert.FfnFwd.Ref

open Idealize.ShloMosaic Idealize.ShloMosaic.TcCoe Idealize.SL.Sem
open Cert.Reference5Ideal Cert.Reference5Ideal.Read
open Cert.Ffn (hn rs var cHalf cLen cEps actT sgT sgE pre lo hi actS)
open Cert.Ffn.Ref (mulC addC divC expC rsqrtC negC)

variable (x0 : FVec Ideal S4096x1024 .f32) (x1 : FVec Ideal S1x1024 .f32) (x2 : FVec Ideal S1024x5632 .bf16)
  (x3 : FVec Ideal S2816x1024 .bf16)

/-- The arguments by row and column. -/
abbrev fX (r : Fin 4096) (d : Fin 1024) : EReal := x0 (ix2 r d)
abbrev fG (d : Fin 1024) : EReal := x1 (ix2 0 d)
abbrev fW (d : Fin 1024) (k : Fin 5632) : EReal := x2 (ix2 d k)
abbrev fD (k : Fin 2816) (d : Fin 1024) : EReal := x3 (ix2 k d)

theorem var_at (r : Fin 4096) (z : Fin 1) : val_main_v6 (F := Ideal) x0 (ix2 r z) = var (fX x0 r) := by
  pointwise [val_main_v6, val_main_v5, val_main_v4, val_main_v3, val_main_v2, val_main_v1, val_main_v0, val_main_cst,
    val_main_cst_0, val_main_cst_1]
  rfl

theorem rs_at (r : Fin 4096) (z : Fin 1) : val_main_v7 (F := Ideal) x0 (ix2 r z) = rs (fX x0 r) := by
  rw [val_main_v7_apply]
  exact rsqrtC (var_at x0 r z)

theorem rsb_at (r : Fin 4096) (d : Fin 1024) : val_main_v8 (F := Ideal) x0 (ix2 r d) = rs (fX x0 r) := by
  rw [val_main_v8_apply, show idx_main_v8 (ix2 r d) = ix2 r 0 from by funext b; match b with | ⟨0, _⟩ => rfl | ⟨1, _⟩ => rfl]
  exact rs_at x0 r 0

theorem gb_at (r : Fin 4096) (d : Fin 1024) : val_main_v10 (F := Ideal) x1 (ix2 r d) = fG x1 d := by
  rw [val_main_v10_apply, show idx_main_v10 (ix2 r d) = ix2 0 d from by funext b; match b with | ⟨0, _⟩ => rfl | ⟨1, _⟩ => rfl]

theorem hn_at (r : Fin 4096) (d : Fin 1024) : val_main_v11 (F := Ideal) x0 x1 (ix2 r d) = hn (fX x0 r) (fG x1) d := by
  rw [val_main_v11_apply, val_main_v9_apply]
  exact mulC (mulC rfl (rsb_at x0 r d)) (gb_at x1 r d)

theorem hnc_at (r : Fin 4096) (d : Fin 1024) : val_main_v23 (F := Ideal) x0 x1 (ix2 r d) = hn (fX x0 r) (fG x1) d := by
  rw [val_main_v23_apply]
  exact hn_at x0 x1 r d

attribute [local irreducible] hn rs var sgE sgT pre

theorem pre_at (r : Fin 4096) (k : Fin 5632) : val_main_v13 (F := Ideal) x0 x1 x2 (ix2 r k) = pre (fX x0) (fG x1) (fW x2) r k := by
  rw [val_main_v13_apply]
  unfold pre
  refine Finset.sum_congr rfl fun d _ => congrArg₂ (· * ·) ?_ ?_
  · rw [show lidx_main_v13 (ix2 r k) d = ix2 r d from by funext b; match b with | ⟨0, _⟩ => rfl | ⟨1, _⟩ => rfl]
    exact hn_at x0 x1 r d
  · rw [show ridx_main_v13 (ix2 r k) d = ix2 d k from by funext b; match b with | ⟨0, _⟩ => rfl | ⟨1, _⟩ => rfl]
    rfl

theorem gt_at (r : Fin 4096) (k : Fin 2816) : val_main_v14 (F := Ideal) x0 x1 x2 (ix2 r k) = pre (fX x0) (fG x1) (fW x2) r (lo k) := by
  rw [val_main_v14_apply, show idx_main_v14 (ix2 r k) = ix2 r (lo k) from by funext b; match b with | ⟨0, _⟩ => rfl | ⟨1, _⟩ => rfl]
  exact pre_at x0 x1 x2 r (lo k)

theorem up_at (r : Fin 4096) (k : Fin 2816) : val_main_v15 (F := Ideal) x0 x1 x2 (ix2 r k) = pre (fX x0) (fG x1) (fW x2) r (hi k) := by
  rw [val_main_v15_apply, show idx_main_v15 (ix2 r k) = ix2 r (hi k) from by funext b; match b with | ⟨0, _⟩ => rfl | ⟨1, _⟩ => rfl]
  exact pre_at x0 x1 x2 r (hi k)

theorem one_at (r : Fin 4096) (k : Fin 2816) : val_main_call0_v2 (F := Ideal) (ix2 r k) = 1 := by
  pointwise [val_main_call0_v2, val_main_call0_cst]
theorem one_at' (r : Fin 4096) (k : Fin 2816) : val_main_call0_v4 (F := Ideal) (ix2 r k) = 1 := by
  pointwise [val_main_call0_v4, val_main_call0_cst_0]

theorem sg_at (r : Fin 4096) (k : Fin 2816) : val_main_call0_v5 (F := Ideal) x0 x1 x2 (ix2 r k)
    = sgE (pre (fX x0) (fG x1) (fW x2) r (lo k)) := by
  rw [val_main_call0_v5_apply, val_main_call0_v3_apply, val_main_call0_v1_apply, val_main_call0_v0_apply]
  unfold sgE
  exact divC (one_at' r k) (addC (one_at r k) (expC (negC (gt_at x0 x1 x2 r k))))

/-- The activation, the logistic function by the exponential, is the kernel's. -/
theorem act_at (r : Fin 4096) (k : Fin 2816) : val_main_v17 (F := Ideal) x0 x1 x2 (ix2 r k)
    = actS (fX x0) (fG x1) (fW x2) r k := by
  rw [val_main_v17_apply, val_main_v16_apply]
  refine (mulC (mulC (gt_at x0 x1 x2 r k) (sg_at x0 x1 x2 r k)) (up_at x0 x1 x2 r k)).trans ?_
  rw [← sg_all]
  rfl

theorem down_at (r : Fin 4096) (a : Fin 1024) : val_main_v19 (F := Ideal) x0 x1 x2 x3 (ix2 r a)
    = ∑ k : Fin 2816, actS (fX x0) (fG x1) (fW x2) r k * fD x3 k a := by
  rw [val_main_v19_apply]
  refine Finset.sum_congr rfl fun k _ => congrArg₂ (· * ·) ?_ ?_
  · rw [show lidx_main_v19 (ix2 r a) k = ix2 r k from by funext b; match b with | ⟨0, _⟩ => rfl | ⟨1, _⟩ => rfl]
    exact act_at x0 x1 x2 r k
  · rw [show ridx_main_v19 (ix2 r a) k = ix2 k a from by funext b; match b with | ⟨0, _⟩ => rfl | ⟨1, _⟩ => rfl]
    rfl

theorem half_at (r : Fin 4096) (a : Fin 1024) : val_main_v20 (F := Ideal) (ix2 r a) = cHalf := by
  pointwise [val_main_v20, val_main_cst_2]
  rfl

theorem out_at (r : Fin 4096) (a : Fin 1024) : val_main_v22 (F := Ideal) x0 x1 x2 x3 (ix2 r a)
    = fX x0 r a + cHalf * ∑ k : Fin 2816, actS (fX x0) (fG x1) (fW x2) r k * fD x3 k a := by
  rw [val_main_v22_apply, val_main_v21_apply]
  exact addC rfl (mulC (half_at r a) (down_at x0 x1 x2 x3 r a))

end Cert.FfnFwd.Ref

end
-- ==== Proof.Fwd.Equal.lean ====
/- The forward call's program and its reference leave the same two results, on all arguments. -/
module

public import proofs.«01_k».proof.Defs
public import proofs.«01_k».proof.Proof.Fwd.Arrays
public import proofs.«01_k».proof.Proof.Fwd.Ref
public import proofs.«01_k».proof.Proof.Ffn.Equal
public import Idealize.ShloMosaic.Lib.Claim

@[expose] public section

set_option maxRecDepth 16384

noncomputable section

namespace Cert.FfnFwd

open Idealize.ShloMosaic Idealize.ShloMosaic.TcCoe Idealize.SL.Sem
open Cert.Ffn (arr eq_arr)

section Final
open Cert.Kernel5Ideal Cert.Kernel5Ideal.Gen
variable (m : (ℓ : Loc nD τ sig) → Buf (Elt Ideal) ℓ) (g : Dev nD → PrngReg)

/-- What the kernel's program leaves in its two results. -/
theorem kernel_run : θ_run defs (onTc (τ := τ) (main (F := Ideal))) ⟨m, fun _ => 0, g⟩ fun r => ∀ c : Dev nD,
    r.2.mem ((c.tc : Thread nD τ).loc main_v0_0) = arr (kOut m c)
    ∧ r.2.mem ((c.tc : Thread nD τ).loc main_v0_1) = arr (kHn m c) :=
  (θ_run defs _ _).mono (fun _ h c => ⟨(h.out_eq c 5).trans (arr_out m c), (h.out_eq c 6).trans (arr_hn m c)⟩) (run_main m g)
end Final

section Ref
open Cert.Reference5Ideal Cert.Reference5Ideal.Read
variable (m : (ℓ : Loc nD τ sig) → Buf (Elt Ideal) ℓ) (g : Dev nD → PrngReg)

/-- What the reference leaves in its two results: its stages over the arguments. -/
theorem reference_run : θ_run defs (onTc (τ := τ) (main (F := Ideal))) ⟨m, fun _ => 0, g⟩ fun r => ∀ c : Dev nD,
    r.2.mem ((c.tc : Thread nD τ).loc main_v22) = val_main_v22 (F := Ideal) (m (c.tc.loc main_arg0)) (m (c.tc.loc main_arg1)) (m (c.tc.loc main_arg2)) (m (c.tc.loc main_arg3))
    ∧ r.2.mem ((c.tc : Thread nD τ).loc main_v23) = val_main_v23 (F := Ideal) (m (c.tc.loc main_arg0)) (m (c.tc.loc main_arg1))
    ∧ r.2.mem (c.tc.loc main_arg0) = m (c.tc.loc main_arg0) ∧ r.2.mem (c.tc.loc main_arg1) = m (c.tc.loc main_arg1)
    ∧ r.2.mem (c.tc.loc main_arg2) = m (c.tc.loc main_arg2) ∧ r.2.mem (c.tc.loc main_arg3) = m (c.tc.loc main_arg3) :=
  (θ_run defs _ _).mono (fun _ h c => by
    obtain ⟨h0, h1, h2⟩ := h c
    exact ⟨h0.trans (val_main_v22_eq _ _ _ _), h1.trans (val_main_v23_eq _ _), h2⟩)
    (Cert.Reference5Ideal.Value.run m g)

variable (x0 : FVec Ideal S4096x1024 .f32) (x1 : FVec Ideal S1x1024 .f32) (x2 : FVec Ideal S1024x5632 .bf16)
  (x3 : FVec Ideal S2816x1024 .bf16)

theorem ref_out : val_main_v22 (F := Ideal) x0 x1 x2 x3 = arr fun r a => x0 (ix2 r a)
    + Cert.Ffn.cHalf * ∑ k, Cert.Ffn.actS (Ref.fX x0) (Ref.fG x1) (Ref.fW x2) r k * x3 (ix2 k a) :=
  eq_arr fun r a => Ref.out_at x0 x1 x2 x3 r a
theorem ref_hn : val_main_v23 (F := Ideal) x0 x1 = arr fun r d => Cert.Ffn.hn (Ref.fX x0 r) (Ref.fG x1) d :=
  eq_arr fun r d => Ref.hnc_at x0 x1 r d
end Ref

/-- The kernel's two results are the reference's. -/
theorem algebraic : @Cert.algebraic_Kernel5Ideal_Reference5Ideal Cert.Kernel5Ideal.Gen.facts
    Cert.Reference5Ideal.Gen.facts := by
  pair_intro
  · run_from (kernel_run m g) & (Cert.FfnFwd.unchanged m g)
  · run_from (reference_run m' g')
    · exact ref_out _ _ _ _
    · exact ref_hn _ _

end Cert.FfnFwd

end
-- ==== Proof.Proj.Spec.lean ====
/- The plain products: what their programs share. A function of a row and a column as an array, and a sum that an accumulator
   makes block by block over the inner points of a grid. -/
module

public import proofs.«01_k».proof.Proof.Ffn.Spec
public import Idealize.ShloMosaic.Lib.Pipeline.ValueKit

@[expose] public section

noncomputable section

namespace Cert.Proj

open Idealize.ShloMosaic
open Cert.Ffn (sum_blocks)

/-- A function of a row and a column as an array. -/
def arr {n0 n1 : ℕ} (f : Fin n0 → Fin n1 → EReal) : (⟨2, ![n0, n1]⟩ : Shape).Idx → EReal := fun i => f (i 0) (i 1)

theorem arr_at {n0 n1 : ℕ} (f : Fin n0 → Fin n1 → EReal) (a : Fin n0) (b : Fin n1) : arr f (ix2 a b) = f a b := rfl

theorem eq_arr {n0 n1 : ℕ} {f : (⟨2, ![n0, n1]⟩ : Shape).Idx → EReal} {g : Fin n0 → Fin n1 → EReal}
    (h : ∀ a b, f (ix2 a b) = g a b) : f = arr g :=
  funext fun i => (congrArg f (eq_ix2 i)).trans (h _ _)

/-- The `i`-th block of `b` among the `n` of an axis. -/
def at_ {a b n : ℕ} (h : a * b = n) (i : Fin a) (j : Fin b) : Fin n :=
  ⟨i * b + j, h ▸ (calc (i : ℕ) * b + j < i * b + b := by omega
    _ = (i + 1) * b := by ring
    _ ≤ a * b := Nat.mul_le_mul_right b i.isLt)⟩

theorem at_val {a b n : ℕ} (h : a * b = n) (i : Fin a) (j : Fin b) : (at_ h i j : ℕ) = i * b + j := rfl

/-- An accumulator that starts at zero at the first of `J` points and adds one block of terms at each holds, at the last, the
    sum of all terms. -/
theorem acc_sum {N J b n : ℕ} [NeZero J] (h : J * b = n) (A : (k : ℕ) → k < N → EReal) (f : Fin N → Fin n → EReal)
    (part : Fin N → EReal)
    (hp : ∀ t : Fin N, part t = ∑ r : Fin b, f t (at_ h ⟨t.val % J, Nat.mod_lt _ (NeZero.pos J)⟩ r))
    (h0 : ∀ t : Fin N, t.val % J = 0 → A t.val t.isLt = 0 + part t)
    (hs : ∀ t : Fin N, ¬t.val % J = 0 →
      A t.val t.isLt = A (t.val - 1) (Nat.lt_of_le_of_lt (Nat.sub_le _ _) t.isLt) + part t)
    (hf : ∀ t t' : Fin N, t.val / J = t'.val / J → f t = f t') (t : Fin N) (ht : t.val % J = J - 1) :
    A t.val t.isLt = ∑ k, f t k := by
  rw [Pipeline.eq_sum_fin_of_reset_step_of_flush A J 0 part h0 hs t ht, zero_add]
  refine Eq.trans ?_ (sum_blocks J b n h.symm (f t) fun i j => (at_ h i j).isLt)
  refine Finset.sum_congr rfl fun s _ => (hp _).trans (Finset.sum_congr rfl fun r _ => ?_)
  have hd : (J * (t.val / J) + s.val) / J = t.val / J := by
    rw [Nat.mul_add_div (NeZero.pos J), Nat.div_eq_of_lt s.isLt, add_zero]
  have hm : (J * (t.val / J) + s.val) % J = s.val := by
    rw [Nat.mul_add_mod, Nat.mod_eq_of_lt s.isLt]
  rw [hf _ t hd]
  refine congrArg (f t) (Fin.ext ?_)
  simp only [at_val, hm]

end Cert.Proj

end
-- ==== Proof.Proj.OddIn.lean ====
/- the odd layers' input projection: the kernel's product of the normalized rows with the columns of q, k and v, block by block, is the reference's. -/
module

public import proofs.«01_k».proof.Defs
public import proofs.«01_k».proof.Proof.Proj.Spec
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ReadBack
public import Idealize.ShloMosaic.Lib.Claim

@[expose] public section

set_option maxRecDepth 16384

noncomputable section

namespace Cert.Proj.OddIn

open Idealize.ShloMosaic Idealize.ShloMosaic.TcCoe Idealize.SL.Sem

section Kern
open Cert.Kernel6Ideal Cert.Kernel6Ideal.Gen
variable (m : (ℓ : Loc nD τ sig) → Buf (Elt Ideal) ℓ) (c : Dev nD) (t : Fin cfg0.N)

theorem pay_at (u : Vec Ideal S1024x1024 .bf16) (v : Vec Ideal S1024x1024 .bf16) (a : Fin 1024) (b : Fin 1024) :
    k0_pay3 (k0_pay2 (k0_pay1 (F := Ideal)) u v) (ix2 a b) = ∑ k : Fin 1024, u (ix2 a k) * v (ix2 k b) := by
  pointwise [k0_pay3, k0_pay2, k0_pay1]

theorem outs : outsAt0 m c t = k0_pay3 (k0_pay2 (k0_pay1 (F := Ideal)) (iblk m c 0 t) (iblk m c 1 t)) := by
  unfold outsAt0
  frame_out

/-- The arguments on core `c`. -/
abbrev aH (r : Fin 4096) (k : Fin 1024) : EReal := (m ((c : Thread nD τ).loc main_arg0) : FVec Ideal S4096x1024 .bf16) (ix2 r k)
abbrev aW (k : Fin 1024) (q : Fin 3072) : EReal := (m ((c : Thread nD τ).loc main_arg1) : FVec Ideal S1024x3072 .bf16) (ix2 k q)

theorem idx0 : ∀ t : Fin cfg0.N, (t : ℕ) < 12 ∧ win0_0.index t = ![t.val / 3, 0] ∧ win0_1.index t = ![0, t.val % 3]
    ∧ win0_2.index t = ![t.val / 3, t.val % 3] := by decide +kernel

/-- A point's tile of rows and block of columns. -/
def ti (t : Fin cfg0.N) : Fin 4 := ⟨t.val / 3, by have := (idx0 t).1; omega⟩
def tj (t : Fin cfg0.N) : Fin 3 := ⟨t.val % 3, by omega⟩
abbrev row (i : Fin 4) (r : Fin 1024) : Fin 4096 := at_ rfl i r
abbrev col (j : Fin 3) (q : Fin 1024) : Fin 3072 := at_ rfl j q

theorem blk_h (r k : Fin 1024) : iblk m c 0 t (ix2 r k) = aH m c (row (ti t) r) k := by
  refine Eq.trans ?_ (congrFun (V_main_arg0 m c) (ix2 (row (ti t) r) k))
  obtain ⟨_, e, _⟩ := idx0 t
  blk_ext [iblk, V, e] <;> simp [ti, at_val]

theorem blk_w (k : Fin 1024) (q : Fin 1024) : iblk m c 1 t (ix2 k q) = aW m c k (col (tj t) q) := by
  refine Eq.trans ?_ (congrFun (V_main_arg1 m c) (ix2 k (col (tj t) q)))
  obtain ⟨_, _, e, _⟩ := idx0 t
  blk_ext [iblk, V, e] <;> simp [tj, at_val]

/-- The product. -/
def out (r : Fin 4096) (q : Fin 3072) : EReal := ∑ k, aH m c r k * aW m c k q

theorem out_at (r : Fin 1024) (q : Fin 1024) : outsAt0 m c t (ix2 r q) = out m c (row (ti t) r) (col (tj t) q) := by
  rw [outs, pay_at]
  simp only [blk_h, blk_w]
  rfl

theorem arr_out : (dats m 0 c).arrAt 2 cfg0.N = arr (out m c) := by
  refine (dats m 0 c).arrAt_eq_of_covers 2 _ (by decide +kernel) fun t _ y => ?_
  blk_simp
  rw [after0_2]
  obtain ⟨_, _, _, e⟩ := idx0 t
  have key := out_at m c t (y 0) (y 1)
  rw [← eq_ix2 (n0 := 1024) (n1 := 1024) y] at key
  refine key.trans ((arr_at (out m c) (row (ti t) (y 0)) (col (tj t) (y 1))).symm.trans (congrArg (arr (out m c)) ?_))
  blk_ext [e] <;> simp [ti, tj] <;> rfl

/-- What the kernel's program leaves in its result. -/
theorem kernel_run (g : Dev nD → PrngReg) : θ_run defs (onTc (τ := τ) (main (F := Ideal))) ⟨m, fun _ => 0, g⟩ fun r =>
    ∀ c : Dev nD, r.2.mem ((c.tc : Thread nD τ).loc main_v0) = arr (out m c) :=
  (θ_run defs _ _).mono (fun _ h c => (h.out_eq c 2).trans (arr_out m c)) (run_main m g)

end Kern

section Ref
open Cert.Reference6Ideal Cert.Reference6Ideal.Read
variable (x0 : FVec Ideal S4096x1024 .bf16) (x1 : FVec Ideal S1024x3072 .bf16)

theorem ref_at (r : Fin 4096) (q : Fin 3072) : val_main_v3 (F := Ideal) x0 x1 (ix2 r q)
    = ∑ k : Fin 1024, x0 (ix2 r k) * x1 (ix2 k q) := by
  rw [val_main_v3_apply]
  refine (val_main_v2_apply x0 x1 _).trans ?_
  refine Finset.sum_congr rfl fun k _ => ?_
  rw [show lidx_main_v2 (ix2 r q) k = ix2 r k from eq_ix2 _, show ridx_main_v2 (ix2 r q) k = ix2 k q from eq_ix2 _]
  rfl

theorem reference_run (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem ((c.tc : Thread nD τ).loc main_v3)
      = val_main_v3 (F := Ideal) (m (c.tc.loc main_arg0)) (m (c.tc.loc main_arg1))
    ∧ r.2.mem (c.tc.loc main_arg0) = m (c.tc.loc main_arg0) ∧ r.2.mem (c.tc.loc main_arg1) = m (c.tc.loc main_arg1) :=
  (θ_run defs _ _).mono (fun _ h c => ⟨(h c).1.trans (val_main_v3_eq _ _), (h c).2⟩) (Cert.Reference6Ideal.Value.run m g)

end Ref

/-- The two results are one array. -/
theorem algebraic : @Cert.algebraic_Kernel6Ideal_Reference6Ideal Cert.Kernel6Ideal.Gen.facts Cert.Reference6Ideal.Gen.facts := by
  pair_intro
  · run_from (kernel_run m g) & (Cert.Kernel6Ideal.Gen.unchanged m g)
  · run_from (reference_run m' g')
    exact eq_arr (ref_at _ _)

end Cert.Proj.OddIn

end
-- ==== Proof.Proj.OddInW.lean ====
/- The gradient of the odd layers' input projection's weight: the kernel's product of the transposed rows with the gradient,
   accumulated over four tiles of rows, is the reference's. -/
module

public import proofs.«01_k».proof.Defs
public import proofs.«01_k».proof.Proof.Proj.Spec
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ReadBack
public import Idealize.ShloMosaic.Lib.Claim

@[expose] public section

set_option maxRecDepth 16384

noncomputable section

namespace Cert.Proj.OddInW

open Idealize.ShloMosaic Idealize.ShloMosaic.TcCoe Idealize.SL.Sem

section Kern
open Cert.Kernel7Ideal Cert.Kernel7Ideal.Gen
variable (m : (ℓ : Loc nD τ sig) → Buf (Elt Ideal) ℓ) (c : Dev nD) (t : Fin cfg0.N)

theorem pay1_at (a : Fin 1024) (b : Fin 640) : k0_pay1 (F := Ideal) (ix2 a b) = 0 := by
  pointwise [k0_pay1]
theorem pay2_at (s : Vec Ideal S1024x640 .f32) (u : Vec Ideal S1024x1024 .bf16) (v : Vec Ideal S1024x640 .bf16)
    (a : Fin 1024) (b : Fin 640) : k0_pay2 s u v (ix2 a b) = s (ix2 a b) + ∑ r : Fin 1024, u (ix2 r a) * v (ix2 r b) := by
  pointwise [k0_pay2]
theorem pay3_at (s : Vec Ideal S1024x640 .f32) (a : Fin 1024) (b : Fin 640) : k0_pay3 s (ix2 a b) = s (ix2 a b) := by
  pointwise [k0_pay3]

/-- What the point before left in scratch. -/
abbrev prev := (outsAt0 m c (t.val - 1) (Nat.lt_of_le_of_lt (Nat.sub_le _ _) t.isLt)).2

theorem outs_first (h : t.val % 4 = 0) : (outsAt0 m c t.val t.isLt).2
    = k0_pay2 (k0_pay1 (F := Ideal)) (iblk m c 0 t) (iblk m c 1 t) := by
  rw [outsAt0_A m c t h (by omega)]
  frame_out

theorem outs_last (h : t.val % 4 = 3) : outsAt0 m c t.val t.isLt
    = (k0_pay3 (k0_pay2 (prev m c t) (iblk m c 0 t) (iblk m c 1 t)),
        k0_pay2 (prev m c t) (iblk m c 0 t) (iblk m c 1 t)) := by
  rw [outsAt0_C m c t (by omega) h]
  frame_out
  simp only [read_unread_whole]

theorem outs_later (h : ¬t.val % 4 = 0) : (outsAt0 m c t.val t.isLt).2
    = k0_pay2 (prev m c t) (iblk m c 0 t) (iblk m c 1 t) := by
  by_cases h1 : t.val % 4 = 3
  · rw [outs_last m c t h1]
  · rw [outsAt0_B m c t h h1]
    frame_out
    simp only [read_unread_whole]

/-- The arguments on core `c`. -/
abbrev aH (r : Fin 4096) (d : Fin 1024) : EReal := (m ((c : Thread nD τ).loc main_arg0) : FVec Ideal S4096x1024 .bf16) (ix2 r d)
abbrev aD (r : Fin 4096) (q : Fin 3200) : EReal := (m ((c : Thread nD τ).loc main_arg1) : FVec Ideal S4096x3200 .bf16) (ix2 r q)

theorem idx0 : ∀ t : Fin cfg0.N, (t : ℕ) < 20 ∧ win0_0.index t = ![t.val % 4, 0] ∧ win0_1.index t = ![t.val % 4, t.val / 4]
    ∧ win0_2.index t = ![0, t.val / 4] := by decide +kernel

/-- A point's tile of rows and block of columns. -/
def ti (t : Fin cfg0.N) : Fin 4 := ⟨t.val % 4, by omega⟩
def tj (t : Fin cfg0.N) : Fin 5 := ⟨t.val / 4, by have := (idx0 t).1; omega⟩
abbrev row (i : Fin 4) (r : Fin 1024) : Fin 4096 := at_ rfl i r
abbrev col (j : Fin 5) (q : Fin 640) : Fin 3200 := at_ rfl j q

theorem blk_h (r d : Fin 1024) : iblk m c 0 t (ix2 r d) = aH m c (row (ti t) r) d := by
  refine Eq.trans ?_ (congrFun (V_main_arg0 m c) (ix2 (row (ti t) r) d))
  obtain ⟨_, e, _⟩ := idx0 t
  blk_ext [iblk, V, e] <;> simp [ti, at_val]

theorem blk_d (r : Fin 1024) (q : Fin 640) : iblk m c 1 t (ix2 r q) = aD m c (row (ti t) r) (col (tj t) q) := by
  refine Eq.trans ?_ (congrFun (V_main_arg1 m c) (ix2 (row (ti t) r) (col (tj t) q)))
  obtain ⟨_, _, e, _⟩ := idx0 t
  blk_ext [iblk, V, e] <;> simp [ti, tj, at_val]

/-- The terms of an element of a point's block of columns, and the point's share of their sum. -/
def term (d : Fin 1024) (q : Fin 640) (t : Fin cfg0.N) (r : Fin 4096) : EReal := aH m c r d * aD m c r (col (tj t) q)
def part (d : Fin 1024) (q : Fin 640) (t : Fin cfg0.N) : EReal := ∑ r : Fin 1024, term m c d q t (row (ti t) r)

theorem step_at (s : Vec Ideal S1024x640 .f32) (d : Fin 1024) (q : Fin 640) :
    k0_pay2 s (iblk m c 0 t) (iblk m c 1 t) (ix2 d q) = s (ix2 d q) + part m c d q t := by
  rw [pay2_at]
  simp only [blk_h, blk_d]
  rfl

theorem acc_last (h : t.val % 4 = 3) (d : Fin 1024) (q : Fin 640) :
    (outsAt0 m c t.val t.isLt).2 (ix2 d q) = ∑ r, term m c d q t r :=
  acc_sum (J := 4) (b := 1024) rfl (fun k hk => (outsAt0 m c k hk).2 (ix2 d q)) (term m c d q) (part m c d q) (fun _ => rfl)
    (fun t h => by rw [outs_first m c t h, step_at, pay1_at])
    (fun t h => by rw [outs_later m c t h, step_at])
    (fun t t' h => by unfold term tj; simp only [h]) t h

/-- The gradient. -/
def out (d : Fin 1024) (q : Fin 3200) : EReal := ∑ r, aH m c r d * aD m c r q

theorem out_at (h : t.val % 4 = 3) (d : Fin 1024) (q : Fin 640) :
    (outsAt0 m c t.val t.isLt).1 (ix2 d q) = out m c d (col (tj t) q) := by
  have e : (outsAt0 m c t.val t.isLt).1 = k0_pay3 (outsAt0 m c t.val t.isLt).2 := by
    rw [outs_last m c t h]
  rw [e, pay3_at, acc_last m c t h d q]
  rfl

theorem arr_out : (dats m 0 c).arrAt 2 cfg0.N = arr (out m c) := by
  refine (dats m 0 c).arrAt_eq_of_covers 2 _ (by decide +kernel) fun t hf y => ?_
  have h : t.val % 4 = 3 := (flush0_2 t).mp hf
  blk_simp
  rw [after0_2]
  obtain ⟨_, _, _, e⟩ := idx0 t
  have key := out_at m c t h (y 0) (y 1)
  rw [← eq_ix2 (n0 := 1024) (n1 := 640) y] at key
  refine key.trans ((arr_at (out m c) (y 0) (col (tj t) (y 1))).symm.trans (congrArg (arr (out m c)) ?_))
  blk_ext [e] <;> simp [tj] <;> rfl

/-- What the kernel's program leaves in its result. -/
theorem kernel_run (g : Dev nD → PrngReg) : θ_run defs (onTc (τ := τ) (main (F := Ideal))) ⟨m, fun _ => 0, g⟩ fun r =>
    ∀ c : Dev nD, r.2.mem ((c.tc : Thread nD τ).loc main_v0) = arr (out m c) :=
  (θ_run defs _ _).mono (fun _ h c => (h.out_eq c 2).trans (arr_out m c)) (run_main m g)

end Kern

section Ref
open Cert.Reference7Ideal Cert.Reference7Ideal.Read
variable (x0 : FVec Ideal S4096x1024 .bf16) (x1 : FVec Ideal S4096x3200 .bf16)

theorem ref_at (d : Fin 1024) (q : Fin 3200) : val_main_v6 (F := Ideal) x0 x1 (ix2 d q)
    = ∑ r : Fin 4096, x0 (ix2 r d) * x1 (ix2 r q) := by
  rw [val_main_v6_apply, val_main_v5_apply, show idx_main_v5 (ix2 d q) = ix2 q d from eq_ix2 _]
  refine (val_main_v4_apply x0 x1 _).trans (Finset.sum_congr rfl fun r _ => ?_)
  rw [show lidx_main_v4 (ix2 q d) r = ix2 r q from eq_ix2 _, show ridx_main_v4 (ix2 q d) r = ix2 r d from eq_ix2 _]
  exact mul_comm _ _

theorem reference_run (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem ((c.tc : Thread nD τ).loc main_v6)
      = val_main_v6 (F := Ideal) (m (c.tc.loc main_arg0)) (m (c.tc.loc main_arg1))
    ∧ r.2.mem (c.tc.loc main_arg0) = m (c.tc.loc main_arg0) ∧ r.2.mem (c.tc.loc main_arg1) = m (c.tc.loc main_arg1) :=
  (θ_run defs _ _).mono (fun _ h c => ⟨(h c).1.trans (val_main_v6_eq _ _), (h c).2⟩) (Cert.Reference7Ideal.Value.run m g)

end Ref

/-- The two results are one array. -/
theorem algebraic : @Cert.algebraic_Kernel7Ideal_Reference7Ideal Cert.Kernel7Ideal.Gen.facts Cert.Reference7Ideal.Gen.facts := by
  pair_intro
  · run_from (kernel_run m g) & (Cert.Kernel7Ideal.Gen.unchanged m g)
  · run_from (reference_run m' g')
    exact eq_arr (ref_at _ _)

end Cert.Proj.OddInW

end
-- ==== Proof.Proj.OddInBack.lean ====
/- The gradient of the odd layers' normalized rows: the kernel's product of the projection's gradient with the transposed weight,
   accumulated over five blocks of columns, is the reference's. -/
module

public import proofs.«01_k».proof.Defs
public import proofs.«01_k».proof.Proof.Proj.Spec
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ReadBack
public import Idealize.ShloMosaic.Lib.Claim

@[expose] public section

set_option maxRecDepth 16384

noncomputable section

namespace Cert.Proj.OddInBack

open Idealize.ShloMosaic Idealize.ShloMosaic.TcCoe Idealize.SL.Sem

section Kern
open Cert.Kernel8Ideal Cert.Kernel8Ideal.Gen
variable (m : (ℓ : Loc nD τ sig) → Buf (Elt Ideal) ℓ) (c : Dev nD) (t : Fin cfg0.N)

theorem pay1_at (a b : Fin 1024) : k0_pay1 (F := Ideal) (ix2 a b) = 0 := by
  pointwise [k0_pay1]
theorem pay2_at (s : Vec Ideal S1024x1024 .f32) (u v : Vec Ideal S1024x640 .bf16) (a b : Fin 1024) :
    k0_pay2 s u v (ix2 a b) = s (ix2 a b) + ∑ k : Fin 640, u (ix2 a k) * v (ix2 b k) := by
  pointwise [k0_pay2]

/-- What the point before left in scratch. -/
abbrev prev := (outsAt0 m c (t.val - 1) (Nat.lt_of_le_of_lt (Nat.sub_le _ _) t.isLt)).2

theorem outs_first (h : t.val % 5 = 0) : (outsAt0 m c t.val t.isLt).2
    = k0_pay2 (k0_pay1 (F := Ideal)) (iblk m c 0 t) (iblk m c 1 t) := by
  rw [outsAt0_A m c t h (by omega)]
  frame_out

theorem outs_last (h : t.val % 5 = 4) : outsAt0 m c t.val t.isLt
    = (k0_pay2 (prev m c t) (iblk m c 0 t) (iblk m c 1 t), k0_pay2 (prev m c t) (iblk m c 0 t) (iblk m c 1 t)) := by
  rw [outsAt0_C m c t (by omega) h]
  frame_out
  simp only [read_unread_whole]

theorem outs_later (h : ¬t.val % 5 = 0) : (outsAt0 m c t.val t.isLt).2
    = k0_pay2 (prev m c t) (iblk m c 0 t) (iblk m c 1 t) := by
  by_cases h1 : t.val % 5 = 4
  · rw [outs_last m c t h1]
  · rw [outsAt0_B m c t h h1]
    frame_out
    simp only [read_unread_whole]

/-- The arguments on core `c`. -/
abbrev aD (r : Fin 4096) (k : Fin 3200) : EReal := (m ((c : Thread nD τ).loc main_arg0) : FVec Ideal S4096x3200 .bf16) (ix2 r k)
abbrev aW (d : Fin 1024) (k : Fin 3200) : EReal := (m ((c : Thread nD τ).loc main_arg1) : FVec Ideal S1024x3200 .bf16) (ix2 d k)

theorem idx0 : ∀ t : Fin cfg0.N, (t : ℕ) < 20 ∧ win0_0.index t = ![t.val / 5, t.val % 5] ∧ win0_1.index t = ![0, t.val % 5]
    ∧ win0_2.index t = ![t.val / 5, 0] := by decide +kernel

/-- A point's tile of rows and block of the sum. -/
def ti (t : Fin cfg0.N) : Fin 4 := ⟨t.val / 5, by have := (idx0 t).1; omega⟩
def tk (t : Fin cfg0.N) : Fin 5 := ⟨t.val % 5, by omega⟩
abbrev row (i : Fin 4) (r : Fin 1024) : Fin 4096 := at_ rfl i r
abbrev col (j : Fin 5) (k : Fin 640) : Fin 3200 := at_ rfl j k

theorem blk_d (r : Fin 1024) (k : Fin 640) : iblk m c 0 t (ix2 r k) = aD m c (row (ti t) r) (col (tk t) k) := by
  refine Eq.trans ?_ (congrFun (V_main_arg0 m c) (ix2 (row (ti t) r) (col (tk t) k)))
  obtain ⟨_, e, _⟩ := idx0 t
  blk_ext [iblk, V, e] <;> simp [ti, tk, at_val]

theorem blk_w (d : Fin 1024) (k : Fin 640) : iblk m c 1 t (ix2 d k) = aW m c d (col (tk t) k) := by
  refine Eq.trans ?_ (congrFun (V_main_arg1 m c) (ix2 d (col (tk t) k)))
  obtain ⟨_, _, e, _⟩ := idx0 t
  blk_ext [iblk, V, e] <;> simp [tk, at_val]

/-- The terms of an element of a point's tile, and the point's share of their sum. -/
def term (r d : Fin 1024) (t : Fin cfg0.N) (k : Fin 3200) : EReal := aD m c (row (ti t) r) k * aW m c d k
def part (r d : Fin 1024) (t : Fin cfg0.N) : EReal := ∑ k : Fin 640, term m c r d t (col (tk t) k)

theorem step_at (s : Vec Ideal S1024x1024 .f32) (r d : Fin 1024) :
    k0_pay2 s (iblk m c 0 t) (iblk m c 1 t) (ix2 r d) = s (ix2 r d) + part m c r d t := by
  rw [pay2_at]
  simp only [blk_d, blk_w]
  rfl

theorem acc_last (h : t.val % 5 = 4) (r d : Fin 1024) :
    (outsAt0 m c t.val t.isLt).2 (ix2 r d) = ∑ k, term m c r d t k :=
  acc_sum (J := 5) (b := 640) rfl (fun k hk => (outsAt0 m c k hk).2 (ix2 r d)) (term m c r d) (part m c r d) (fun _ => rfl)
    (fun t h => by rw [outs_first m c t h, step_at, pay1_at])
    (fun t h => by rw [outs_later m c t h, step_at])
    (fun t t' h => by unfold term ti; simp only [h]) t h

/-- The gradient. -/
def out (r : Fin 4096) (d : Fin 1024) : EReal := ∑ k, aD m c r k * aW m c d k

theorem out_at (h : t.val % 5 = 4) (r d : Fin 1024) :
    (outsAt0 m c t.val t.isLt).1 (ix2 r d) = out m c (row (ti t) r) d := by
  have e : (outsAt0 m c t.val t.isLt).1 = (outsAt0 m c t.val t.isLt).2 := by
    rw [outs_last m c t h]
  rw [e, acc_last m c t h r d]
  rfl

theorem arr_out : (dats m 0 c).arrAt 2 cfg0.N = arr (out m c) := by
  refine (dats m 0 c).arrAt_eq_of_covers 2 _ (by decide +kernel) fun t hf y => ?_
  have h : t.val % 5 = 4 := (flush0_2 t).mp hf
  blk_simp
  rw [after0_2]
  obtain ⟨_, _, _, e⟩ := idx0 t
  have key := out_at m c t h (y 0) (y 1)
  rw [← eq_ix2 (n0 := 1024) (n1 := 1024) y] at key
  refine key.trans ((arr_at (out m c) (row (ti t) (y 0)) (y 1)).symm.trans (congrArg (arr (out m c)) ?_))
  blk_ext [e] <;> simp [ti] <;> rfl

/-- What the kernel's program leaves in its result. -/
theorem kernel_run (g : Dev nD → PrngReg) : θ_run defs (onTc (τ := τ) (main (F := Ideal))) ⟨m, fun _ => 0, g⟩ fun r =>
    ∀ c : Dev nD, r.2.mem ((c.tc : Thread nD τ).loc main_v0) = arr (out m c) :=
  (θ_run defs _ _).mono (fun _ h c => (h.out_eq c 2).trans (arr_out m c)) (run_main m g)

end Kern

section Ref
open Cert.Reference8Ideal Cert.Reference8Ideal.Read
variable (x0 : FVec Ideal S4096x3200 .bf16) (x1 : FVec Ideal S1024x3200 .bf16)

theorem ref_at (r : Fin 4096) (d : Fin 1024) : val_main_v4 (F := Ideal) x0 x1 (ix2 r d)
    = ∑ k : Fin 3200, x0 (ix2 r k) * x1 (ix2 d k) := by
  rw [val_main_v4_apply]
  refine Finset.sum_congr rfl fun k _ => ?_
  rw [show lidx_main_v4 (ix2 r d) k = ix2 r k from eq_ix2 _, show ridx_main_v4 (ix2 r d) k = ix2 d k from eq_ix2 _]
  rfl

theorem reference_run (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem ((c.tc : Thread nD τ).loc main_v4)
      = val_main_v4 (F := Ideal) (m (c.tc.loc main_arg0)) (m (c.tc.loc main_arg1))
    ∧ r.2.mem (c.tc.loc main_arg0) = m (c.tc.loc main_arg0) ∧ r.2.mem (c.tc.loc main_arg1) = m (c.tc.loc main_arg1) :=
  (θ_run defs _ _).mono (fun _ h c => ⟨(h c).1.trans (val_main_v4_eq _ _), (h c).2⟩) (Cert.Reference8Ideal.Value.run m g)

end Ref

/-- The two results are one array. -/
theorem algebraic : @Cert.algebraic_Kernel8Ideal_Reference8Ideal Cert.Kernel8Ideal.Gen.facts Cert.Reference8Ideal.Gen.facts := by
  pair_intro
  · run_from (kernel_run m g) & (Cert.Kernel8Ideal.Gen.unchanged m g)
  · run_from (reference_run m' g')
    exact eq_arr (ref_at _ _)

end Cert.Proj.OddInBack

end
-- ==== Proof.Proj.EvenIn.lean ====
/- The even layers' input projection: the kernel's product, block by block, is the reference's. -/
module

public import proofs.«01_k».proof.Defs
public import proofs.«01_k».proof.Proof.Proj.Spec
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ReadBack
public import Idealize.ShloMosaic.Lib.Claim

@[expose] public section

set_option maxRecDepth 16384

noncomputable section

namespace Cert.Proj.EvenIn

open Idealize.ShloMosaic Idealize.ShloMosaic.TcCoe Idealize.SL.Sem

section Kern
open Cert.Kernel9Ideal Cert.Kernel9Ideal.Gen
variable (m : (ℓ : Loc nD τ sig) → Buf (Elt Ideal) ℓ) (c : Dev nD) (t : Fin cfg0.N)

theorem pay_at (u : Vec Ideal S1024x1024 .bf16) (v : Vec Ideal S1024x1280 .bf16) (a : Fin 1024) (b : Fin 1280) :
    k0_pay2 (k0_pay1 (F := Ideal)) u v (ix2 a b) = ∑ k : Fin 1024, u (ix2 a k) * v (ix2 k b) := by
  pointwise [k0_pay2, k0_pay1]

theorem outs : outsAt0 m c t = k0_pay2 (k0_pay1 (F := Ideal)) (iblk m c 0 t) (iblk m c 1 t) := by
  unfold outsAt0
  frame_out

/-- The arguments on core `c`. -/
abbrev aH (r : Fin 4096) (k : Fin 1024) : EReal := (m ((c : Thread nD τ).loc main_arg0) : FVec Ideal S4096x1024 .bf16) (ix2 r k)
abbrev aW (k : Fin 1024) (q : Fin 2560) : EReal := (m ((c : Thread nD τ).loc main_arg1) : FVec Ideal S1024x2560 .bf16) (ix2 k q)

theorem idx0 : ∀ t : Fin cfg0.N, (t : ℕ) < 8 ∧ win0_0.index t = ![t.val / 2, 0] ∧ win0_1.index t = ![0, t.val % 2]
    ∧ win0_2.index t = ![t.val / 2, t.val % 2] := by decide +kernel

/-- A point's tile of rows and block of columns. -/
def ti (t : Fin cfg0.N) : Fin 4 := ⟨t.val / 2, by have := (idx0 t).1; omega⟩
def tj (t : Fin cfg0.N) : Fin 2 := ⟨t.val % 2, by omega⟩
abbrev row (i : Fin 4) (r : Fin 1024) : Fin 4096 := at_ rfl i r
abbrev col (j : Fin 2) (q : Fin 1280) : Fin 2560 := at_ rfl j q

theorem blk_h (r k : Fin 1024) : iblk m c 0 t (ix2 r k) = aH m c (row (ti t) r) k := by
  refine Eq.trans ?_ (congrFun (V_main_arg0 m c) (ix2 (row (ti t) r) k))
  obtain ⟨_, e, _⟩ := idx0 t
  blk_ext [iblk, V, e] <;> simp [ti, at_val]

theorem blk_w (k : Fin 1024) (q : Fin 1280) : iblk m c 1 t (ix2 k q) = aW m c k (col (tj t) q) := by
  refine Eq.trans ?_ (congrFun (V_main_arg1 m c) (ix2 k (col (tj t) q)))
  obtain ⟨_, _, e, _⟩ := idx0 t
  blk_ext [iblk, V, e] <;> simp [tj, at_val]

/-- The product. -/
def out (r : Fin 4096) (q : Fin 2560) : EReal := ∑ k, aH m c r k * aW m c k q

theorem out_at (r : Fin 1024) (q : Fin 1280) : outsAt0 m c t (ix2 r q) = out m c (row (ti t) r) (col (tj t) q) := by
  rw [outs, pay_at]
  simp only [blk_h, blk_w]
  rfl

theorem arr_out : (dats m 0 c).arrAt 2 cfg0.N = arr (out m c) := by
  refine (dats m 0 c).arrAt_eq_of_covers 2 _ (by decide +kernel) fun t _ y => ?_
  blk_simp
  rw [after0_2]
  obtain ⟨_, _, _, e⟩ := idx0 t
  have key := out_at m c t (y 0) (y 1)
  rw [← eq_ix2 (n0 := 1024) (n1 := 1280) y] at key
  refine key.trans ((arr_at (out m c) (row (ti t) (y 0)) (col (tj t) (y 1))).symm.trans (congrArg (arr (out m c)) ?_))
  blk_ext [e] <;> simp [ti, tj] <;> rfl

/-- What the kernel's program leaves in its result. -/
theorem kernel_run (g : Dev nD → PrngReg) : θ_run defs (onTc (τ := τ) (main (F := Ideal))) ⟨m, fun _ => 0, g⟩ fun r =>
    ∀ c : Dev nD, r.2.mem ((c.tc : Thread nD τ).loc main_v0) = arr (out m c) :=
  (θ_run defs _ _).mono (fun _ h c => (h.out_eq c 2).trans (arr_out m c)) (run_main m g)

end Kern

section Ref
open Cert.Reference9Ideal Cert.Reference9Ideal.Read
variable (x0 : FVec Ideal S4096x1024 .bf16) (x1 : FVec Ideal S1024x2560 .bf16)

theorem ref_at (r : Fin 4096) (q : Fin 2560) : val_main_v2 (F := Ideal) x0 x1 (ix2 r q)
    = ∑ k : Fin 1024, x0 (ix2 r k) * x1 (ix2 k q) := by
  rw [val_main_v2_apply]
  refine Finset.sum_congr rfl fun k _ => ?_
  rw [show lidx_main_v2 (ix2 r q) k = ix2 r k from eq_ix2 _, show ridx_main_v2 (ix2 r q) k = ix2 k q from eq_ix2 _]
  rfl

theorem reference_run (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem ((c.tc : Thread nD τ).loc main_v2)
      = val_main_v2 (F := Ideal) (m (c.tc.loc main_arg0)) (m (c.tc.loc main_arg1))
    ∧ r.2.mem (c.tc.loc main_arg0) = m (c.tc.loc main_arg0) ∧ r.2.mem (c.tc.loc main_arg1) = m (c.tc.loc main_arg1) :=
  (θ_run defs _ _).mono (fun _ h c => ⟨(h c).1.trans (val_main_v2_eq _ _), (h c).2⟩) (Cert.Reference9Ideal.Value.run m g)

end Ref

/-- The two results are one array. -/
theorem algebraic : @Cert.algebraic_Kernel9Ideal_Reference9Ideal Cert.Kernel9Ideal.Gen.facts Cert.Reference9Ideal.Gen.facts := by
  pair_intro
  · run_from (kernel_run m g) & (Cert.Kernel9Ideal.Gen.unchanged m g)
  · run_from (reference_run m' g')
    exact eq_arr (ref_at _ _)

end Cert.Proj.EvenIn

end
-- ==== Proof.Proj.EvenInW.lean ====
/- The gradient of the even layers' input projection's weight: the kernel's product of the transposed rows with the gradient,
   accumulated over four tiles of rows, is the reference's. -/
module

public import proofs.«01_k».proof.Defs
public import proofs.«01_k».proof.Proof.Proj.Spec
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ReadBack
public import Idealize.ShloMosaic.Lib.Claim

@[expose] public section

set_option maxRecDepth 16384

noncomputable section

namespace Cert.Proj.EvenInW

open Idealize.ShloMosaic Idealize.ShloMosaic.TcCoe Idealize.SL.Sem

section Kern
open Cert.Kernel10Ideal Cert.Kernel10Ideal.Gen
variable (m : (ℓ : Loc nD τ sig) → Buf (Elt Ideal) ℓ) (c : Dev nD) (t : Fin cfg0.N)

theorem pay1_at (a : Fin 1024) (b : Fin 1280) : k0_pay1 (F := Ideal) (ix2 a b) = 0 := by
  pointwise [k0_pay1]
theorem pay2_at (s : Vec Ideal S1024x1280 .f32) (u : Vec Ideal S1024x1024 .bf16) (v : Vec Ideal S1024x1280 .bf16)
    (a : Fin 1024) (b : Fin 1280) : k0_pay2 s u v (ix2 a b) = s (ix2 a b) + ∑ r : Fin 1024, u (ix2 r a) * v (ix2 r b) := by
  pointwise [k0_pay2]
theorem pay3_at (s : Vec Ideal S1024x1280 .f32) (a : Fin 1024) (b : Fin 1280) : k0_pay3 s (ix2 a b) = s (ix2 a b) := by
  pointwise [k0_pay3]

/-- What the point before left in scratch. -/
abbrev prev := (outsAt0 m c (t.val - 1) (Nat.lt_of_le_of_lt (Nat.sub_le _ _) t.isLt)).2

theorem outs_first (h : t.val % 4 = 0) : (outsAt0 m c t.val t.isLt).2
    = k0_pay2 (k0_pay1 (F := Ideal)) (iblk m c 0 t) (iblk m c 1 t) := by
  rw [outsAt0_A m c t h (by omega)]
  frame_out

theorem outs_last (h : t.val % 4 = 3) : outsAt0 m c t.val t.isLt
    = (k0_pay3 (k0_pay2 (prev m c t) (iblk m c 0 t) (iblk m c 1 t)),
        k0_pay2 (prev m c t) (iblk m c 0 t) (iblk m c 1 t)) := by
  rw [outsAt0_C m c t (by omega) h]
  frame_out
  simp only [read_unread_whole]

theorem outs_later (h : ¬t.val % 4 = 0) : (outsAt0 m c t.val t.isLt).2
    = k0_pay2 (prev m c t) (iblk m c 0 t) (iblk m c 1 t) := by
  by_cases h1 : t.val % 4 = 3
  · rw [outs_last m c t h1]
  · rw [outsAt0_B m c t h h1]
    frame_out
    simp only [read_unread_whole]

/-- The arguments on core `c`. -/
abbrev aH (r : Fin 4096) (d : Fin 1024) : EReal := (m ((c : Thread nD τ).loc main_arg0) : FVec Ideal S4096x1024 .bf16) (ix2 r d)
abbrev aD (r : Fin 4096) (q : Fin 2560) : EReal := (m ((c : Thread nD τ).loc main_arg1) : FVec Ideal S4096x2560 .bf16) (ix2 r q)

theorem idx0 : ∀ t : Fin cfg0.N, (t : ℕ) < 8 ∧ win0_0.index t = ![t.val % 4, 0] ∧ win0_1.index t = ![t.val % 4, t.val / 4]
    ∧ win0_2.index t = ![0, t.val / 4] := by decide +kernel

/-- A point's tile of rows and block of columns. -/
def ti (t : Fin cfg0.N) : Fin 4 := ⟨t.val % 4, by omega⟩
def tj (t : Fin cfg0.N) : Fin 2 := ⟨t.val / 4, by have := (idx0 t).1; omega⟩
abbrev row (i : Fin 4) (r : Fin 1024) : Fin 4096 := at_ rfl i r
abbrev col (j : Fin 2) (q : Fin 1280) : Fin 2560 := at_ rfl j q

theorem blk_h (r d : Fin 1024) : iblk m c 0 t (ix2 r d) = aH m c (row (ti t) r) d := by
  refine Eq.trans ?_ (congrFun (V_main_arg0 m c) (ix2 (row (ti t) r) d))
  obtain ⟨_, e, _⟩ := idx0 t
  blk_ext [iblk, V, e] <;> simp [ti, at_val]

theorem blk_d (r : Fin 1024) (q : Fin 1280) : iblk m c 1 t (ix2 r q) = aD m c (row (ti t) r) (col (tj t) q) := by
  refine Eq.trans ?_ (congrFun (V_main_arg1 m c) (ix2 (row (ti t) r) (col (tj t) q)))
  obtain ⟨_, _, e, _⟩ := idx0 t
  blk_ext [iblk, V, e] <;> simp [ti, tj, at_val]

/-- The terms of an element of a point's block of columns, and the point's share of their sum. -/
def term (d : Fin 1024) (q : Fin 1280) (t : Fin cfg0.N) (r : Fin 4096) : EReal := aH m c r d * aD m c r (col (tj t) q)
def part (d : Fin 1024) (q : Fin 1280) (t : Fin cfg0.N) : EReal := ∑ r : Fin 1024, term m c d q t (row (ti t) r)

theorem step_at (s : Vec Ideal S1024x1280 .f32) (d : Fin 1024) (q : Fin 1280) :
    k0_pay2 s (iblk m c 0 t) (iblk m c 1 t) (ix2 d q) = s (ix2 d q) + part m c d q t := by
  rw [pay2_at]
  simp only [blk_h, blk_d]
  rfl

theorem acc_last (h : t.val % 4 = 3) (d : Fin 1024) (q : Fin 1280) :
    (outsAt0 m c t.val t.isLt).2 (ix2 d q) = ∑ r, term m c d q t r :=
  acc_sum (J := 4) (b := 1024) rfl (fun k hk => (outsAt0 m c k hk).2 (ix2 d q)) (term m c d q) (part m c d q) (fun _ => rfl)
    (fun t h => by rw [outs_first m c t h, step_at, pay1_at])
    (fun t h => by rw [outs_later m c t h, step_at])
    (fun t t' h => by unfold term tj; simp only [h]) t h

/-- The gradient. -/
def out (d : Fin 1024) (q : Fin 2560) : EReal := ∑ r, aH m c r d * aD m c r q

theorem out_at (h : t.val % 4 = 3) (d : Fin 1024) (q : Fin 1280) :
    (outsAt0 m c t.val t.isLt).1 (ix2 d q) = out m c d (col (tj t) q) := by
  have e : (outsAt0 m c t.val t.isLt).1 = k0_pay3 (outsAt0 m c t.val t.isLt).2 := by
    rw [outs_last m c t h]
  rw [e, pay3_at, acc_last m c t h d q]
  rfl

theorem arr_out : (dats m 0 c).arrAt 2 cfg0.N = arr (out m c) := by
  refine (dats m 0 c).arrAt_eq_of_covers 2 _ (by decide +kernel) fun t hf y => ?_
  have h : t.val % 4 = 3 := (flush0_2 t).mp hf
  blk_simp
  rw [after0_2]
  obtain ⟨_, _, _, e⟩ := idx0 t
  have key := out_at m c t h (y 0) (y 1)
  rw [← eq_ix2 (n0 := 1024) (n1 := 1280) y] at key
  refine key.trans ((arr_at (out m c) (y 0) (col (tj t) (y 1))).symm.trans (congrArg (arr (out m c)) ?_))
  blk_ext [e] <;> simp [tj] <;> rfl

/-- What the kernel's program leaves in its result. -/
theorem kernel_run (g : Dev nD → PrngReg) : θ_run defs (onTc (τ := τ) (main (F := Ideal))) ⟨m, fun _ => 0, g⟩ fun r =>
    ∀ c : Dev nD, r.2.mem ((c.tc : Thread nD τ).loc main_v0) = arr (out m c) :=
  (θ_run defs _ _).mono (fun _ h c => (h.out_eq c 2).trans (arr_out m c)) (run_main m g)

end Kern

section Ref
open Cert.Reference10Ideal Cert.Reference10Ideal.Read
variable (x0 : FVec Ideal S4096x1024 .bf16) (x1 : FVec Ideal S4096x2560 .bf16)

theorem ref_at (d : Fin 1024) (q : Fin 2560) : val_main_v6 (F := Ideal) x0 x1 (ix2 d q)
    = ∑ r : Fin 4096, x0 (ix2 r d) * x1 (ix2 r q) := by
  rw [val_main_v6_apply, val_main_v5_apply, show idx_main_v5 (ix2 d q) = ix2 q d from eq_ix2 _]
  refine (val_main_v4_apply x0 x1 _).trans (Finset.sum_congr rfl fun r _ => ?_)
  rw [show lidx_main_v4 (ix2 q d) r = ix2 r q from eq_ix2 _, show ridx_main_v4 (ix2 q d) r = ix2 r d from eq_ix2 _]
  exact mul_comm _ _

theorem reference_run (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem ((c.tc : Thread nD τ).loc main_v6)
      = val_main_v6 (F := Ideal) (m (c.tc.loc main_arg0)) (m (c.tc.loc main_arg1))
    ∧ r.2.mem (c.tc.loc main_arg0) = m (c.tc.loc main_arg0) ∧ r.2.mem (c.tc.loc main_arg1) = m (c.tc.loc main_arg1) :=
  (θ_run defs _ _).mono (fun _ h c => ⟨(h c).1.trans (val_main_v6_eq _ _), (h c).2⟩) (Cert.Reference10Ideal.Value.run m g)

end Ref

/-- The two results are one array. -/
theorem algebraic : @Cert.algebraic_Kernel10Ideal_Reference10Ideal Cert.Kernel10Ideal.Gen.facts Cert.Reference10Ideal.Gen.facts := by
  pair_intro
  · run_from (kernel_run m g) & (Cert.Kernel10Ideal.Gen.unchanged m g)
  · run_from (reference_run m' g')
    exact eq_arr (ref_at _ _)

end Cert.Proj.EvenInW

end
-- ==== Proof.Proj.EvenInBack.lean ====
/- The gradient of the even layers' normalized rows: the kernel's product of the projection's gradient with the transposed weight,
   accumulated over four blocks of columns, is the reference's. -/
module

public import proofs.«01_k».proof.Defs
public import proofs.«01_k».proof.Proof.Proj.Spec
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ReadBack
public import Idealize.ShloMosaic.Lib.Claim

@[expose] public section

set_option maxRecDepth 16384

noncomputable section

namespace Cert.Proj.EvenInBack

open Idealize.ShloMosaic Idealize.ShloMosaic.TcCoe Idealize.SL.Sem

section Kern
open Cert.Kernel11Ideal Cert.Kernel11Ideal.Gen
variable (m : (ℓ : Loc nD τ sig) → Buf (Elt Ideal) ℓ) (c : Dev nD) (t : Fin cfg0.N)

theorem pay1_at (a b : Fin 1024) : k0_pay1 (F := Ideal) (ix2 a b) = 0 := by
  pointwise [k0_pay1]
theorem pay2_at (s : Vec Ideal S1024x1024 .f32) (u v : Vec Ideal S1024x640 .bf16) (a b : Fin 1024) :
    k0_pay2 s u v (ix2 a b) = s (ix2 a b) + ∑ k : Fin 640, u (ix2 a k) * v (ix2 b k) := by
  pointwise [k0_pay2]

/-- What the point before left in scratch. -/
abbrev prev := (outsAt0 m c (t.val - 1) (Nat.lt_of_le_of_lt (Nat.sub_le _ _) t.isLt)).2

theorem outs_first (h : t.val % 4 = 0) : (outsAt0 m c t.val t.isLt).2
    = k0_pay2 (k0_pay1 (F := Ideal)) (iblk m c 0 t) (iblk m c 1 t) := by
  rw [outsAt0_A m c t h (by omega)]
  frame_out

theorem outs_last (h : t.val % 4 = 3) : outsAt0 m c t.val t.isLt
    = (k0_pay2 (prev m c t) (iblk m c 0 t) (iblk m c 1 t), k0_pay2 (prev m c t) (iblk m c 0 t) (iblk m c 1 t)) := by
  rw [outsAt0_C m c t (by omega) h]
  frame_out
  simp only [read_unread_whole]

theorem outs_later (h : ¬t.val % 4 = 0) : (outsAt0 m c t.val t.isLt).2
    = k0_pay2 (prev m c t) (iblk m c 0 t) (iblk m c 1 t) := by
  by_cases h1 : t.val % 4 = 3
  · rw [outs_last m c t h1]
  · rw [outsAt0_B m c t h h1]
    frame_out
    simp only [read_unread_whole]

/-- The arguments on core `c`. -/
abbrev aD (r : Fin 4096) (k : Fin 2560) : EReal := (m ((c : Thread nD τ).loc main_arg0) : FVec Ideal S4096x2560 .bf16) (ix2 r k)
abbrev aW (d : Fin 1024) (k : Fin 2560) : EReal := (m ((c : Thread nD τ).loc main_arg1) : FVec Ideal S1024x2560 .bf16) (ix2 d k)

theorem idx0 : ∀ t : Fin cfg0.N, (t : ℕ) < 16 ∧ win0_0.index t = ![t.val / 4, t.val % 4] ∧ win0_1.index t = ![0, t.val % 4]
    ∧ win0_2.index t = ![t.val / 4, 0] := by decide +kernel

/-- A point's tile of rows and block of the sum. -/
def ti (t : Fin cfg0.N) : Fin 4 := ⟨t.val / 4, by have := (idx0 t).1; omega⟩
def tk (t : Fin cfg0.N) : Fin 4 := ⟨t.val % 4, by omega⟩
abbrev row (i : Fin 4) (r : Fin 1024) : Fin 4096 := at_ rfl i r
abbrev col (j : Fin 4) (k : Fin 640) : Fin 2560 := at_ rfl j k

theorem blk_d (r : Fin 1024) (k : Fin 640) : iblk m c 0 t (ix2 r k) = aD m c (row (ti t) r) (col (tk t) k) := by
  refine Eq.trans ?_ (congrFun (V_main_arg0 m c) (ix2 (row (ti t) r) (col (tk t) k)))
  obtain ⟨_, e, _⟩ := idx0 t
  blk_ext [iblk, V, e] <;> simp [ti, tk, at_val]

theorem blk_w (d : Fin 1024) (k : Fin 640) : iblk m c 1 t (ix2 d k) = aW m c d (col (tk t) k) := by
  refine Eq.trans ?_ (congrFun (V_main_arg1 m c) (ix2 d (col (tk t) k)))
  obtain ⟨_, _, e, _⟩ := idx0 t
  blk_ext [iblk, V, e] <;> simp [tk, at_val]

/-- The terms of an element of a point's tile, and the point's share of their sum. -/
def term (r d : Fin 1024) (t : Fin cfg0.N) (k : Fin 2560) : EReal := aD m c (row (ti t) r) k * aW m c d k
def part (r d : Fin 1024) (t : Fin cfg0.N) : EReal := ∑ k : Fin 640, term m c r d t (col (tk t) k)

theorem step_at (s : Vec Ideal S1024x1024 .f32) (r d : Fin 1024) :
    k0_pay2 s (iblk m c 0 t) (iblk m c 1 t) (ix2 r d) = s (ix2 r d) + part m c r d t := by
  rw [pay2_at]
  simp only [blk_d, blk_w]
  rfl

theorem acc_last (h : t.val % 4 = 3) (r d : Fin 1024) :
    (outsAt0 m c t.val t.isLt).2 (ix2 r d) = ∑ k, term m c r d t k :=
  acc_sum (J := 4) (b := 640) rfl (fun k hk => (outsAt0 m c k hk).2 (ix2 r d)) (term m c r d) (part m c r d) (fun _ => rfl)
    (fun t h => by rw [outs_first m c t h, step_at, pay1_at])
    (fun t h => by rw [outs_later m c t h, step_at])
    (fun t t' h => by unfold term ti; simp only [h]) t h

/-- The gradient. -/
def out (r : Fin 4096) (d : Fin 1024) : EReal := ∑ k, aD m c r k * aW m c d k

theorem out_at (h : t.val % 4 = 3) (r d : Fin 1024) :
    (outsAt0 m c t.val t.isLt).1 (ix2 r d) = out m c (row (ti t) r) d := by
  have e : (outsAt0 m c t.val t.isLt).1 = (outsAt0 m c t.val t.isLt).2 := by
    rw [outs_last m c t h]
  rw [e, acc_last m c t h r d]
  rfl

theorem arr_out : (dats m 0 c).arrAt 2 cfg0.N = arr (out m c) := by
  refine (dats m 0 c).arrAt_eq_of_covers 2 _ (by decide +kernel) fun t hf y => ?_
  have h : t.val % 4 = 3 := (flush0_2 t).mp hf
  blk_simp
  rw [after0_2]
  obtain ⟨_, _, _, e⟩ := idx0 t
  have key := out_at m c t h (y 0) (y 1)
  rw [← eq_ix2 (n0 := 1024) (n1 := 1024) y] at key
  refine key.trans ((arr_at (out m c) (row (ti t) (y 0)) (y 1)).symm.trans (congrArg (arr (out m c)) ?_))
  blk_ext [e] <;> simp [ti] <;> rfl

/-- What the kernel's program leaves in its result. -/
theorem kernel_run (g : Dev nD → PrngReg) : θ_run defs (onTc (τ := τ) (main (F := Ideal))) ⟨m, fun _ => 0, g⟩ fun r =>
    ∀ c : Dev nD, r.2.mem ((c.tc : Thread nD τ).loc main_v0) = arr (out m c) :=
  (θ_run defs _ _).mono (fun _ h c => (h.out_eq c 2).trans (arr_out m c)) (run_main m g)

end Kern

section Ref
open Cert.Reference11Ideal Cert.Reference11Ideal.Read
variable (x0 : FVec Ideal S4096x2560 .bf16) (x1 : FVec Ideal S1024x2560 .bf16)

theorem ref_at (r : Fin 4096) (d : Fin 1024) : val_main_v4 (F := Ideal) x0 x1 (ix2 r d)
    = ∑ k : Fin 2560, x0 (ix2 r k) * x1 (ix2 d k) := by
  rw [val_main_v4_apply]
  refine Finset.sum_congr rfl fun k _ => ?_
  rw [show lidx_main_v4 (ix2 r d) k = ix2 r k from eq_ix2 _, show ridx_main_v4 (ix2 r d) k = ix2 d k from eq_ix2 _]
  rfl

theorem reference_run (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem ((c.tc : Thread nD τ).loc main_v4)
      = val_main_v4 (F := Ideal) (m (c.tc.loc main_arg0)) (m (c.tc.loc main_arg1))
    ∧ r.2.mem (c.tc.loc main_arg0) = m (c.tc.loc main_arg0) ∧ r.2.mem (c.tc.loc main_arg1) = m (c.tc.loc main_arg1) :=
  (θ_run defs _ _).mono (fun _ h c => ⟨(h c).1.trans (val_main_v4_eq _ _), (h c).2⟩) (Cert.Reference11Ideal.Value.run m g)

end Ref

/-- The two results are one array. -/
theorem algebraic : @Cert.algebraic_Kernel11Ideal_Reference11Ideal Cert.Kernel11Ideal.Gen.facts Cert.Reference11Ideal.Gen.facts := by
  pair_intro
  · run_from (kernel_run m g) & (Cert.Kernel11Ideal.Gen.unchanged m g)
  · run_from (reference_run m' g')
    exact eq_arr (ref_at _ _)

end Cert.Proj.EvenInBack

end
-- ==== Proof.Proj.Out.lean ====
/- A mixer's output projection added to the residual: the kernel's sum, block by block, is the reference's. -/
module

public import proofs.«01_k».proof.Defs
public import proofs.«01_k».proof.Proof.Proj.Spec
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ReadBack
public import Idealize.ShloMosaic.Lib.Claim

@[expose] public section

set_option maxRecDepth 16384

noncomputable section

namespace Cert.Proj.Out

open Idealize.ShloMosaic Idealize.ShloMosaic.TcCoe Idealize.SL.Sem

section Kern
open Cert.Kernel12Ideal Cert.Kernel12Ideal.Gen
variable (m : (ℓ : Loc nD τ sig) → Buf (Elt Ideal) ℓ) (c : Dev nD) (t : Fin cfg0.N)

theorem pay_at (u v : Vec Ideal S1024x1024 .bf16) (w : Vec Ideal S1024x1024 .f32) (a b : Fin 1024) :
    k0_pay3 (k0_pay2 (k0_pay1 (F := Ideal)) u v) w (ix2 a b) = ∑ k : Fin 1024, u (ix2 a k) * v (ix2 k b) + w (ix2 a b) := by
  pointwise [k0_pay3, k0_pay2, k0_pay1]

theorem outs : outsAt0 m c t
    = k0_pay3 (k0_pay2 (k0_pay1 (F := Ideal)) (iblk m c 0 t) (iblk m c 1 t)) (iblk m c 2 t) := by
  unfold outsAt0
  frame_out

/-- The arguments on core `c`. -/
abbrev aH (r : Fin 4096) (k : Fin 1024) : EReal := (m ((c : Thread nD τ).loc main_arg0) : FVec Ideal S4096x1024 .bf16) (ix2 r k)
abbrev aW (k q : Fin 1024) : EReal := (m ((c : Thread nD τ).loc main_arg1) : FVec Ideal S1024x1024 .bf16) (ix2 k q)
abbrev aX (r : Fin 4096) (q : Fin 1024) : EReal := (m ((c : Thread nD τ).loc main_arg2) : FVec Ideal S4096x1024 .f32) (ix2 r q)

theorem idx0 : ∀ t : Fin cfg0.N, (t : ℕ) < 4 ∧ win0_0.index t = ![t.val, 0] ∧ win0_1.index t = ![0, 0]
    ∧ win0_2.index t = ![t.val, 0] ∧ win0_3.index t = ![t.val, 0] := by decide +kernel

/-- A point's tile of rows. -/
def ti (t : Fin cfg0.N) : Fin 4 := ⟨t.val, by have := (idx0 t).1; omega⟩
abbrev row (i : Fin 4) (r : Fin 1024) : Fin 4096 := at_ rfl i r

theorem blk_h (r k : Fin 1024) : iblk m c 0 t (ix2 r k) = aH m c (row (ti t) r) k := by
  refine Eq.trans ?_ (congrFun (V_main_arg0 m c) (ix2 (row (ti t) r) k))
  obtain ⟨_, e, _⟩ := idx0 t
  blk_ext [iblk, V, e] <;> simp [ti] <;> rfl

theorem blk_w (k q : Fin 1024) : iblk m c 1 t (ix2 k q) = aW m c k q := by
  refine Eq.trans ?_ (congrFun (V_main_arg1 m c) (ix2 k q))
  obtain ⟨_, _, e, _⟩ := idx0 t
  blk_ext [iblk, V, e] <;> simp

theorem blk_x (r q : Fin 1024) : iblk m c 2 t (ix2 r q) = aX m c (row (ti t) r) q := by
  refine Eq.trans ?_ (congrFun (V_main_arg2 m c) (ix2 (row (ti t) r) q))
  obtain ⟨_, _, _, e, _⟩ := idx0 t
  blk_ext [iblk, V, e] <;> simp [ti] <;> rfl

/-- The sum. -/
def out (r : Fin 4096) (q : Fin 1024) : EReal := ∑ k, aH m c r k * aW m c k q + aX m c r q

theorem out_at (r q : Fin 1024) : outsAt0 m c t (ix2 r q) = out m c (row (ti t) r) q := by
  rw [outs, pay_at]
  simp only [blk_h, blk_w, blk_x]
  rfl

theorem arr_out : (dats m 0 c).arrAt 3 cfg0.N = arr (out m c) := by
  refine (dats m 0 c).arrAt_eq_of_covers 3 _ (by decide +kernel) fun t _ y => ?_
  blk_simp
  rw [after0_3]
  obtain ⟨_, _, _, _, e⟩ := idx0 t
  have key := out_at m c t (y 0) (y 1)
  rw [← eq_ix2 (n0 := 1024) (n1 := 1024) y] at key
  refine key.trans ((arr_at (out m c) (row (ti t) (y 0)) (y 1)).symm.trans (congrArg (arr (out m c)) ?_))
  blk_ext [e] <;> simp [ti] <;> rfl

/-- What the kernel's program leaves in its result. -/
theorem kernel_run (g : Dev nD → PrngReg) : θ_run defs (onTc (τ := τ) (main (F := Ideal))) ⟨m, fun _ => 0, g⟩ fun r =>
    ∀ c : Dev nD, r.2.mem ((c.tc : Thread nD τ).loc main_v0) = arr (out m c) :=
  (θ_run defs _ _).mono (fun _ h c => (h.out_eq c 3).trans (arr_out m c)) (run_main m g)

end Kern

section Ref
open Cert.Reference12Ideal Cert.Reference12Ideal.Read
variable (x0 : FVec Ideal S4096x1024 .bf16) (x1 : FVec Ideal S1024x1024 .bf16) (x2 : FVec Ideal S4096x1024 .f32)

theorem ref_at (r : Fin 4096) (q : Fin 1024) : val_main_v3 (F := Ideal) x0 x1 x2 (ix2 r q)
    = ∑ k : Fin 1024, x0 (ix2 r k) * x1 (ix2 k q) + x2 (ix2 r q) := by
  rw [val_main_v3_apply]
  refine (add_comm _ _).trans (congrArg (· + x2 (ix2 r q)) ((val_main_v2_apply x0 x1 _).trans ?_))
  refine Finset.sum_congr rfl fun k _ => ?_
  rw [show lidx_main_v2 (ix2 r q) k = ix2 r k from eq_ix2 _, show ridx_main_v2 (ix2 r q) k = ix2 k q from eq_ix2 _]
  rfl

theorem reference_run (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem ((c.tc : Thread nD τ).loc main_v3)
      = val_main_v3 (F := Ideal) (m (c.tc.loc main_arg0)) (m (c.tc.loc main_arg1)) (m (c.tc.loc main_arg2))
    ∧ r.2.mem (c.tc.loc main_arg0) = m (c.tc.loc main_arg0) ∧ r.2.mem (c.tc.loc main_arg1) = m (c.tc.loc main_arg1)
    ∧ r.2.mem (c.tc.loc main_arg2) = m (c.tc.loc main_arg2) :=
  (θ_run defs _ _).mono (fun _ h c => ⟨(h c).1.trans (val_main_v3_eq _ _ _), (h c).2⟩) (Cert.Reference12Ideal.Value.run m g)

end Ref

/-- The two results are one array. -/
theorem algebraic : @Cert.algebraic_Kernel12Ideal_Reference12Ideal Cert.Kernel12Ideal.Gen.facts Cert.Reference12Ideal.Gen.facts := by
  pair_intro
  · run_from (kernel_run m g) & (Cert.Kernel12Ideal.Gen.unchanged m g)
  · run_from (reference_run m' g')
    exact eq_arr (ref_at _ _ _)

end Cert.Proj.Out

end
-- ==== Proof.Proj.OutBack.lean ====
/- The gradient of a mixer's output from its output projection: the kernel's product with the transposed weight, block by block, is the reference's. -/
module

public import proofs.«01_k».proof.Defs
public import proofs.«01_k».proof.Proof.Proj.Spec
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ReadBack
public import Idealize.ShloMosaic.Lib.Claim

@[expose] public section

set_option maxRecDepth 16384

noncomputable section

namespace Cert.Proj.OutBack

open Idealize.ShloMosaic Idealize.ShloMosaic.TcCoe Idealize.SL.Sem

section Kern
open Cert.Kernel13Ideal Cert.Kernel13Ideal.Gen
variable (m : (ℓ : Loc nD τ sig) → Buf (Elt Ideal) ℓ) (c : Dev nD) (t : Fin cfg0.N)

theorem pay_at (u : Vec Ideal S1024x1024 .f32) (v : Vec Ideal S1024x1024 .bf16) (a b : Fin 1024) :
    k0_pay2 (k0_pay1 (F := Ideal)) u v (ix2 a b) = ∑ k : Fin 1024, u (ix2 a k) * v (ix2 b k) := by
  pointwise [k0_pay2, k0_pay1]

theorem outs : outsAt0 m c t = k0_pay2 (k0_pay1 (F := Ideal)) (iblk m c 0 t) (iblk m c 1 t) := by
  unfold outsAt0
  frame_out

/-- The arguments on core `c`. -/
abbrev aD (r : Fin 4096) (k : Fin 1024) : EReal := (m ((c : Thread nD τ).loc main_arg0) : FVec Ideal S4096x1024 .f32) (ix2 r k)
abbrev aW (k q : Fin 1024) : EReal := (m ((c : Thread nD τ).loc main_arg1) : FVec Ideal S1024x1024 .bf16) (ix2 k q)

theorem idx0 : ∀ t : Fin cfg0.N, (t : ℕ) < 4 ∧ win0_0.index t = ![t.val, 0] ∧ win0_1.index t = ![0, 0]
    ∧ win0_2.index t = ![t.val, 0] := by decide +kernel

/-- A point's tile of rows. -/
def ti (t : Fin cfg0.N) : Fin 4 := ⟨t.val, by have := (idx0 t).1; omega⟩
abbrev row (i : Fin 4) (r : Fin 1024) : Fin 4096 := at_ rfl i r

theorem blk_d (r k : Fin 1024) : iblk m c 0 t (ix2 r k) = aD m c (row (ti t) r) k := by
  refine Eq.trans ?_ (congrFun (V_main_arg0 m c) (ix2 (row (ti t) r) k))
  obtain ⟨_, e, _⟩ := idx0 t
  blk_ext [iblk, V, e] <;> simp [ti] <;> rfl

theorem blk_w (k q : Fin 1024) : iblk m c 1 t (ix2 k q) = aW m c k q := by
  refine Eq.trans ?_ (congrFun (V_main_arg1 m c) (ix2 k q))
  obtain ⟨_, _, e, _⟩ := idx0 t
  blk_ext [iblk, V, e] <;> simp

/-- The gradient. -/
def out (r : Fin 4096) (q : Fin 1024) : EReal := ∑ k, aD m c r k * aW m c q k

theorem out_at (r q : Fin 1024) : outsAt0 m c t (ix2 r q) = out m c (row (ti t) r) q := by
  rw [outs, pay_at]
  simp only [blk_d, blk_w]
  rfl

theorem arr_out : (dats m 0 c).arrAt 2 cfg0.N = arr (out m c) := by
  refine (dats m 0 c).arrAt_eq_of_covers 2 _ (by decide +kernel) fun t _ y => ?_
  blk_simp
  rw [after0_2]
  obtain ⟨_, _, _, e⟩ := idx0 t
  have key := out_at m c t (y 0) (y 1)
  rw [← eq_ix2 (n0 := 1024) (n1 := 1024) y] at key
  refine key.trans ((arr_at (out m c) (row (ti t) (y 0)) (y 1)).symm.trans (congrArg (arr (out m c)) ?_))
  blk_ext [e] <;> simp [ti] <;> rfl

/-- What the kernel's program leaves in its result. -/
theorem kernel_run (g : Dev nD → PrngReg) : θ_run defs (onTc (τ := τ) (main (F := Ideal))) ⟨m, fun _ => 0, g⟩ fun r =>
    ∀ c : Dev nD, r.2.mem ((c.tc : Thread nD τ).loc main_v0) = arr (out m c) :=
  (θ_run defs _ _).mono (fun _ h c => (h.out_eq c 2).trans (arr_out m c)) (run_main m g)

end Kern

section Ref
open Cert.Reference13Ideal Cert.Reference13Ideal.Read
variable (x0 : FVec Ideal S4096x1024 .f32) (x1 : FVec Ideal S1024x1024 .bf16)

theorem ref_at (r : Fin 4096) (q : Fin 1024) : val_main_v3 (F := Ideal) x0 x1 (ix2 r q)
    = ∑ k : Fin 1024, x0 (ix2 r k) * x1 (ix2 q k) := by
  rw [val_main_v3_apply]
  refine Finset.sum_congr rfl fun k _ => ?_
  rw [show lidx_main_v3 (ix2 r q) k = ix2 r k from eq_ix2 _, show ridx_main_v3 (ix2 r q) k = ix2 q k from eq_ix2 _]
  rfl

theorem reference_run (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem ((c.tc : Thread nD τ).loc main_v3)
      = val_main_v3 (F := Ideal) (m (c.tc.loc main_arg0)) (m (c.tc.loc main_arg1))
    ∧ r.2.mem (c.tc.loc main_arg0) = m (c.tc.loc main_arg0) ∧ r.2.mem (c.tc.loc main_arg1) = m (c.tc.loc main_arg1) :=
  (θ_run defs _ _).mono (fun _ h c => ⟨(h c).1.trans (val_main_v3_eq _ _), (h c).2⟩) (Cert.Reference13Ideal.Value.run m g)

end Ref

/-- The two results are one array. -/
theorem algebraic : @Cert.algebraic_Kernel13Ideal_Reference13Ideal Cert.Kernel13Ideal.Gen.facts Cert.Reference13Ideal.Gen.facts := by
  pair_intro
  · run_from (kernel_run m g) & (Cert.Kernel13Ideal.Gen.unchanged m g)
  · run_from (reference_run m' g')
    exact eq_arr (ref_at _ _)

end Cert.Proj.OutBack

end
-- ==== Proof.Proj.OutW.lean ====
/- The gradient of a mixer's output projection's weight: the kernel's product of the transposed rows with the gradient,
   accumulated over four tiles of rows, is the reference's. -/
module

public import proofs.«01_k».proof.Defs
public import proofs.«01_k».proof.Proof.Proj.Spec
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ReadBack
public import Idealize.ShloMosaic.Lib.Claim

@[expose] public section

set_option maxRecDepth 16384

noncomputable section

namespace Cert.Proj.OutW

open Idealize.ShloMosaic Idealize.ShloMosaic.TcCoe Idealize.SL.Sem

section Kern
open Cert.Kernel14Ideal Cert.Kernel14Ideal.Gen
variable (m : (ℓ : Loc nD τ sig) → Buf (Elt Ideal) ℓ) (c : Dev nD) (t : Fin cfg0.N)

theorem pay1_at (a b : Fin 1024) : k0_pay1 (F := Ideal) (ix2 a b) = 0 := by
  pointwise [k0_pay1]
theorem pay2_at (s : Vec Ideal S1024x1024 .f32) (u : Vec Ideal S1024x1024 .bf16) (v : Vec Ideal S1024x1024 .f32)
    (a b : Fin 1024) : k0_pay2 s u v (ix2 a b) = s (ix2 a b) + ∑ r : Fin 1024, u (ix2 r a) * v (ix2 r b) := by
  pointwise [k0_pay2]
theorem pay3_at (s : Vec Ideal S1024x1024 .f32) (a b : Fin 1024) : k0_pay3 s (ix2 a b) = s (ix2 a b) := by
  pointwise [k0_pay3]

/-- What the point before left in scratch. -/
abbrev prev := (outsAt0 m c (t.val - 1) (Nat.lt_of_le_of_lt (Nat.sub_le _ _) t.isLt)).2

theorem outs_first (h : t.val % 4 = 0) : (outsAt0 m c t.val t.isLt).2
    = k0_pay2 (k0_pay1 (F := Ideal)) (iblk m c 0 t) (iblk m c 1 t) := by
  rw [outsAt0_A m c t h (by omega)]
  frame_out

theorem outs_last (h : t.val % 4 = 3) : outsAt0 m c t.val t.isLt
    = (k0_pay3 (k0_pay2 (prev m c t) (iblk m c 0 t) (iblk m c 1 t)),
        k0_pay2 (prev m c t) (iblk m c 0 t) (iblk m c 1 t)) := by
  rw [outsAt0_C m c t (by omega) h]
  frame_out
  simp only [read_unread_whole]

theorem outs_later (h : ¬t.val % 4 = 0) : (outsAt0 m c t.val t.isLt).2
    = k0_pay2 (prev m c t) (iblk m c 0 t) (iblk m c 1 t) := by
  by_cases h1 : t.val % 4 = 3
  · rw [outs_last m c t h1]
  · rw [outsAt0_B m c t h h1]
    frame_out
    simp only [read_unread_whole]

/-- The arguments on core `c`. -/
abbrev aH (r : Fin 4096) (d : Fin 1024) : EReal := (m ((c : Thread nD τ).loc main_arg0) : FVec Ideal S4096x1024 .bf16) (ix2 r d)
abbrev aD (r : Fin 4096) (q : Fin 1024) : EReal := (m ((c : Thread nD τ).loc main_arg1) : FVec Ideal S4096x1024 .f32) (ix2 r q)

theorem idx0 : ∀ t : Fin cfg0.N, (t : ℕ) < 4 ∧ win0_0.index t = ![t.val % 4, 0] ∧ win0_1.index t = ![t.val % 4, 0]
    ∧ win0_2.index t = ![0, 0] := by decide +kernel

/-- A point's tile of rows. -/
def ti (t : Fin cfg0.N) : Fin 4 := ⟨t.val % 4, by omega⟩
abbrev row (i : Fin 4) (r : Fin 1024) : Fin 4096 := at_ rfl i r

theorem blk_h (r d : Fin 1024) : iblk m c 0 t (ix2 r d) = aH m c (row (ti t) r) d := by
  refine Eq.trans ?_ (congrFun (V_main_arg0 m c) (ix2 (row (ti t) r) d))
  obtain ⟨_, e, _⟩ := idx0 t
  blk_ext [iblk, V, e] <;> simp [ti, at_val]

theorem blk_d (r : Fin 1024) (q : Fin 1024) : iblk m c 1 t (ix2 r q) = aD m c (row (ti t) r) q := by
  refine Eq.trans ?_ (congrFun (V_main_arg1 m c) (ix2 (row (ti t) r) q))
  obtain ⟨_, _, e, _⟩ := idx0 t
  blk_ext [iblk, V, e] <;> simp [ti, at_val]

/-- The terms of an element, and the point's share of their sum. -/
def term (d q : Fin 1024) (t : Fin cfg0.N) (r : Fin 4096) : EReal := aH m c r d * aD m c r q
def part (d q : Fin 1024) (t : Fin cfg0.N) : EReal := ∑ r : Fin 1024, term m c d q t (row (ti t) r)

theorem step_at (s : Vec Ideal S1024x1024 .f32) (d q : Fin 1024) :
    k0_pay2 s (iblk m c 0 t) (iblk m c 1 t) (ix2 d q) = s (ix2 d q) + part m c d q t := by
  rw [pay2_at]
  simp only [blk_h, blk_d]
  rfl

theorem acc_last (h : t.val % 4 = 3) (d q : Fin 1024) :
    (outsAt0 m c t.val t.isLt).2 (ix2 d q) = ∑ r, term m c d q t r :=
  acc_sum (J := 4) (b := 1024) rfl (fun k hk => (outsAt0 m c k hk).2 (ix2 d q)) (term m c d q) (part m c d q) (fun _ => rfl)
    (fun t h => by rw [outs_first m c t h, step_at, pay1_at])
    (fun t h => by rw [outs_later m c t h, step_at])
    (fun _ _ _ => by rfl) t h

/-- The gradient. -/
def out (d q : Fin 1024) : EReal := ∑ r, aH m c r d * aD m c r q

theorem out_at (h : t.val % 4 = 3) (d q : Fin 1024) :
    (outsAt0 m c t.val t.isLt).1 (ix2 d q) = out m c d q := by
  have e : (outsAt0 m c t.val t.isLt).1 = k0_pay3 (outsAt0 m c t.val t.isLt).2 := by
    rw [outs_last m c t h]
  rw [e, pay3_at, acc_last m c t h d q]
  rfl

theorem arr_out : (dats m 0 c).arrAt 2 cfg0.N = arr (out m c) := by
  refine (dats m 0 c).arrAt_eq_of_covers 2 _ (by decide +kernel) fun t hf y => ?_
  have h : t.val % 4 = 3 := (flush0_2 t).mp hf
  blk_simp
  rw [after0_2]
  obtain ⟨_, _, _, e⟩ := idx0 t
  have key := out_at m c t h (y 0) (y 1)
  rw [← eq_ix2 (n0 := 1024) (n1 := 1024) y] at key
  refine key.trans ((arr_at (out m c) (y 0) (y 1)).symm.trans (congrArg (arr (out m c)) ?_))
  blk_ext [e] <;> simp

/-- What the kernel's program leaves in its result. -/
theorem kernel_run (g : Dev nD → PrngReg) : θ_run defs (onTc (τ := τ) (main (F := Ideal))) ⟨m, fun _ => 0, g⟩ fun r =>
    ∀ c : Dev nD, r.2.mem ((c.tc : Thread nD τ).loc main_v0) = arr (out m c) :=
  (θ_run defs _ _).mono (fun _ h c => (h.out_eq c 2).trans (arr_out m c)) (run_main m g)

end Kern

section Ref
open Cert.Reference14Ideal Cert.Reference14Ideal.Read
variable (x0 : FVec Ideal S4096x1024 .bf16) (x1 : FVec Ideal S4096x1024 .f32)

theorem ref_at (d q : Fin 1024) : val_main_v5 (F := Ideal) x0 x1 (ix2 d q)
    = ∑ r : Fin 4096, x0 (ix2 r d) * x1 (ix2 r q) := by
  rw [val_main_v5_apply, val_main_v4_apply, show idx_main_v4 (ix2 d q) = ix2 q d from eq_ix2 _]
  refine (val_main_v3_apply x0 x1 _).trans (Finset.sum_congr rfl fun r _ => ?_)
  rw [show lidx_main_v3 (ix2 q d) r = ix2 r q from eq_ix2 _, show ridx_main_v3 (ix2 q d) r = ix2 r d from eq_ix2 _]
  exact mul_comm _ _

theorem reference_run (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem ((c.tc : Thread nD τ).loc main_v5)
      = val_main_v5 (F := Ideal) (m (c.tc.loc main_arg0)) (m (c.tc.loc main_arg1))
    ∧ r.2.mem (c.tc.loc main_arg0) = m (c.tc.loc main_arg0) ∧ r.2.mem (c.tc.loc main_arg1) = m (c.tc.loc main_arg1) :=
  (θ_run defs _ _).mono (fun _ h c => ⟨(h c).1.trans (val_main_v5_eq _ _), (h c).2⟩) (Cert.Reference14Ideal.Value.run m g)

end Ref

/-- The two results are one array. -/
theorem algebraic : @Cert.algebraic_Kernel14Ideal_Reference14Ideal Cert.Kernel14Ideal.Gen.facts Cert.Reference14Ideal.Gen.facts := by
  pair_intro
  · run_from (kernel_run m g) & (Cert.Kernel14Ideal.Gen.unchanged m g)
  · run_from (reference_run m' g')
    exact eq_arr (ref_at _ _)

end Cert.Proj.OutW

end
-- ==== Proof.Proj.Gate.lean ====
/- The gate of the per-layer embedding: the kernel's product, block by block, is the reference's. -/
module

public import proofs.«01_k».proof.Defs
public import proofs.«01_k».proof.Proof.Proj.Spec
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.ReadBack
public import Idealize.ShloMosaic.Lib.Claim

@[expose] public section

set_option maxRecDepth 16384

noncomputable section

namespace Cert.Proj.Gate

open Idealize.ShloMosaic Idealize.ShloMosaic.TcCoe Idealize.SL.Sem

section Kern
open Cert.Kernel15Ideal Cert.Kernel15Ideal.Gen
variable (m : (ℓ : Loc nD τ sig) → Buf (Elt Ideal) ℓ) (c : Dev nD) (t : Fin cfg0.N)

theorem pay_at (u : Vec Ideal S1024x1024 .bf16) (v : Vec Ideal S1024x1024 .bf16) (a b : Fin 1024) :
    k0_pay2 (k0_pay1 (F := Ideal)) u v (ix2 a b) = ∑ k : Fin 1024, u (ix2 a k) * v (ix2 k b) := by
  pointwise [k0_pay2, k0_pay1]

theorem outs : outsAt0 m c t = k0_pay2 (k0_pay1 (F := Ideal)) (iblk m c 0 t) (iblk m c 1 t) := by
  unfold outsAt0
  frame_out

/-- The arguments on core `c`. -/
abbrev aH (r : Fin 4096) (k : Fin 1024) : EReal := (m ((c : Thread nD τ).loc main_arg0) : FVec Ideal S4096x1024 .bf16) (ix2 r k)
abbrev aW (k q : Fin 1024) : EReal := (m ((c : Thread nD τ).loc main_arg1) : FVec Ideal S1024x1024 .bf16) (ix2 k q)

theorem idx0 : ∀ t : Fin cfg0.N, (t : ℕ) < 4 ∧ win0_0.index t = ![t.val, 0] ∧ win0_1.index t = ![0, 0]
    ∧ win0_2.index t = ![t.val, 0] := by decide +kernel

/-- A point's tile of rows. -/
def ti (t : Fin cfg0.N) : Fin 4 := ⟨t.val, by have := (idx0 t).1; omega⟩
abbrev row (i : Fin 4) (r : Fin 1024) : Fin 4096 := at_ rfl i r

theorem blk_h (r k : Fin 1024) : iblk m c 0 t (ix2 r k) = aH m c (row (ti t) r) k := by
  refine Eq.trans ?_ (congrFun (V_main_arg0 m c) (ix2 (row (ti t) r) k))
  obtain ⟨_, e, _⟩ := idx0 t
  blk_ext [iblk, V, e] <;> simp [ti] <;> rfl

theorem blk_w (k q : Fin 1024) : iblk m c 1 t (ix2 k q) = aW m c k q := by
  refine Eq.trans ?_ (congrFun (V_main_arg1 m c) (ix2 k q))
  obtain ⟨_, _, e, _⟩ := idx0 t
  blk_ext [iblk, V, e] <;> simp

/-- The product. -/
def out (r : Fin 4096) (q : Fin 1024) : EReal := ∑ k, aH m c r k * aW m c k q

theorem out_at (r q : Fin 1024) : outsAt0 m c t (ix2 r q) = out m c (row (ti t) r) q := by
  rw [outs, pay_at]
  simp only [blk_h, blk_w]
  rfl

theorem arr_out : (dats m 0 c).arrAt 2 cfg0.N = arr (out m c) := by
  refine (dats m 0 c).arrAt_eq_of_covers 2 _ (by decide +kernel) fun t _ y => ?_
  blk_simp
  rw [after0_2]
  obtain ⟨_, _, _, e⟩ := idx0 t
  have key := out_at m c t (y 0) (y 1)
  rw [← eq_ix2 (n0 := 1024) (n1 := 1024) y] at key
  refine key.trans ((arr_at (out m c) (row (ti t) (y 0)) (y 1)).symm.trans (congrArg (arr (out m c)) ?_))
  blk_ext [e] <;> simp [ti] <;> rfl

/-- What the kernel's program leaves in its result. -/
theorem kernel_run (g : Dev nD → PrngReg) : θ_run defs (onTc (τ := τ) (main (F := Ideal))) ⟨m, fun _ => 0, g⟩ fun r =>
    ∀ c : Dev nD, r.2.mem ((c.tc : Thread nD τ).loc main_v0) = arr (out m c) :=
  (θ_run defs _ _).mono (fun _ h c => (h.out_eq c 2).trans (arr_out m c)) (run_main m g)

end Kern

section Ref
open Cert.Reference15Ideal Cert.Reference15Ideal.Read
variable (x0 : FVec Ideal S4096x1024 .bf16) (x1 : FVec Ideal S1024x1024 .bf16)

theorem ref_at (r : Fin 4096) (q : Fin 1024) : val_main_v2 (F := Ideal) x0 x1 (ix2 r q)
    = ∑ k : Fin 1024, x0 (ix2 r k) * x1 (ix2 k q) := by
  rw [val_main_v2_apply]
  refine Finset.sum_congr rfl fun k _ => ?_
  rw [show lidx_main_v2 (ix2 r q) k = ix2 r k from eq_ix2 _, show ridx_main_v2 (ix2 r q) k = ix2 k q from eq_ix2 _]
  rfl

theorem reference_run (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem ((c.tc : Thread nD τ).loc main_v2)
      = val_main_v2 (F := Ideal) (m (c.tc.loc main_arg0)) (m (c.tc.loc main_arg1))
    ∧ r.2.mem (c.tc.loc main_arg0) = m (c.tc.loc main_arg0) ∧ r.2.mem (c.tc.loc main_arg1) = m (c.tc.loc main_arg1) :=
  (θ_run defs _ _).mono (fun _ h c => ⟨(h c).1.trans (val_main_v2_eq _ _), (h c).2⟩) (Cert.Reference15Ideal.Value.run m g)

end Ref

/-- The two results are one array. -/
theorem algebraic : @Cert.algebraic_Kernel15Ideal_Reference15Ideal Cert.Kernel15Ideal.Gen.facts Cert.Reference15Ideal.Gen.facts := by
  pair_intro
  · run_from (kernel_run m g) & (Cert.Kernel15Ideal.Gen.unchanged m g)
  · run_from (reference_run m' g')
    exact eq_arr (ref_at _ _)

end Cert.Proj.Gate

end
-- ==== Proof.Proj.GateW.lean ====
/- The gradient of the gate of the per-layer embedding's weight: the kernel's product of the transposed rows with the gradient,
   accumulated over four tiles of rows, is the reference's. -/
module

public import proofs.«01_k».proof.Defs
public import proofs.«01_k».proof.Proof.Proj.Spec
public import proofs.«01_k».proof.Proof.Gen.Kernel16Ideal.Value
public import proofs.«01_k».proof.Proof.Gen.Reference16Ideal.Run
public import proofs.«01_k».proof.Proof.Gen.Reference16Ideal.Read
public import Idealize.ShloMosaic.Lib.Pipeline.ReadBack
public import Idealize.ShloMosaic.Lib.Claim

@[expose] public section

set_option maxRecDepth 16384

noncomputable section

namespace Cert.Proj.GateW

open Idealize.ShloMosaic Idealize.ShloMosaic.TcCoe Idealize.SL.Sem

section Kern
open Cert.Kernel16Ideal Cert.Kernel16Ideal.Gen
variable (m : (ℓ : Loc nD τ sig) → Buf (Elt Ideal) ℓ) (c : Dev nD) (t : Fin cfg0.N)

theorem pay1_at (a b : Fin 1024) : k0_pay1 (F := Ideal) (ix2 a b) = 0 := by
  pointwise [k0_pay1]
theorem pay2_at (s : Vec Ideal S1024x1024 .f32) (u : Vec Ideal S1024x1024 .bf16) (v : Vec Ideal S1024x1024 .bf16)
    (a b : Fin 1024) : k0_pay2 s u v (ix2 a b) = s (ix2 a b) + ∑ r : Fin 1024, u (ix2 r a) * v (ix2 r b) := by
  pointwise [k0_pay2]
theorem pay3_at (s : Vec Ideal S1024x1024 .f32) (a b : Fin 1024) : k0_pay3 s (ix2 a b) = s (ix2 a b) := by
  pointwise [k0_pay3]

/-- What the point before left in scratch. -/
abbrev prev := (outsAt0 m c (t.val - 1) (Nat.lt_of_le_of_lt (Nat.sub_le _ _) t.isLt)).2

theorem outs_first (h : t.val % 4 = 0) : (outsAt0 m c t.val t.isLt).2
    = k0_pay2 (k0_pay1 (F := Ideal)) (iblk m c 0 t) (iblk m c 1 t) := by
  rw [outsAt0_A m c t h (by omega)]
  frame_out

theorem outs_last (h : t.val % 4 = 3) : outsAt0 m c t.val t.isLt
    = (k0_pay3 (k0_pay2 (prev m c t) (iblk m c 0 t) (iblk m c 1 t)),
        k0_pay2 (prev m c t) (iblk m c 0 t) (iblk m c 1 t)) := by
  rw [outsAt0_C m c t (by omega) h]
  frame_out
  simp only [read_unread_whole]

theorem outs_later (h : ¬t.val % 4 = 0) : (outsAt0 m c t.val t.isLt).2
    = k0_pay2 (prev m c t) (iblk m c 0 t) (iblk m c 1 t) := by
  by_cases h1 : t.val % 4 = 3
  · rw [outs_last m c t h1]
  · rw [outsAt0_B m c t h h1]
    frame_out
    simp only [read_unread_whole]

/-- The arguments on core `c`. -/
abbrev aH (r : Fin 4096) (d : Fin 1024) : EReal := (m ((c : Thread nD τ).loc main_arg0) : FVec Ideal S4096x1024 .bf16) (ix2 r d)
abbrev aD (r : Fin 4096) (q : Fin 1024) : EReal := (m ((c : Thread nD τ).loc main_arg1) : FVec Ideal S4096x1024 .bf16) (ix2 r q)

theorem idx0 : ∀ t : Fin cfg0.N, (t : ℕ) < 4 ∧ win0_0.index t = ![t.val % 4, 0] ∧ win0_1.index t = ![t.val % 4, 0]
    ∧ win0_2.index t = ![0, 0] := by decide +kernel

/-- A point's tile of rows. -/
def ti (t : Fin cfg0.N) : Fin 4 := ⟨t.val % 4, by omega⟩
abbrev row (i : Fin 4) (r : Fin 1024) : Fin 4096 := at_ rfl i r

theorem blk_h (r d : Fin 1024) : iblk m c 0 t (ix2 r d) = aH m c (row (ti t) r) d := by
  refine Eq.trans ?_ (congrFun (V_main_arg0 m c) (ix2 (row (ti t) r) d))
  obtain ⟨_, e, _⟩ := idx0 t
  blk_ext [iblk, V, e] <;> simp [ti, at_val]

theorem blk_d (r : Fin 1024) (q : Fin 1024) : iblk m c 1 t (ix2 r q) = aD m c (row (ti t) r) q := by
  refine Eq.trans ?_ (congrFun (V_main_arg1 m c) (ix2 (row (ti t) r) q))
  obtain ⟨_, _, e, _⟩ := idx0 t
  blk_ext [iblk, V, e] <;> simp [ti, at_val]

/-- The terms of an element, and the point's share of their sum. -/
def term (d q : Fin 1024) (t : Fin cfg0.N) (r : Fin 4096) : EReal := aH m c r d * aD m c r q
def part (d q : Fin 1024) (t : Fin cfg0.N) : EReal := ∑ r : Fin 1024, term m c d q t (row (ti t) r)

theorem step_at (s : Vec Ideal S1024x1024 .f32) (d q : Fin 1024) :
    k0_pay2 s (iblk m c 0 t) (iblk m c 1 t) (ix2 d q) = s (ix2 d q) + part m c d q t := by
  rw [pay2_at]
  simp only [blk_h, blk_d]
  rfl

theorem acc_last (h : t.val % 4 = 3) (d q : Fin 1024) :
    (outsAt0 m c t.val t.isLt).2 (ix2 d q) = ∑ r, term m c d q t r :=
  acc_sum (J := 4) (b := 1024) rfl (fun k hk => (outsAt0 m c k hk).2 (ix2 d q)) (term m c d q) (part m c d q) (fun _ => rfl)
    (fun t h => by rw [outs_first m c t h, step_at, pay1_at])
    (fun t h => by rw [outs_later m c t h, step_at])
    (fun _ _ _ => by rfl) t h

/-- The gradient. -/
def out (d q : Fin 1024) : EReal := ∑ r, aH m c r d * aD m c r q

theorem out_at (h : t.val % 4 = 3) (d q : Fin 1024) :
    (outsAt0 m c t.val t.isLt).1 (ix2 d q) = out m c d q := by
  have e : (outsAt0 m c t.val t.isLt).1 = k0_pay3 (outsAt0 m c t.val t.isLt).2 := by
    rw [outs_last m c t h]
  rw [e, pay3_at, acc_last m c t h d q]
  rfl

theorem arr_out : (dats m 0 c).arrAt 2 cfg0.N = arr (out m c) := by
  refine (dats m 0 c).arrAt_eq_of_covers 2 _ (by decide +kernel) fun t hf y => ?_
  have h : t.val % 4 = 3 := (flush0_2 t).mp hf
  blk_simp
  rw [after0_2]
  obtain ⟨_, _, _, e⟩ := idx0 t
  have key := out_at m c t h (y 0) (y 1)
  rw [← eq_ix2 (n0 := 1024) (n1 := 1024) y] at key
  refine key.trans ((arr_at (out m c) (y 0) (y 1)).symm.trans (congrArg (arr (out m c)) ?_))
  blk_ext [e] <;> simp

/-- What the kernel's program leaves in its result. -/
theorem kernel_run (g : Dev nD → PrngReg) : θ_run defs (onTc (τ := τ) (main (F := Ideal))) ⟨m, fun _ => 0, g⟩ fun r =>
    ∀ c : Dev nD, r.2.mem ((c.tc : Thread nD τ).loc main_v0) = arr (out m c) :=
  (θ_run defs _ _).mono (fun _ h c => (h.out_eq c 2).trans (arr_out m c)) (run_main m g)

end Kern

section Ref
open Cert.Reference16Ideal Cert.Reference16Ideal.Read
variable (x0 : FVec Ideal S4096x1024 .bf16) (x1 : FVec Ideal S4096x1024 .bf16)

theorem ref_at (d q : Fin 1024) : val_main_v6 (F := Ideal) x0 x1 (ix2 d q)
    = ∑ r : Fin 4096, x0 (ix2 r d) * x1 (ix2 r q) := by
  rw [val_main_v6_apply, val_main_v5_apply, show idx_main_v5 (ix2 d q) = ix2 q d from eq_ix2 _]
  refine (val_main_v4_apply x0 x1 _).trans (Finset.sum_congr rfl fun r _ => ?_)
  rw [show lidx_main_v4 (ix2 q d) r = ix2 r q from eq_ix2 _, show ridx_main_v4 (ix2 q d) r = ix2 r d from eq_ix2 _]
  exact mul_comm _ _

theorem reference_run (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem ((c.tc : Thread nD τ).loc main_v6)
      = val_main_v6 (F := Ideal) (m (c.tc.loc main_arg0)) (m (c.tc.loc main_arg1))
    ∧ r.2.mem (c.tc.loc main_arg0) = m (c.tc.loc main_arg0) ∧ r.2.mem (c.tc.loc main_arg1) = m (c.tc.loc main_arg1) :=
  (θ_run defs _ _).mono (fun _ h c => ⟨(h c).1.trans (val_main_v6_eq _ _), (h c).2⟩) (Cert.Reference16Ideal.Value.run m g)

end Ref

/-- The two results are one array. -/
theorem algebraic : @Cert.algebraic_Kernel16Ideal_Reference16Ideal Cert.Kernel16Ideal.Gen.facts Cert.Reference16Ideal.Gen.facts := by
  pair_intro
  · run_from (kernel_run m g) & (Cert.Kernel16Ideal.Gen.unchanged m g)
  · run_from (reference_run m' g')
    exact eq_arr (ref_at _ _)

end Cert.Proj.GateW

end
-- ==== Proof.Proj.GateBack.lean ====
/- The gradient of the normalized rows from the gate of the per-layer embedding: the kernel's product with the transposed weight, block by block, is the reference's. -/
module

public import proofs.«01_k».proof.Defs
public import proofs.«01_k».proof.Proof.Proj.Spec
public import proofs.«01_k».proof.Proof.Gen.Kernel17Ideal.Value
public import proofs.«01_k».proof.Proof.Gen.Reference17Ideal.Run
public import proofs.«01_k».proof.Proof.Gen.Reference17Ideal.Read
public import Idealize.ShloMosaic.Lib.Pipeline.ReadBack
public import Idealize.ShloMosaic.Lib.Claim

@[expose] public section

set_option maxRecDepth 16384

noncomputable section

namespace Cert.Proj.GateBack

open Idealize.ShloMosaic Idealize.ShloMosaic.TcCoe Idealize.SL.Sem

section Kern
open Cert.Kernel17Ideal Cert.Kernel17Ideal.Gen
variable (m : (ℓ : Loc nD τ sig) → Buf (Elt Ideal) ℓ) (c : Dev nD) (t : Fin cfg0.N)

theorem pay_at (u : Vec Ideal S1024x1024 .bf16) (v : Vec Ideal S1024x1024 .bf16) (a b : Fin 1024) :
    k0_pay2 (k0_pay1 (F := Ideal)) u v (ix2 a b) = ∑ k : Fin 1024, u (ix2 a k) * v (ix2 b k) := by
  pointwise [k0_pay2, k0_pay1]

theorem outs : outsAt0 m c t = k0_pay2 (k0_pay1 (F := Ideal)) (iblk m c 0 t) (iblk m c 1 t) := by
  unfold outsAt0
  frame_out

/-- The arguments on core `c`. -/
abbrev aD (r : Fin 4096) (k : Fin 1024) : EReal := (m ((c : Thread nD τ).loc main_arg0) : FVec Ideal S4096x1024 .bf16) (ix2 r k)
abbrev aW (k q : Fin 1024) : EReal := (m ((c : Thread nD τ).loc main_arg1) : FVec Ideal S1024x1024 .bf16) (ix2 k q)

theorem idx0 : ∀ t : Fin cfg0.N, (t : ℕ) < 4 ∧ win0_0.index t = ![t.val, 0] ∧ win0_1.index t = ![0, 0]
    ∧ win0_2.index t = ![t.val, 0] := by decide +kernel

/-- A point's tile of rows. -/
def ti (t : Fin cfg0.N) : Fin 4 := ⟨t.val, by have := (idx0 t).1; omega⟩
abbrev row (i : Fin 4) (r : Fin 1024) : Fin 4096 := at_ rfl i r

theorem blk_d (r k : Fin 1024) : iblk m c 0 t (ix2 r k) = aD m c (row (ti t) r) k := by
  refine Eq.trans ?_ (congrFun (V_main_arg0 m c) (ix2 (row (ti t) r) k))
  obtain ⟨_, e, _⟩ := idx0 t
  blk_ext [iblk, V, e] <;> simp [ti] <;> rfl

theorem blk_w (k q : Fin 1024) : iblk m c 1 t (ix2 k q) = aW m c k q := by
  refine Eq.trans ?_ (congrFun (V_main_arg1 m c) (ix2 k q))
  obtain ⟨_, _, e, _⟩ := idx0 t
  blk_ext [iblk, V, e] <;> simp

/-- The gradient. -/
def out (r : Fin 4096) (q : Fin 1024) : EReal := ∑ k, aD m c r k * aW m c q k

theorem out_at (r q : Fin 1024) : outsAt0 m c t (ix2 r q) = out m c (row (ti t) r) q := by
  rw [outs, pay_at]
  simp only [blk_d, blk_w]
  rfl

theorem arr_out : (dats m 0 c).arrAt 2 cfg0.N = arr (out m c) := by
  refine (dats m 0 c).arrAt_eq_of_covers 2 _ (by decide +kernel) fun t _ y => ?_
  blk_simp
  rw [after0_2]
  obtain ⟨_, _, _, e⟩ := idx0 t
  have key := out_at m c t (y 0) (y 1)
  rw [← eq_ix2 (n0 := 1024) (n1 := 1024) y] at key
  refine key.trans ((arr_at (out m c) (row (ti t) (y 0)) (y 1)).symm.trans (congrArg (arr (out m c)) ?_))
  blk_ext [e] <;> simp [ti] <;> rfl

/-- What the kernel's program leaves in its result. -/
theorem kernel_run (g : Dev nD → PrngReg) : θ_run defs (onTc (τ := τ) (main (F := Ideal))) ⟨m, fun _ => 0, g⟩ fun r =>
    ∀ c : Dev nD, r.2.mem ((c.tc : Thread nD τ).loc main_v0) = arr (out m c) :=
  (θ_run defs _ _).mono (fun _ h c => (h.out_eq c 2).trans (arr_out m c)) (run_main m g)

end Kern

section Ref
open Cert.Reference17Ideal Cert.Reference17Ideal.Read
variable (x0 : FVec Ideal S4096x1024 .bf16) (x1 : FVec Ideal S1024x1024 .bf16)

theorem ref_at (r : Fin 4096) (q : Fin 1024) : val_main_v4 (F := Ideal) x0 x1 (ix2 r q)
    = ∑ k : Fin 1024, x0 (ix2 r k) * x1 (ix2 q k) := by
  rw [val_main_v4_apply]
  refine Finset.sum_congr rfl fun k _ => ?_
  rw [show lidx_main_v4 (ix2 r q) k = ix2 r k from eq_ix2 _, show ridx_main_v4 (ix2 r q) k = ix2 q k from eq_ix2 _]
  rfl

theorem reference_run (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem ((c.tc : Thread nD τ).loc main_v4)
      = val_main_v4 (F := Ideal) (m (c.tc.loc main_arg0)) (m (c.tc.loc main_arg1))
    ∧ r.2.mem (c.tc.loc main_arg0) = m (c.tc.loc main_arg0) ∧ r.2.mem (c.tc.loc main_arg1) = m (c.tc.loc main_arg1) :=
  (θ_run defs _ _).mono (fun _ h c => ⟨(h c).1.trans (val_main_v4_eq _ _), (h c).2⟩) (Cert.Reference17Ideal.Value.run m g)

end Ref

/-- The two results are one array. -/
theorem algebraic : @Cert.algebraic_Kernel17Ideal_Reference17Ideal Cert.Kernel17Ideal.Gen.facts Cert.Reference17Ideal.Gen.facts := by
  pair_intro
  · run_from (kernel_run m g) & (Cert.Kernel17Ideal.Gen.unchanged m g)
  · run_from (reference_run m' g')
    exact eq_arr (ref_at _ _)

end Cert.Proj.GateBack

end
-- ==== Proof.Proj.Emb.lean ====
/- The projection of the per-layer embedding: the kernel's product, block by block, is the reference's. -/
module

public import proofs.«01_k».proof.Defs
public import proofs.«01_k».proof.Proof.Proj.Spec
public import proofs.«01_k».proof.Proof.Gen.Kernel18Ideal.Value
public import proofs.«01_k».proof.Proof.Gen.Reference18Ideal.Run
public import proofs.«01_k».proof.Proof.Gen.Reference18Ideal.Read
public import Idealize.ShloMosaic.Lib.Pipeline.ReadBack
public import Idealize.ShloMosaic.Lib.Claim

@[expose] public section

set_option maxRecDepth 16384

noncomputable section

namespace Cert.Proj.Emb

open Idealize.ShloMosaic Idealize.ShloMosaic.TcCoe Idealize.SL.Sem

section Kern
open Cert.Kernel18Ideal Cert.Kernel18Ideal.Gen
variable (m : (ℓ : Loc nD τ sig) → Buf (Elt Ideal) ℓ) (c : Dev nD) (t : Fin cfg0.N)

theorem pay_at (u : Vec Ideal S1024x256 .f32) (v : Vec Ideal S256x1024 .bf16) (a b : Fin 1024) :
    k0_pay2 (k0_pay1 (F := Ideal)) u v (ix2 a b) = ∑ k : Fin 256, u (ix2 a k) * v (ix2 k b) := by
  pointwise [k0_pay2, k0_pay1]

theorem outs : outsAt0 m c t = k0_pay2 (k0_pay1 (F := Ideal)) (iblk m c 0 t) (iblk m c 1 t) := by
  unfold outsAt0
  frame_out

/-- The arguments on core `c`. -/
abbrev aH (r : Fin 4096) (k : Fin 256) : EReal := (m ((c : Thread nD τ).loc main_arg0) : FVec Ideal S4096x256 .f32) (ix2 r k)
abbrev aW (k : Fin 256) (q : Fin 1024) : EReal := (m ((c : Thread nD τ).loc main_arg1) : FVec Ideal S256x1024 .bf16) (ix2 k q)

theorem idx0 : ∀ t : Fin cfg0.N, (t : ℕ) < 4 ∧ win0_0.index t = ![t.val, 0] ∧ win0_1.index t = ![0, 0]
    ∧ win0_2.index t = ![t.val, 0] := by decide +kernel

/-- A point's tile of rows. -/
def ti (t : Fin cfg0.N) : Fin 4 := ⟨t.val, by have := (idx0 t).1; omega⟩
abbrev row (i : Fin 4) (r : Fin 1024) : Fin 4096 := at_ rfl i r

theorem blk_h (r : Fin 1024) (k : Fin 256) : iblk m c 0 t (ix2 r k) = aH m c (row (ti t) r) k := by
  refine Eq.trans ?_ (congrFun (V_main_arg0 m c) (ix2 (row (ti t) r) k))
  obtain ⟨_, e, _⟩ := idx0 t
  blk_ext [iblk, V, e] <;> simp [ti] <;> rfl

theorem blk_w (k : Fin 256) (q : Fin 1024) : iblk m c 1 t (ix2 k q) = aW m c k q := by
  refine Eq.trans ?_ (congrFun (V_main_arg1 m c) (ix2 k q))
  obtain ⟨_, _, e, _⟩ := idx0 t
  blk_ext [iblk, V, e] <;> simp

/-- The product. -/
def out (r : Fin 4096) (q : Fin 1024) : EReal := ∑ k, aH m c r k * aW m c k q

theorem out_at (r q : Fin 1024) : outsAt0 m c t (ix2 r q) = out m c (row (ti t) r) q := by
  rw [outs, pay_at]
  simp only [blk_h, blk_w]
  rfl

theorem arr_out : (dats m 0 c).arrAt 2 cfg0.N = arr (out m c) := by
  refine (dats m 0 c).arrAt_eq_of_covers 2 _ (by decide +kernel) fun t _ y => ?_
  blk_simp
  rw [after0_2]
  obtain ⟨_, _, _, e⟩ := idx0 t
  have key := out_at m c t (y 0) (y 1)
  rw [← eq_ix2 (n0 := 1024) (n1 := 1024) y] at key
  refine key.trans ((arr_at (out m c) (row (ti t) (y 0)) (y 1)).symm.trans (congrArg (arr (out m c)) ?_))
  blk_ext [e] <;> simp [ti] <;> rfl

/-- What the kernel's program leaves in its result. -/
theorem kernel_run (g : Dev nD → PrngReg) : θ_run defs (onTc (τ := τ) (main (F := Ideal))) ⟨m, fun _ => 0, g⟩ fun r =>
    ∀ c : Dev nD, r.2.mem ((c.tc : Thread nD τ).loc main_v0) = arr (out m c) :=
  (θ_run defs _ _).mono (fun _ h c => (h.out_eq c 2).trans (arr_out m c)) (run_main m g)

end Kern

section Ref
open Cert.Reference18Ideal Cert.Reference18Ideal.Read
variable (x0 : FVec Ideal S4096x256 .f32) (x1 : FVec Ideal S256x1024 .bf16)

theorem ref_at (r : Fin 4096) (q : Fin 1024) : val_main_v1 (F := Ideal) x0 x1 (ix2 r q)
    = ∑ k : Fin 256, x0 (ix2 r k) * x1 (ix2 k q) := by
  rw [val_main_v1_apply]
  refine Finset.sum_congr rfl fun k _ => ?_
  rw [show lidx_main_v1 (ix2 r q) k = ix2 r k from eq_ix2 _, show ridx_main_v1 (ix2 r q) k = ix2 k q from eq_ix2 _]
  rfl

theorem reference_run (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem ((c.tc : Thread nD τ).loc main_v1)
      = val_main_v1 (F := Ideal) (m (c.tc.loc main_arg0)) (m (c.tc.loc main_arg1))
    ∧ r.2.mem (c.tc.loc main_arg0) = m (c.tc.loc main_arg0) ∧ r.2.mem (c.tc.loc main_arg1) = m (c.tc.loc main_arg1) :=
  (θ_run defs _ _).mono (fun _ h c => ⟨(h c).1.trans (val_main_v1_eq _ _), (h c).2⟩) (Cert.Reference18Ideal.Value.run m g)

end Ref

/-- The two results are one array. -/
theorem algebraic : @Cert.algebraic_Kernel18Ideal_Reference18Ideal Cert.Kernel18Ideal.Gen.facts Cert.Reference18Ideal.Gen.facts := by
  pair_intro
  · run_from (kernel_run m g) & (Cert.Kernel18Ideal.Gen.unchanged m g)
  · run_from (reference_run m' g')
    exact eq_arr (ref_at _ _)

end Cert.Proj.Emb

end
-- ==== Proof.Proj.EmbW.lean ====
/- The gradient of the projection of the per-layer embedding's weight: the kernel's product of the transposed rows with the gradient,
   accumulated over four tiles of rows, is the reference's. -/
module

public import proofs.«01_k».proof.Defs
public import proofs.«01_k».proof.Proof.Proj.Spec
public import proofs.«01_k».proof.Proof.Gen.Kernel19Ideal.Value
public import proofs.«01_k».proof.Proof.Gen.Reference19Ideal.Run
public import proofs.«01_k».proof.Proof.Gen.Reference19Ideal.Read
public import Idealize.ShloMosaic.Lib.Pipeline.ReadBack
public import Idealize.ShloMosaic.Lib.Claim

@[expose] public section

set_option maxRecDepth 16384

noncomputable section

namespace Cert.Proj.EmbW

open Idealize.ShloMosaic Idealize.ShloMosaic.TcCoe Idealize.SL.Sem

section Kern
open Cert.Kernel19Ideal Cert.Kernel19Ideal.Gen
variable (m : (ℓ : Loc nD τ sig) → Buf (Elt Ideal) ℓ) (c : Dev nD) (t : Fin cfg0.N)

theorem pay1_at (a : Fin 256) (b : Fin 1024) : k0_pay1 (F := Ideal) (ix2 a b) = 0 := by
  pointwise [k0_pay1]
theorem pay2_at (s : Vec Ideal S256x1024 .f32) (u : Vec Ideal S1024x256 .f32) (v : Vec Ideal S1024x1024 .bf16)
    (a : Fin 256) (b : Fin 1024) : k0_pay2 s u v (ix2 a b) = s (ix2 a b) + ∑ r : Fin 1024, u (ix2 r a) * v (ix2 r b) := by
  pointwise [k0_pay2]
theorem pay3_at (s : Vec Ideal S256x1024 .f32) (a : Fin 256) (b : Fin 1024) : k0_pay3 s (ix2 a b) = s (ix2 a b) := by
  pointwise [k0_pay3]

/-- What the point before left in scratch. -/
abbrev prev := (outsAt0 m c (t.val - 1) (Nat.lt_of_le_of_lt (Nat.sub_le _ _) t.isLt)).2

theorem outs_first (h : t.val % 4 = 0) : (outsAt0 m c t.val t.isLt).2
    = k0_pay2 (k0_pay1 (F := Ideal)) (iblk m c 0 t) (iblk m c 1 t) := by
  rw [outsAt0_A m c t h (by omega)]
  frame_out

theorem outs_last (h : t.val % 4 = 3) : outsAt0 m c t.val t.isLt
    = (k0_pay3 (k0_pay2 (prev m c t) (iblk m c 0 t) (iblk m c 1 t)),
        k0_pay2 (prev m c t) (iblk m c 0 t) (iblk m c 1 t)) := by
  rw [outsAt0_C m c t (by omega) h]
  frame_out
  simp only [read_unread_whole]

theorem outs_later (h : ¬t.val % 4 = 0) : (outsAt0 m c t.val t.isLt).2
    = k0_pay2 (prev m c t) (iblk m c 0 t) (iblk m c 1 t) := by
  by_cases h1 : t.val % 4 = 3
  · rw [outs_last m c t h1]
  · rw [outsAt0_B m c t h h1]
    frame_out
    simp only [read_unread_whole]

/-- The arguments on core `c`. -/
abbrev aH (r : Fin 4096) (d : Fin 256) : EReal := (m ((c : Thread nD τ).loc main_arg0) : FVec Ideal S4096x256 .f32) (ix2 r d)
abbrev aD (r : Fin 4096) (q : Fin 1024) : EReal := (m ((c : Thread nD τ).loc main_arg1) : FVec Ideal S4096x1024 .bf16) (ix2 r q)

theorem idx0 : ∀ t : Fin cfg0.N, (t : ℕ) < 4 ∧ win0_0.index t = ![t.val % 4, 0] ∧ win0_1.index t = ![t.val % 4, 0]
    ∧ win0_2.index t = ![0, 0] := by decide +kernel

/-- A point's tile of rows. -/
def ti (t : Fin cfg0.N) : Fin 4 := ⟨t.val % 4, by omega⟩
abbrev row (i : Fin 4) (r : Fin 1024) : Fin 4096 := at_ rfl i r

theorem blk_h (r : Fin 1024) (d : Fin 256) : iblk m c 0 t (ix2 r d) = aH m c (row (ti t) r) d := by
  refine Eq.trans ?_ (congrFun (V_main_arg0 m c) (ix2 (row (ti t) r) d))
  obtain ⟨_, e, _⟩ := idx0 t
  blk_ext [iblk, V, e] <;> simp [ti, at_val]

theorem blk_d (r : Fin 1024) (q : Fin 1024) : iblk m c 1 t (ix2 r q) = aD m c (row (ti t) r) q := by
  refine Eq.trans ?_ (congrFun (V_main_arg1 m c) (ix2 (row (ti t) r) q))
  obtain ⟨_, _, e, _⟩ := idx0 t
  blk_ext [iblk, V, e] <;> simp [ti, at_val]

/-- The terms of an element, and the point's share of their sum. -/
def term (d : Fin 256) (q : Fin 1024) (t : Fin cfg0.N) (r : Fin 4096) : EReal := aH m c r d * aD m c r q
def part (d : Fin 256) (q : Fin 1024) (t : Fin cfg0.N) : EReal := ∑ r : Fin 1024, term m c d q t (row (ti t) r)

theorem step_at (s : Vec Ideal S256x1024 .f32) (d : Fin 256) (q : Fin 1024) :
    k0_pay2 s (iblk m c 0 t) (iblk m c 1 t) (ix2 d q) = s (ix2 d q) + part m c d q t := by
  rw [pay2_at]
  simp only [blk_h, blk_d]
  rfl

theorem acc_last (h : t.val % 4 = 3) (d : Fin 256) (q : Fin 1024) :
    (outsAt0 m c t.val t.isLt).2 (ix2 d q) = ∑ r, term m c d q t r :=
  acc_sum (J := 4) (b := 1024) rfl (fun k hk => (outsAt0 m c k hk).2 (ix2 d q)) (term m c d q) (part m c d q) (fun _ => rfl)
    (fun t h => by rw [outs_first m c t h, step_at, pay1_at])
    (fun t h => by rw [outs_later m c t h, step_at])
    (fun _ _ _ => by rfl) t h

/-- The gradient. -/
def out (d : Fin 256) (q : Fin 1024) : EReal := ∑ r, aH m c r d * aD m c r q

theorem out_at (h : t.val % 4 = 3) (d : Fin 256) (q : Fin 1024) :
    (outsAt0 m c t.val t.isLt).1 (ix2 d q) = out m c d q := by
  have e : (outsAt0 m c t.val t.isLt).1 = k0_pay3 (outsAt0 m c t.val t.isLt).2 := by
    rw [outs_last m c t h]
  rw [e, pay3_at, acc_last m c t h d q]
  rfl

theorem arr_out : (dats m 0 c).arrAt 2 cfg0.N = arr (out m c) := by
  refine (dats m 0 c).arrAt_eq_of_covers 2 _ (by decide +kernel) fun t hf y => ?_
  have h : t.val % 4 = 3 := (flush0_2 t).mp hf
  blk_simp
  rw [after0_2]
  obtain ⟨_, _, _, e⟩ := idx0 t
  have key := out_at m c t h (y 0) (y 1)
  rw [← eq_ix2 (n0 := 256) (n1 := 1024) y] at key
  refine key.trans ((arr_at (out m c) (y 0) (y 1)).symm.trans (congrArg (arr (out m c)) ?_))
  blk_ext [e] <;> simp

/-- What the kernel's program leaves in its result. -/
theorem kernel_run (g : Dev nD → PrngReg) : θ_run defs (onTc (τ := τ) (main (F := Ideal))) ⟨m, fun _ => 0, g⟩ fun r =>
    ∀ c : Dev nD, r.2.mem ((c.tc : Thread nD τ).loc main_v0) = arr (out m c) :=
  (θ_run defs _ _).mono (fun _ h c => (h.out_eq c 2).trans (arr_out m c)) (run_main m g)

end Kern

section Ref
open Cert.Reference19Ideal Cert.Reference19Ideal.Read
variable (x0 : FVec Ideal S4096x256 .f32) (x1 : FVec Ideal S4096x1024 .bf16)

theorem ref_at (d : Fin 256) (q : Fin 1024) : val_main_v5 (F := Ideal) x0 x1 (ix2 d q)
    = ∑ r : Fin 4096, x0 (ix2 r d) * x1 (ix2 r q) := by
  rw [val_main_v5_apply, val_main_v4_apply, show idx_main_v4 (ix2 d q) = ix2 q d from eq_ix2 _]
  refine (val_main_v3_apply x0 x1 _).trans (Finset.sum_congr rfl fun r _ => ?_)
  rw [show lidx_main_v3 (ix2 q d) r = ix2 r q from eq_ix2 _, show ridx_main_v3 (ix2 q d) r = ix2 r d from eq_ix2 _]
  exact mul_comm _ _

theorem reference_run (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem ((c.tc : Thread nD τ).loc main_v5)
      = val_main_v5 (F := Ideal) (m (c.tc.loc main_arg0)) (m (c.tc.loc main_arg1))
    ∧ r.2.mem (c.tc.loc main_arg0) = m (c.tc.loc main_arg0) ∧ r.2.mem (c.tc.loc main_arg1) = m (c.tc.loc main_arg1) :=
  (θ_run defs _ _).mono (fun _ h c => ⟨(h c).1.trans (val_main_v5_eq _ _), (h c).2⟩) (Cert.Reference19Ideal.Value.run m g)

end Ref

/-- The two results are one array. -/
theorem algebraic : @Cert.algebraic_Kernel19Ideal_Reference19Ideal Cert.Kernel19Ideal.Gen.facts Cert.Reference19Ideal.Gen.facts := by
  pair_intro
  · run_from (kernel_run m g) & (Cert.Kernel19Ideal.Gen.unchanged m g)
  · run_from (reference_run m' g')
    exact eq_arr (ref_at _ _)

end Cert.Proj.EmbW

end
-- ==== Proof.Proj.Forget.lean ====
/- The odd layers' forget gates: the kernel's product, block by block, is the reference's. -/
module

public import proofs.«01_k».proof.Defs
public import proofs.«01_k».proof.Proof.Proj.Spec
public import proofs.«01_k».proof.Proof.Gen.Kernel20Ideal.Value
public import proofs.«01_k».proof.Proof.Gen.Reference20Ideal.Run
public import proofs.«01_k».proof.Proof.Gen.Reference20Ideal.Read
public import Idealize.ShloMosaic.Lib.Pipeline.ReadBack
public import Idealize.ShloMosaic.Lib.Claim

@[expose] public section

set_option maxRecDepth 16384

noncomputable section

namespace Cert.Proj.Forget

open Idealize.ShloMosaic Idealize.ShloMosaic.TcCoe Idealize.SL.Sem

section Kern
open Cert.Kernel20Ideal Cert.Kernel20Ideal.Gen
variable (m : (ℓ : Loc nD τ sig) → Buf (Elt Ideal) ℓ) (c : Dev nD) (t : Fin cfg0.N)

theorem pay_at (u : Vec Ideal S1024x1024 .bf16) (v : Vec Ideal S1024x128 .bf16) (a : Fin 1024) (b : Fin 128) :
    k0_pay2 (k0_pay1 (F := Ideal)) u v (ix2 a b) = ∑ k : Fin 1024, u (ix2 a k) * v (ix2 k b) := by
  pointwise [k0_pay2, k0_pay1]

theorem outs : outsAt0 m c t = k0_pay2 (k0_pay1 (F := Ideal)) (iblk m c 0 t) (iblk m c 1 t) := by
  unfold outsAt0
  frame_out

/-- The arguments on core `c`. -/
abbrev aH (r : Fin 4096) (k : Fin 1024) : EReal := (m ((c : Thread nD τ).loc main_arg0) : FVec Ideal S4096x1024 .bf16) (ix2 r k)
abbrev aW (k : Fin 1024) (q : Fin 128) : EReal := (m ((c : Thread nD τ).loc main_arg1) : FVec Ideal S1024x128 .bf16) (ix2 k q)

theorem idx0 : ∀ t : Fin cfg0.N, (t : ℕ) < 4 ∧ win0_0.index t = ![t.val, 0] ∧ win0_1.index t = ![0, 0]
    ∧ win0_2.index t = ![t.val, 0] := by decide +kernel

/-- A point's tile of rows. -/
def ti (t : Fin cfg0.N) : Fin 4 := ⟨t.val, by have := (idx0 t).1; omega⟩
abbrev row (i : Fin 4) (r : Fin 1024) : Fin 4096 := at_ rfl i r

theorem blk_h (r k : Fin 1024) : iblk m c 0 t (ix2 r k) = aH m c (row (ti t) r) k := by
  refine Eq.trans ?_ (congrFun (V_main_arg0 m c) (ix2 (row (ti t) r) k))
  obtain ⟨_, e, _⟩ := idx0 t
  blk_ext [iblk, V, e] <;> simp [ti] <;> rfl

theorem blk_w (k : Fin 1024) (q : Fin 128) : iblk m c 1 t (ix2 k q) = aW m c k q := by
  refine Eq.trans ?_ (congrFun (V_main_arg1 m c) (ix2 k q))
  obtain ⟨_, _, e, _⟩ := idx0 t
  blk_ext [iblk, V, e] <;> simp

/-- The product. -/
def out (r : Fin 4096) (q : Fin 128) : EReal := ∑ k, aH m c r k * aW m c k q

theorem out_at (r : Fin 1024) (q : Fin 128) : outsAt0 m c t (ix2 r q) = out m c (row (ti t) r) q := by
  rw [outs, pay_at]
  simp only [blk_h, blk_w]
  rfl

theorem arr_out : (dats m 0 c).arrAt 2 cfg0.N = arr (out m c) := by
  refine (dats m 0 c).arrAt_eq_of_covers 2 _ (by decide +kernel) fun t _ y => ?_
  blk_simp
  rw [after0_2]
  obtain ⟨_, _, _, e⟩ := idx0 t
  have key := out_at m c t (y 0) (y 1)
  rw [← eq_ix2 (n0 := 1024) (n1 := 128) y] at key
  refine key.trans ((arr_at (out m c) (row (ti t) (y 0)) (y 1)).symm.trans (congrArg (arr (out m c)) ?_))
  blk_ext [e] <;> simp [ti] <;> rfl

/-- What the kernel's program leaves in its result. -/
theorem kernel_run (g : Dev nD → PrngReg) : θ_run defs (onTc (τ := τ) (main (F := Ideal))) ⟨m, fun _ => 0, g⟩ fun r =>
    ∀ c : Dev nD, r.2.mem ((c.tc : Thread nD τ).loc main_v0) = arr (out m c) :=
  (θ_run defs _ _).mono (fun _ h c => (h.out_eq c 2).trans (arr_out m c)) (run_main m g)

end Kern

section Ref
open Cert.Reference20Ideal Cert.Reference20Ideal.Read
variable (x0 : FVec Ideal S4096x1024 .bf16) (x1 : FVec Ideal S1024x128 .bf16)

theorem ref_at (r : Fin 4096) (q : Fin 128) : val_main_v2 (F := Ideal) x0 x1 (ix2 r q)
    = ∑ k : Fin 1024, x0 (ix2 r k) * x1 (ix2 k q) := by
  rw [val_main_v2_apply]
  refine Finset.sum_congr rfl fun k _ => ?_
  rw [show lidx_main_v2 (ix2 r q) k = ix2 r k from eq_ix2 _, show ridx_main_v2 (ix2 r q) k = ix2 k q from eq_ix2 _]
  rfl

theorem reference_run (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem ((c.tc : Thread nD τ).loc main_v2)
      = val_main_v2 (F := Ideal) (m (c.tc.loc main_arg0)) (m (c.tc.loc main_arg1))
    ∧ r.2.mem (c.tc.loc main_arg0) = m (c.tc.loc main_arg0) ∧ r.2.mem (c.tc.loc main_arg1) = m (c.tc.loc main_arg1) :=
  (θ_run defs _ _).mono (fun _ h c => ⟨(h c).1.trans (val_main_v2_eq _ _), (h c).2⟩) (Cert.Reference20Ideal.Value.run m g)

end Ref

/-- The two results are one array. -/
theorem algebraic : @Cert.algebraic_Kernel20Ideal_Reference20Ideal Cert.Kernel20Ideal.Gen.facts Cert.Reference20Ideal.Gen.facts := by
  pair_intro
  · run_from (kernel_run m g) & (Cert.Kernel20Ideal.Gen.unchanged m g)
  · run_from (reference_run m' g')
    exact eq_arr (ref_at _ _)

end Cert.Proj.Forget

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Swa.Equal
public import proofs.«01_k».proof.Proof.Gen.Kernel2.Frame
public import proofs.«01_k».proof.Proof.Gen.Kernel2Ideal.Frame
public import proofs.«01_k».proof.Proof.Gen.Reference2Ideal.Run
public import proofs.«01_k».proof.Proof.Ffn.Equal
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Dw.DownEqual
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Dw.GateEqual
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import proofs.«01_k».proof.Proof.Fwd.Same
public import proofs.«01_k».proof.Proof.Fwd.Equal
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Proj.OddIn
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Proj.OddInW
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Proj.OddInBack
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Proj.EvenIn
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Proj.EvenInW
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Proj.EvenInBack
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Proj.Out
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Proj.OutBack
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Proj.OutW
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Proj.Gate
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Proj.GateW
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Proj.GateBack
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Proj.Emb
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Proj.EmbW
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Proj.Forget
public import Idealize.ShloMosaic.Lib.Quiescent

@[expose] public section

noncomputable section

namespace Cert.Proof

open Idealize.ShloMosaic Idealize.SL.Sem

/-- The reference ends, with its arguments unchanged. -/
theorem reference_frame : @Cert.quiescent_ReferenceIdeal Cert.ReferenceIdeal.Gen.facts := fun m ρ _ =>
  (θ_run Cert.ReferenceIdeal.defs _ _).mono (fun r h => ⟨fun c => (h c).2.2.2.2, sem_eq_zero_of_no_sems (by decide) r.2⟩)
    (Cert.ReferenceIdeal.Value.run m ρ)
theorem reference2_frame : @Cert.quiescent_Reference2Ideal Cert.Reference2Ideal.Gen.facts := fun m ρ _ =>
  (θ_run Cert.Reference2Ideal.defs _ _).mono (fun r h => ⟨fun c => (h c).2.2.2.2.2, sem_eq_zero_of_no_sems (by decide) r.2⟩)
    (Cert.Reference2Ideal.Value.run m ρ)

theorem reference3_frame : @Cert.quiescent_Reference3Ideal Cert.Reference3Ideal.Gen.facts := fun m ρ _ =>
  (θ_run Cert.Reference3Ideal.defs _ _).mono (fun r h => ⟨fun c => (h c).2, sem_eq_zero_of_no_sems (by decide) r.2⟩)
    (Cert.Reference3Ideal.Value.run m ρ)
theorem reference4_frame : @Cert.quiescent_Reference4Ideal Cert.Reference4Ideal.Gen.facts := fun m ρ _ =>
  (θ_run Cert.Reference4Ideal.defs _ _).mono (fun r h => ⟨fun c => (h c).2, sem_eq_zero_of_no_sems (by decide) r.2⟩)
    (Cert.Reference4Ideal.Value.run m ρ)
theorem reference5_frame : @Cert.quiescent_Reference5Ideal Cert.Reference5Ideal.Gen.facts := fun m ρ _ =>
  (θ_run Cert.Reference5Ideal.defs _ _).mono (fun r h => ⟨fun c => (h c).2.2, sem_eq_zero_of_no_sems (by decide) r.2⟩)
    (Cert.Reference5Ideal.Value.run m ρ)
theorem reference6_frame : @Cert.quiescent_Reference6Ideal Cert.Reference6Ideal.Gen.facts := fun m ρ _ =>
  (θ_run Cert.Reference6Ideal.defs _ _).mono (fun r h => ⟨fun c => (h c).2, sem_eq_zero_of_no_sems (by decide) r.2⟩)
    (Cert.Reference6Ideal.Value.run m ρ)
theorem reference7_frame : @Cert.quiescent_Reference7Ideal Cert.Reference7Ideal.Gen.facts := fun m ρ _ =>
  (θ_run Cert.Reference7Ideal.defs _ _).mono (fun r h => ⟨fun c => (h c).2, sem_eq_zero_of_no_sems (by decide) r.2⟩)
    (Cert.Reference7Ideal.Value.run m ρ)
theorem reference8_frame : @Cert.quiescent_Reference8Ideal Cert.Reference8Ideal.Gen.facts := fun m ρ _ =>
  (θ_run Cert.Reference8Ideal.defs _ _).mono (fun r h => ⟨fun c => (h c).2, sem_eq_zero_of_no_sems (by decide) r.2⟩)
    (Cert.Reference8Ideal.Value.run m ρ)
theorem reference9_frame : @Cert.quiescent_Reference9Ideal Cert.Reference9Ideal.Gen.facts := fun m ρ _ =>
  (θ_run Cert.Reference9Ideal.defs _ _).mono (fun r h => ⟨fun c => (h c).2, sem_eq_zero_of_no_sems (by decide) r.2⟩)
    (Cert.Reference9Ideal.Value.run m ρ)
theorem reference10_frame : @Cert.quiescent_Reference10Ideal Cert.Reference10Ideal.Gen.facts := fun m ρ _ =>
  (θ_run Cert.Reference10Ideal.defs _ _).mono (fun r h => ⟨fun c => (h c).2, sem_eq_zero_of_no_sems (by decide) r.2⟩)
    (Cert.Reference10Ideal.Value.run m ρ)
theorem reference11_frame : @Cert.quiescent_Reference11Ideal Cert.Reference11Ideal.Gen.facts := fun m ρ _ =>
  (θ_run Cert.Reference11Ideal.defs _ _).mono (fun r h => ⟨fun c => (h c).2, sem_eq_zero_of_no_sems (by decide) r.2⟩)
    (Cert.Reference11Ideal.Value.run m ρ)
theorem reference12_frame : @Cert.quiescent_Reference12Ideal Cert.Reference12Ideal.Gen.facts := fun m ρ _ =>
  (θ_run Cert.Reference12Ideal.defs _ _).mono (fun r h => ⟨fun c => (h c).2, sem_eq_zero_of_no_sems (by decide) r.2⟩)
    (Cert.Reference12Ideal.Value.run m ρ)
theorem reference13_frame : @Cert.quiescent_Reference13Ideal Cert.Reference13Ideal.Gen.facts := fun m ρ _ =>
  (θ_run Cert.Reference13Ideal.defs _ _).mono (fun r h => ⟨fun c => (h c).2, sem_eq_zero_of_no_sems (by decide) r.2⟩)
    (Cert.Reference13Ideal.Value.run m ρ)
theorem reference14_frame : @Cert.quiescent_Reference14Ideal Cert.Reference14Ideal.Gen.facts := fun m ρ _ =>
  (θ_run Cert.Reference14Ideal.defs _ _).mono (fun r h => ⟨fun c => (h c).2, sem_eq_zero_of_no_sems (by decide) r.2⟩)
    (Cert.Reference14Ideal.Value.run m ρ)
theorem reference15_frame : @Cert.quiescent_Reference15Ideal Cert.Reference15Ideal.Gen.facts := fun m ρ _ =>
  (θ_run Cert.Reference15Ideal.defs _ _).mono (fun r h => ⟨fun c => (h c).2, sem_eq_zero_of_no_sems (by decide) r.2⟩)
    (Cert.Reference15Ideal.Value.run m ρ)
theorem reference16_frame : @Cert.quiescent_Reference16Ideal Cert.Reference16Ideal.Gen.facts := fun m ρ _ =>
  (θ_run Cert.Reference16Ideal.defs _ _).mono (fun r h => ⟨fun c => (h c).2, sem_eq_zero_of_no_sems (by decide) r.2⟩)
    (Cert.Reference16Ideal.Value.run m ρ)
theorem reference17_frame : @Cert.quiescent_Reference17Ideal Cert.Reference17Ideal.Gen.facts := fun m ρ _ =>
  (θ_run Cert.Reference17Ideal.defs _ _).mono (fun r h => ⟨fun c => (h c).2, sem_eq_zero_of_no_sems (by decide) r.2⟩)
    (Cert.Reference17Ideal.Value.run m ρ)
theorem reference18_frame : @Cert.quiescent_Reference18Ideal Cert.Reference18Ideal.Gen.facts := fun m ρ _ =>
  (θ_run Cert.Reference18Ideal.defs _ _).mono (fun r h => ⟨fun c => (h c).2, sem_eq_zero_of_no_sems (by decide) r.2⟩)
    (Cert.Reference18Ideal.Value.run m ρ)
theorem reference19_frame : @Cert.quiescent_Reference19Ideal Cert.Reference19Ideal.Gen.facts := fun m ρ _ =>
  (θ_run Cert.Reference19Ideal.defs _ _).mono (fun r h => ⟨fun c => (h c).2, sem_eq_zero_of_no_sems (by decide) r.2⟩)
    (Cert.Reference19Ideal.Value.run m ρ)
theorem reference20_frame : @Cert.quiescent_Reference20Ideal Cert.Reference20Ideal.Gen.facts := fun m ρ _ =>
  (θ_run Cert.Reference20Ideal.defs _ _).mono (fun r h => ⟨fun c => (h c).2, sem_eq_zero_of_no_sems (by decide) r.2⟩)
    (Cert.Reference20Ideal.Value.run m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Ffn.preFacts,
    fun m ρ _ => Cert.Kernel.Gen.frame m ρ, fun m ρ _ => Cert.KernelIdeal.Gen.frame m ρ, reference_frame,
    fun m ρ _ => Cert.Kernel2.Gen.frame m ρ, fun m ρ _ => Cert.Kernel2Ideal.Gen.frame m ρ,
    fun m ρ _ => Cert.Kernel2Ideal.Gen.frame m ρ, reference2_frame, fun m ρ _ => reference2_frame m ρ _root_.trivial,
    fun m ρ _ => Cert.Kernel3.Gen.frame m ρ, fun m ρ _ => Cert.Kernel3Ideal.Gen.frame m ρ, reference3_frame,
    fun m ρ _ => Cert.Kernel4.Gen.frame m ρ, fun m ρ _ => Cert.Kernel4Ideal.Gen.frame m ρ, reference4_frame,
    Cert.FfnFwd.frame_kernel, fun m ρ _ => Cert.FfnFwd.frame m ρ, reference5_frame,
    fun m ρ _ => Cert.Kernel6.Gen.frame m ρ, fun m ρ _ => Cert.Kernel6Ideal.Gen.frame m ρ, reference6_frame,
    fun m ρ _ => Cert.Kernel7.Gen.frame m ρ, fun m ρ _ => Cert.Kernel7Ideal.Gen.frame m ρ, reference7_frame,
    fun m ρ _ => Cert.Kernel8.Gen.frame m ρ, fun m ρ _ => Cert.Kernel8Ideal.Gen.frame m ρ, reference8_frame,
    fun m ρ _ => Cert.Kernel9.Gen.frame m ρ, fun m ρ _ => Cert.Kernel9Ideal.Gen.frame m ρ, reference9_frame,
    fun m ρ _ => Cert.Kernel10.Gen.frame m ρ, fun m ρ _ => Cert.Kernel10Ideal.Gen.frame m ρ, reference10_frame,
    fun m ρ _ => Cert.Kernel11.Gen.frame m ρ, fun m ρ _ => Cert.Kernel11Ideal.Gen.frame m ρ, reference11_frame,
    fun m ρ _ => Cert.Kernel12.Gen.frame m ρ, fun m ρ _ => Cert.Kernel12Ideal.Gen.frame m ρ, reference12_frame,
    fun m ρ _ => Cert.Kernel13.Gen.frame m ρ, fun m ρ _ => Cert.Kernel13Ideal.Gen.frame m ρ, reference13_frame,
    fun m ρ _ => Cert.Kernel14.Gen.frame m ρ, fun m ρ _ => Cert.Kernel14Ideal.Gen.frame m ρ, reference14_frame,
    fun m ρ _ => Cert.Kernel15.Gen.frame m ρ, fun m ρ _ => Cert.Kernel15Ideal.Gen.frame m ρ, reference15_frame,
    fun m ρ _ => Cert.Kernel16.Gen.frame m ρ, fun m ρ _ => Cert.Kernel16Ideal.Gen.frame m ρ, reference16_frame,
    fun m ρ _ => Cert.Kernel17.Gen.frame m ρ, fun m ρ _ => Cert.Kernel17Ideal.Gen.frame m ρ, reference17_frame,
    fun m ρ _ => Cert.Kernel18.Gen.frame m ρ, fun m ρ _ => Cert.Kernel18Ideal.Gen.frame m ρ, reference18_frame,
    fun m ρ _ => Cert.Kernel19.Gen.frame m ρ, fun m ρ _ => Cert.Kernel19Ideal.Gen.frame m ρ, reference19_frame,
    fun m ρ _ => Cert.Kernel20.Gen.frame m ρ, fun m ρ _ => Cert.Kernel20Ideal.Gen.frame m ρ, reference20_frame,
    trivial, Cert.Swa.algebraic, trivial, Cert.Ffn.algebraic, trivial, Cert.Dw.Down.algebraic, trivial, Cert.Dw.Gate.algebraic,
    trivial, Cert.FfnFwd.algebraic,
    trivial, Cert.Proj.OddIn.algebraic, trivial, Cert.Proj.OddInW.algebraic, trivial, Cert.Proj.OddInBack.algebraic,
    trivial, Cert.Proj.EvenIn.algebraic, trivial, Cert.Proj.EvenInW.algebraic, trivial, Cert.Proj.EvenInBack.algebraic,
    trivial, Cert.Proj.Out.algebraic, trivial, Cert.Proj.OutBack.algebraic, trivial, Cert.Proj.OutW.algebraic,
    trivial, Cert.Proj.Gate.algebraic, trivial, Cert.Proj.GateW.algebraic, trivial, Cert.Proj.GateBack.algebraic,
    trivial, Cert.Proj.Emb.algebraic, trivial, Cert.Proj.EmbW.algebraic, trivial, Cert.Proj.Forget.algebraic⟩

end Cert.Proof

end
